-- ==== Defs.lean ====
def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite [hPre_finite : Cert.Pre_finite.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4))) = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_finite_v [hPre_finite_v : Cert.Pre_finite_v.Facts] (m : (ℓ : Loc Cert.StatsIdeal.nD Cert.StatsIdeal.τ Cert.StatsIdeal.sig) → Buf (Elt Ideal) ℓ) : Prop :=
  ∀ c : Dev Cert.StatsIdeal.nD,
    (Cert.Pre_finite_v.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1))) = (fun _ => 1#1)

def Pre_StatsRefIdeal (m : (ℓ : Loc Cert.StatsRefIdeal.nD Cert.StatsRefIdeal.τ Cert.StatsRefIdeal.sig) → Buf (Elt Ideal) ℓ) : Prop :=
  True

def Pre_StatsRefIdeal_finite_v [hPre_finite_v : Cert.Pre_finite_v.Facts] (m : (ℓ : Loc Cert.StatsRefIdeal.nD Cert.StatsRefIdeal.τ Cert.StatsRefIdeal.sig) → Buf (Elt Ideal) ℓ) : Prop :=
  ∀ c : Dev Cert.StatsRefIdeal.nD,
    (Cert.Pre_finite_v.fn (F := Ideal) (m ((c.tc : Thread Cert.StatsRefIdeal.nD Cert.StatsRefIdeal.τ).loc Cert.StatsRefIdeal.main_arg0)) (m ((c.tc : Thread Cert.StatsRefIdeal.nD Cert.StatsRefIdeal.τ).loc Cert.StatsRefIdeal.main_arg1))) = (fun _ => 1#1)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_AttendRefIdeal_pre_finite [hAttendRefIdeal : Cert.AttendRefIdeal.Facts] [hPre_finite : Cert.Pre_finite.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1))
      ∧ r.2.sem = fun _ => 0)

def quiescent_StatsIdeal_pre_finite_v [hStatsIdeal : Cert.StatsIdeal.Facts] [hPre_finite_v : Cert.Pre_finite_v.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_finite_v m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1))
      ∧ r.2.sem = fun _ => 0)

def quiescent_StatsRefIdeal [hStatsRefIdeal : Cert.StatsRefIdeal.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1))
      ∧ r.2.sem = fun _ => 0)

def quiescent_StatsRefIdeal_pre_finite_v [hStatsRefIdeal : Cert.StatsRefIdeal.Facts] [hPre_finite_v : Cert.Pre_finite_v.Facts] : Prop :=
  ∀ (m : (ℓ : Loc Cert.StatsRefIdeal.nD Cert.StatsRefIdeal.τ Cert.StatsRefIdeal.sig) → Buf (Elt Ideal) ℓ) (g : Dev Cert.StatsRefIdeal.nD → PrngReg), Pre_StatsRefIdeal_finite_v m →
    θ_run (Cert.StatsRefIdeal.defs (F := Ideal)) (onTc (τ := Cert.StatsRefIdeal.τ) (Cert.StatsRefIdeal.main (F := Ideal))) ⟨m, fun _ => 0, g⟩ (fun r => (∀ c : Dev Cert.StatsRefIdeal.nD,
      r.2.mem ((c.tc : Thread Cert.StatsRefIdeal.nD Cert.StatsRefIdeal.τ).loc Cert.StatsRefIdeal.main_arg0) = m ((c.tc : Thread Cert.StatsRefIdeal.nD Cert.StatsRefIdeal.τ).loc Cert.StatsRefIdeal.main_arg0)
      ∧ r.2.mem ((c.tc : Thread Cert.StatsRefIdeal.nD Cert.StatsRefIdeal.τ).loc Cert.StatsRefIdeal.main_arg1) = m ((c.tc : Thread Cert.StatsRefIdeal.nD Cert.StatsRefIdeal.τ).loc Cert.StatsRefIdeal.main_arg1))
      ∧ r.2.sem = fun _ => 0)

def preserves_Attend_AttendIdeal : Prop :=
  IdealRules.named_const.Statement Cert.AttendIdeal.κ "score_scale" .f32 0x3E0293EE#32 (((Real.sqrt 128)⁻¹ * (Real.log 2)⁻¹ : ℝ) : EReal)

def algebraic_AttendIdeal_AttendRefIdeal_pre_finite [hAttendIdeal : Cert.AttendIdeal.Facts] [hAttendRefIdeal : Cert.AttendRefIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)
      ∧ m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3)
      ∧ m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)) →
    ∃ (v0 : (c : Dev Cert.AttendIdeal.nD) → Buf (Elt Ideal) ((c.tc : Thread Cert.AttendIdeal.nD Cert.AttendIdeal.τ).loc Cert.AttendIdeal.main_v0_0)) (v1 : (c : Dev Cert.AttendIdeal.nD) → Buf (Elt Ideal) ((c.tc : Thread Cert.AttendIdeal.nD Cert.AttendIdeal.τ).loc Cert.AttendIdeal.main_v0_1)) (v2 : (c : Dev Cert.AttendIdeal.nD) → Buf (Elt Ideal) ((c.tc : Thread Cert.AttendIdeal.nD Cert.AttendIdeal.τ).loc Cert.AttendIdeal.main_v0_2)) (v3 : (c : Dev Cert.AttendIdeal.nD) → Buf (Elt Ideal) ((c.tc : Thread Cert.AttendIdeal.nD Cert.AttendIdeal.τ).loc Cert.AttendIdeal.main_v0_3)) (v4 : (c : Dev Cert.AttendIdeal.nD) → Buf (Elt Ideal) ((c.tc : Thread Cert.AttendIdeal.nD Cert.AttendIdeal.τ).loc Cert.AttendIdeal.main_v0_4)) (v5 : (c : Dev Cert.AttendIdeal.nD) → Buf (Elt Ideal) ((c.tc : Thread Cert.AttendIdeal.nD Cert.AttendIdeal.τ).loc Cert.AttendIdeal.main_v0_5)) (v6 : (c : Dev Cert.AttendIdeal.nD) → Buf (Elt Ideal) ((c.tc : Thread Cert.AttendIdeal.nD Cert.AttendIdeal.τ).loc Cert.AttendIdeal.main_v0_6)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0_0) = v0 c
          ∧ r.2.mem ((c.tc : Thread Cert.AttendIdeal.nD Cert.AttendIdeal.τ).loc Cert.AttendIdeal.main_v0_1) = v1 c
          ∧ r.2.mem ((c.tc : Thread Cert.AttendIdeal.nD Cert.AttendIdeal.τ).loc Cert.AttendIdeal.main_v0_2) = v2 c
          ∧ r.2.mem ((c.tc : Thread Cert.AttendIdeal.nD Cert.AttendIdeal.τ).loc Cert.AttendIdeal.main_v0_3) = v3 c
          ∧ r.2.mem ((c.tc : Thread Cert.AttendIdeal.nD Cert.AttendIdeal.τ).loc Cert.AttendIdeal.main_v0_4) = v4 c
          ∧ r.2.mem ((c.tc : Thread Cert.AttendIdeal.nD Cert.AttendIdeal.τ).loc Cert.AttendIdeal.main_v0_5) = v5 c
          ∧ r.2.mem ((c.tc : Thread Cert.AttendIdeal.nD Cert.AttendIdeal.τ).loc Cert.AttendIdeal.main_v0_6) = v6 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v120) = v0 c
          ∧ r.2.mem ((c.tc : Thread Cert.AttendRefIdeal.nD Cert.AttendRefIdeal.τ).loc Cert.AttendRefIdeal.main_v122) = v1 c
          ∧ r.2.mem ((c.tc : Thread Cert.AttendRefIdeal.nD Cert.AttendRefIdeal.τ).loc Cert.AttendRefIdeal.main_v124) = v2 c
          ∧ r.2.mem ((c.tc : Thread Cert.AttendRefIdeal.nD Cert.AttendRefIdeal.τ).loc Cert.AttendRefIdeal.main_v126) = v3 c
          ∧ r.2.mem ((c.tc : Thread Cert.AttendRefIdeal.nD Cert.AttendRefIdeal.τ).loc Cert.AttendRefIdeal.main_v127) = v4 c
          ∧ r.2.mem ((c.tc : Thread Cert.AttendRefIdeal.nD Cert.AttendRefIdeal.τ).loc Cert.AttendRefIdeal.main_v129) = v5 c
          ∧ r.2.mem ((c.tc : Thread Cert.AttendRefIdeal.nD Cert.AttendRefIdeal.τ).loc Cert.AttendRefIdeal.main_v134) = v6 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4))

def preserves_Stats_StatsIdeal : Prop :=
  True

def algebraic_StatsIdeal_StatsRefIdeal_pre_finite_v [hStatsIdeal : Cert.StatsIdeal.Facts] [hStatsRefIdeal : Cert.StatsRefIdeal.Facts] [hPre_finite_v : Cert.Pre_finite_v.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsRefIdeal.nD Cert.StatsRefIdeal.τ Cert.StatsRefIdeal.sig) → Buf (Elt Ideal) ℓ) (g' : Dev Cert.StatsRefIdeal.nD → PrngReg), Pre_StatsIdeal_finite_v m →
    (∀ c : Dev Cert.StatsIdeal.nD,
      m' ((c.tc : Thread Cert.StatsRefIdeal.nD Cert.StatsRefIdeal.τ).loc Cert.StatsRefIdeal.main_arg0) = m ((c.tc : Thread Cert.StatsIdeal.nD Cert.StatsIdeal.τ).loc Cert.StatsIdeal.main_arg0)
      ∧ m' ((c.tc : Thread Cert.StatsRefIdeal.nD Cert.StatsRefIdeal.τ).loc Cert.StatsRefIdeal.main_arg1) = m ((c.tc : Thread Cert.StatsIdeal.nD Cert.StatsIdeal.τ).loc Cert.StatsIdeal.main_arg1)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1))
      ∧ θ_run (Cert.StatsRefIdeal.defs (F := Ideal)) (onTc (τ := Cert.StatsRefIdeal.τ) (Cert.StatsRefIdeal.main (F := Ideal))) ⟨m', fun _ => 0, g'⟩ (fun r => ∀ c : Dev Cert.StatsRefIdeal.nD,
          r.2.mem ((c.tc : Thread Cert.StatsRefIdeal.nD Cert.StatsRefIdeal.τ).loc Cert.StatsRefIdeal.main_v6) = v0 c
          ∧ r.2.mem ((c.tc : Thread Cert.StatsRefIdeal.nD Cert.StatsRefIdeal.τ).loc Cert.StatsRefIdeal.main_v24) = v1 c
          ∧ r.2.mem ((c.tc : Thread Cert.StatsRefIdeal.nD Cert.StatsRefIdeal.τ).loc Cert.StatsRefIdeal.main_arg0) = m' ((c.tc : Thread Cert.StatsRefIdeal.nD Cert.StatsRefIdeal.τ).loc Cert.StatsRefIdeal.main_arg0)
          ∧ r.2.mem ((c.tc : Thread Cert.StatsRefIdeal.nD Cert.StatsRefIdeal.τ).loc Cert.StatsRefIdeal.main_arg1) = m' ((c.tc : Thread Cert.StatsRefIdeal.nD Cert.StatsRefIdeal.τ).loc Cert.StatsRefIdeal.main_arg1))

def Claim : Prop :=
  ∃ (hAttend : Cert.Attend.Facts) (hAttendIdeal : Cert.AttendIdeal.Facts) (hAttendRefIdeal : Cert.AttendRefIdeal.Facts) (hStats : Cert.Stats.Facts) (hStatsIdeal : Cert.StatsIdeal.Facts) (hStatsRefIdeal : Cert.StatsRefIdeal.Facts) (hPre_finite : Cert.Pre_finite.Facts) (hPre_finite_v : Cert.Pre_finite_v.Facts),
    quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendRefIdeal (hAttendRefIdeal := hAttendRefIdeal)
    ∧ quiescent_AttendRefIdeal_pre_finite (hAttendRefIdeal := hAttendRefIdeal) (hPre_finite := hPre_finite)
    ∧ quiescent_Stats (hStats := hStats)
    ∧ quiescent_StatsIdeal (hStatsIdeal := hStatsIdeal)
    ∧ quiescent_StatsIdeal_pre_finite_v (hStatsIdeal := hStatsIdeal) (hPre_finite_v := hPre_finite_v)
    ∧ quiescent_StatsRefIdeal (hStatsRefIdeal := hStatsRefIdeal)
    ∧ quiescent_StatsRefIdeal_pre_finite_v (hStatsRefIdeal := hStatsRefIdeal) (hPre_finite_v := hPre_finite_v)
    ∧ preserves_Attend_AttendIdeal
    ∧ algebraic_AttendIdeal_AttendRefIdeal_pre_finite (hAttendIdeal := hAttendIdeal) (hAttendRefIdeal := hAttendRefIdeal) (hPre_finite := hPre_finite)
    ∧ preserves_Stats_StatsIdeal
    ∧ algebraic_StatsIdeal_StatsRefIdeal_pre_finite_v (hStatsIdeal := hStatsIdeal) (hStatsRefIdeal := hStatsRefIdeal) (hPre_finite_v := hPre_finite_v)
-- ==== Pre_finite.lean ====
abbrev S16384x8192 : Shape := ⟨2, ![16384, 8192]⟩
abbrev S64x128 : Shape := ⟨2, ![64, 128]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_arg4 : FVec F S64x128 .f32) (main_v15 : IVec S_ 1) (main_v16 : FVec F S64x128 .f32) : IVec S_ 1 :=
  let main_v17 : IVec S64x128 1 := cmpf .ogt main_arg4 main_v16
  let main_c_5 : IVec S_ 1 := constantI S_ 1 1#1
  let main_v18 : IVec S_ 1 := (fun x v => Host.reduce IntOp.andi x v reducesTo_S64x128_S_d0_1 h_S_) main_v17 main_c_5
  let main_v19 : IVec S_ 1 := andi main_v15 main_v18
  main_v19

def fn {F : FTy → Type} [FloatOps F] (main_arg0 : FVec F S16384x8192 .bf16) (main_arg1 : FVec F S16384x8192 .bf16) (main_arg2 : FVec F S16384x8192 .bf16) (main_arg3 : FVec F S64x128 .f32) (main_arg4 : FVec F S64x128 .f32) : IVec S_ 1 :=
  let main_v0 : FVec F S16384x8192 .f32 := (extf .f32 · bitsLt_bf16_f32) main_arg0
  let main_v1 : FVec F S16384x8192 .f32 := Host.absf main_v0
  let main_cst : FVec F S_ .f32 := constant S_ .f32 0x7F7F0000#32
  let main_v2 : FVec F S16384x8192 .f32 := broadcastInDim S16384x8192 ![] bcast_S_S16384x8192 main_cst
  let main_v3 : IVec S16384x8192 1 := cmpf .ole main_v1 main_v2
  let main_c : IVec S_ 1 := constantI S_ 1 1#1
  let main_v4 : IVec S_ 1 := (fun x v => Host.reduce IntOp.andi x v reducesTo_S16384x8192_S_d0_1 h_S_) main_v3 main_c
  let main_v5 : FVec F S16384x8192 .f32 := (extf .f32 · bitsLt_bf16_f32) main_arg1
  let main_v6 : FVec F S16384x8192 .f32 := Host.absf main_v5
  let main_cst_0 : FVec F S_ .f32 := constant S_ .f32 0x7F7F0000#32
  let main_v7 : FVec F S16384x8192 .f32 := broadcastInDim S16384x8192 ![] bcast_S_S16384x8192 main_cst_0
  let main_v8 : IVec S16384x8192 1 := cmpf .ole main_v6 main_v7
  let main_c_1 : IVec S_ 1 := constantI S_ 1 1#1
  let main_v9 : IVec S_ 1 := (fun x v => Host.reduce IntOp.andi x v reducesTo_S16384x8192_S_d0_1 h_S_) main_v8 main_c_1
  let main_v10 : IVec S_ 1 := andi main_v4 main_v9
  let main_v11 : FVec F S64x128 .f32 := Host.absf main_arg3
  let main_cst_2 : FVec F S_ .f32 := constant S_ .f32 0x7F7F0000#32
  let main_v12 : FVec F S64x128 .f32 := broadcastInDim S64x128 ![] bcast_S_S64x128 main_cst_2
  let main_v13 : IVec S64x128 1 := cmpf .ole main_v11 main_v12
  let main_c_3 : IVec S_ 1 := constantI S_ 1 1#1
  let main_v14 : IVec S_ 1 := (fun x v => Host.reduce IntOp.andi x v reducesTo_S64x128_S_d0_1 h_S_) main_v13 main_c_3
  let main_v15 : IVec S_ 1 := andi main_v10 main_v14
  let main_cst_4 : FVec F S_ .f32 := constant S_ .f32 0x00000000#32
  let main_v16 : FVec F S64x128 .f32 := broadcastInDim S64x128 ![] bcast_S_S64x128 main_cst_4
  fn_part1 (F := F) main_arg4 main_v15 main_v16
-- ==== Pre_finite_v.lean ====
abbrev S16384x8192 : Shape := ⟨2, ![16384, 8192]⟩
abbrev S_ : Shape := ⟨0, ![]⟩

class Facts : Prop where
  bitsLt_bf16_f32 : FTy.bits .bf16 < FTy.bits .f32
  bcast_S_S16384x8192 : S_.BroadcastsInDim S16384x8192 (![] : Fin 0 → Fin S16384x8192.rank)
  reducesTo_S16384x8192_S_d0_1 : S16384x8192.ReducesTo [0, 1] S_
  h_S_ : 0 < S_.numel

variable [Facts]

def fn {F : FTy → Type} [FloatOps F] (main_arg0 : FVec F S16384x8192 .bf16) (main_arg1 : FVec F S16384x8192 .bf16) : IVec S_ 1 :=
  let main_v0 : FVec F S16384x8192 .f32 := (extf .f32 · bitsLt_bf16_f32) main_arg1
  let main_v1 : FVec F S16384x8192 .f32 := Host.absf main_v0
  let main_cst : FVec F S_ .f32 := constant S_ .f32 0x7F7F0000#32
  let main_v2 : FVec F S16384x8192 .f32 := broadcastInDim S16384x8192 ![] bcast_S_S16384x8192 main_cst
  let main_v3 : IVec S16384x8192 1 := cmpf .ole main_v1 main_v2
  let main_c : IVec S_ 1 := constantI S_ 1 1#1
  let main_v4 : IVec S_ 1 := (fun x v => Host.reduce IntOp.andi x v reducesTo_S16384x8192_S_d0_1 h_S_) main_v3 main_c
  main_v4
-- ==== Attend.lean ====
abbrev S16384x8192 : Shape := ⟨2, ![16384, 8192]⟩
abbrev S64x128 : Shape := ⟨2, ![64, 128]⟩
abbrev S128x64x128 : Shape := ⟨3, ![128, 64, 128]⟩
abbrev S128x8192 : Shape := ⟨2, ![128, 8192]⟩
abbrev S1x64x128 : Shape := ⟨3, ![1, 64, 128]⟩
abbrev S64x1664x128 : Shape := ⟨3, ![64, 1664, 128]⟩
abbrev S64x16x128 : Shape := ⟨3, ![64, 16, 128]⟩
abbrev S128x1536 : Shape := ⟨2, ![128, 1536]⟩
abbrev S128x128 : Shape := ⟨2, ![128, 128]⟩
abbrev S1x128 : Shape := ⟨2, ![1, 128]⟩
abbrev S128 : Shape := ⟨1, ![128]⟩
abbrev S1 : Shape := ⟨1, ![1]⟩
abbrev S1x1 : Shape := ⟨2, ![1, 1]⟩
abbrev S1x1x128 : Shape := ⟨3, ![1, 1, 128]⟩
abbrev S1x128x128 : Shape := ⟨3, ![1, 128, 128]⟩
abbrev S16x128 : Shape := ⟨2, ![16, 128]⟩
abbrev S256x128 : Shape := ⟨2, ![256, 128]⟩
abbrev S128x256 : Shape := ⟨2, ![128, 256]⟩
abbrev S16x256 : Shape := ⟨2, ![16, 256]⟩
abbrev S1x256 : Shape := ⟨2, ![1, 256]⟩
abbrev S128x1 : Shape := ⟨2, ![128, 1]⟩

abbrev nBuf : Space → Nat
  | .hbm => 12
  | .vmem => 26
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .bf16⟩
  | .hbm, ⟨2, _⟩ => ⟨S16384x8192, .bf16⟩
  | .hbm, ⟨3, _⟩ => ⟨S64x128, .f32⟩
  | .hbm, ⟨4, _⟩ => ⟨S64x128, .f32⟩
  | .hbm, ⟨5, _⟩ => ⟨S16384x8192, .bf16⟩
  | .hbm, ⟨6, _⟩ => ⟨S16384x8192, .fp8e4m3⟩
  | .hbm, ⟨7, _⟩ => ⟨S16384x8192, .fp8e4m3⟩
  | .hbm, ⟨8, _⟩ => ⟨S16384x8192, .fp8e4m3⟩
  | .hbm, ⟨9, _⟩ => ⟨S128x64x128, .f32⟩
  | .hbm, ⟨10, _⟩ => ⟨S128x64x128, .f32⟩
  | .hbm, ⟨11, _⟩ => ⟨S128x64x128, .f32⟩
  | .local _ .vmem, ⟨0, _⟩ => ⟨S128x8192, .bf16⟩
  | .local _ .vmem, ⟨1, _⟩ => ⟨S128x8192, .bf16⟩
  | .local _ .vmem, ⟨2, _⟩ => ⟨S128x8192, .bf16⟩
  | .local _ .vmem, ⟨3, _⟩ => ⟨S128x8192, .bf16⟩
  | .local _ .vmem, ⟨4, _⟩ => ⟨S128x8192, .bf16⟩
  | .local _ .vmem, ⟨5, _⟩ => ⟨S128x8192, .bf16⟩
  | .local _ .vmem, ⟨6, _⟩ => ⟨S64x128, .f32⟩
  | .local _ .vmem, ⟨7, _⟩ => ⟨S64x128, .f32⟩
  | .local _ .vmem, ⟨8, _⟩ => ⟨S128x8192, .bf16⟩
  | .local _ .vmem, ⟨9, _⟩ => ⟨S128x8192, .bf16⟩
  | .local _ .vmem, ⟨10, _⟩ => ⟨S128x8192, .fp8e4m3⟩
  | .local _ .vmem, ⟨11, _⟩ => ⟨S128x8192, .fp8e4m3⟩
  | .local _ .vmem, ⟨12, _⟩ => ⟨S128x8192, .fp8e4m3⟩
  | .local _ .vmem, ⟨13, _⟩ => ⟨S128x8192, .fp8e4m3⟩
  | .local _ .vmem, ⟨14, _⟩ => ⟨S128x8192, .fp8e4m3⟩
  | .local _ .vmem, ⟨15, _⟩ => ⟨S128x8192, .fp8e4m3⟩
  | .local _ .vmem, ⟨16, _⟩ => ⟨S1x64x128, .f32⟩
  | .local _ .vmem, ⟨17, _⟩ => ⟨S1x64x128, .f32⟩
  | .local _ .vmem, ⟨18, _⟩ => ⟨S1x64x128, .f32⟩
  | .local _ .vmem, ⟨19, _⟩ => ⟨S1x64x128, .f32⟩
  | .local _ .vmem, ⟨20, _⟩ => ⟨S1x64x128, .f32⟩
  | .local _ .vmem, ⟨21, _⟩ => ⟨S1x64x128, .f32⟩
  | .local _ .vmem, ⟨22, _⟩ => ⟨S64x1664x128, .fp8e4m3⟩
  | .local _ .vmem, ⟨23, _⟩ => ⟨S64x1664x128, .fp8e4m3⟩
  | .local _ .vmem, ⟨24, _⟩ => ⟨S64x16x128, .f32⟩
  | .local _ .vmem, ⟨25, _⟩ => ⟨S128x1536, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_28 : BitVec 32 := 0#32
  let c64_i32 : BitVec 32 := 64#32
  let v47 : BitVec 32 := Scalar.addi c0_i32_28 c64_i32
  let c1_i32_29 : BitVec 32 := 1#32
  ⟨c0_i32_28, v47, c1_i32_29⟩
def k0_mult1 (k0_t1 : Fin k0_t1_loop.trips) : BitVec 32 :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let c128_i32 : BitVec 32 := 128#32
  let v50 : BitVec 32 := Scalar.muli v49 c128_i32
  v50
def k0_off1 (k0_t1 : Fin k0_t1_loop.trips) : Fin 2 → Nat :=
  let c0 : Index := 0#32
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let c128_i32 : BitVec 32 := 128#32
  let v50 : BitVec 32 := Scalar.muli v49 c128_i32
  let v51 : BitVec 32 := v50
  let v52 : Index := Scalar.indexCast v51
  ![0, v52.toNat]
def k0_off2 (k0_t1 : Fin k0_t1_loop.trips) : Fin 2 → Nat :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v155 : Index := Scalar.indexCast v49
  let c0_60 : Index := 0#32
  ![v155.toNat, 0]
def k0_off3 (k0_t1 : Fin k0_t1_loop.trips) : Fin 3 → Nat :=
  let c0_130 : Index := 0#32
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v368 : Index := Scalar.indexCast v49
  let c0_131 : Index := 0#32
  ![0, v368.toNat, 0]
def k0_off4 (i : grid0.Coords) (k0_t1 : Fin k0_t1_loop.trips) : Fin 3 → Nat :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v383 : Index := Scalar.indexCast v49
  let arg0 : BitVec 32 := BitVec.ofNat 32 (i 0).val
  let c13_i32 : BitVec 32 := 13#32
  let v0 : BitVec 32 := Scalar.remsi arg0 c13_i32
  let c128_i32_136 : BitVec 32 := 128#32
  let v382 : BitVec 32 := Scalar.muli v0 c128_i32_136
  let v384 : Index := Scalar.indexCast v382
  let c0_137 : Index := 0#32
  ![v383.toNat, v384.toNat, 0]
def k0_off5 (i : grid0.Coords) (k0_t1 : Fin k0_t1_loop.trips) : Fin 3 → Nat :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v394 : Index := Scalar.indexCast v49
  let arg0 : BitVec 32 := BitVec.ofNat 32 (i 0).val
  let c13_i32 : BitVec 32 := 13#32
  let v0 : BitVec 32 := Scalar.remsi arg0 c13_i32
  let v395 : Index := Scalar.indexCast v0
  let c0_140 : Index := 0#32
  ![v394.toNat, v395.toNat, 0]
def k0_off6 (i : grid0.Coords) (k0_t1 : Fin k0_t1_loop.trips) (c0_i32 : BitVec 32) : Fin 3 → Nat :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v410 : Index := Scalar.indexCast v49
  let arg0 : BitVec 32 := BitVec.ofNat 32 (i 0).val
  let c1_i32 : BitVec 32 := 1#32
  let v1 : BitVec 32 := Scalar.addi arg0 c1_i32
  let v2 : BitVec 32 := Scalar.addi v1 c0_i32
  let c13_i32_0 : BitVec 32 := 13#32
  let v3 : BitVec 32 := Scalar.remsi v2 c13_i32_0
  let c128_i32_143 : BitVec 32 := 128#32
  let v409 : BitVec 32 := Scalar.muli v3 c128_i32_143
  let v411 : Index := Scalar.indexCast v409
  let c0_144 : Index := 0#32
  ![v410.toNat, v411.toNat, 0]
def k0_off7 (i : grid0.Coords) (k0_t1 : Fin k0_t1_loop.trips) (c0_i32 : BitVec 32) : Fin 3 → Nat :=
  let c0_i32_32 : BitVec 32 := 0#32
  let c0_i32_28 : BitVec 32 := 0#32
  let c1_i32_29 : BitVec 32 := 1#32
  let arg17 : BitVec 32 := Scf.iv c0_i32_28 c1_i32_29 k0_t1
  let c1_i32_31 : BitVec 32 := 1#32
  let v48 : BitVec 32 := Scalar.muli arg17 c1_i32_31
  let v49 : BitVec 32 := Scalar.addi c0_i32_32 v48
  let v426 : Index := Scalar.indexCast v49
  let arg0 : BitVec 32 := BitVec.ofNat 32 (i 0).val
  let c1_i32 : BitVec 32 := 1#32
  let v1 : BitVec 32 := Scalar.addi arg0 c1_i32
  let v2 : BitVec 32 := Scalar.addi v1 c0_i32
  let c13_i32_0 : BitVec 32 := 13#32
  let v3 : BitVec 32 := Scalar.remsi v2 c13_i32_0
  let v427 : Index := Scalar.indexCast v3
  let c0_153 : Index := 0#32
  ![v426.toNat, v427.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttendIdeal.lean ====
variable {F : FTy → Type} [FloatOps F] [Named F]
def κ : String → Option EReal := fun
  | "score_scale" => some (((Real.sqrt 128)⁻¹ * (Real.log 2)⁻¹ : ℝ) : EReal)
  | _ => none
-- ==== AttendRefIdeal.lean ====
abbrev S16384x8192 : Shape := ⟨2, ![16384, 8192]⟩
abbrev S64x128 : Shape := ⟨2, ![64, 128]⟩
abbrev S128x128x64x128 : Shape := ⟨4, ![128, 128, 64, 128]⟩
abbrev S_ : Shape := ⟨0, ![]⟩
abbrev S128x64x128 : Shape := ⟨3, ![128, 64, 128]⟩
abbrev S128x1x64x128 : Shape := ⟨4, ![128, 1, 64, 128]⟩
abbrev S128x64 : Shape := ⟨2, ![128, 64]⟩
abbrev S128x1x64x1 : Shape := ⟨4, ![128, 1, 64, 1]⟩
abbrev S256x64x64x128 : Shape := ⟨4, ![256, 64, 64, 128]⟩
abbrev S1x1x64x128 : Shape := ⟨4, ![1, 1, 64, 128]⟩
abbrev S256x64 : Shape := ⟨2, ![256, 64]⟩
abbrev S256x1x64x1 : Shape := ⟨4, ![256, 1, 64, 1]⟩
abbrev S16384x64x128 : Shape := ⟨3, ![16384, 64, 128]⟩
abbrev S1x64x128 : Shape := ⟨3, ![1, 64, 128]⟩
abbrev S128x128x64x1 : Shape := ⟨4, ![128, 128, 64, 1]⟩
abbrev S16384x64 : Shape := ⟨2, ![16384, 64]⟩
abbrev S256x64x64x1 : Shape := ⟨4, ![256, 64, 64, 1]⟩
abbrev S64x16384x16384 : Shape := ⟨3, ![64, 16384, 16384]⟩
abbrev S64x128x16384 : Shape := ⟨3, ![64, 128, 16384]⟩
abbrev S64x128x1x16384 : Shape := ⟨4, ![64, 128, 1, 16384]⟩
abbrev S64x128x128x16384 : Shape := ⟨4, ![64, 128, 128, 16384]⟩
abbrev S64x16384 : Shape := ⟨2, ![64, 16384]⟩
abbrev S64x1x16384 : Shape := ⟨3, ![64, 1, 16384]⟩
abbrev S64x16384x1 : Shape := ⟨3, ![64, 16384, 1]⟩
abbrev S16384x16384 : Shape := ⟨2, ![16384, 16384]⟩
abbrev S16384x64x1 : Shape := ⟨3, ![16384, 64, 1]⟩
abbrev S128x64x1 : Shape := ⟨3, ![128, 64, 1]⟩
abbrev S128x2x64 : Shape := ⟨3, ![128, 2, 64]⟩
abbrev S128x64x2 : Shape := ⟨3, ![128, 64, 2]⟩
abbrev S128x64x2x1 : Shape := ⟨4, ![128, 64, 2, 1]⟩
abbrev S128x64x2x64 : Shape := ⟨4, ![128, 64, 2, 64]⟩

abbrev nBuf : Space → Nat
  | .hbm => 200
  | .vmem => 0
  | .smem => 0
  | _ => 0

abbrev hbmTy0_0 (i : Nat) : BufTy := match i % 128 with
  | 0 => ⟨S16384x8192, .bf16⟩
  | 1 => ⟨S16384x8192, .bf16⟩
  | 2 => ⟨S16384x8192, .bf16⟩
  | 3 => ⟨S64x128, .f32⟩
  | 4 => ⟨S64x128, .f32⟩
  | 5 => ⟨S16384x8192, .f32⟩
  | 6 => ⟨S128x128x64x128, .f32⟩
  | 7 => ⟨S_, .f32⟩
  | 8 => ⟨S128x64x128, .f32⟩
  | 9 => ⟨S_, .f32⟩
  | 10 => ⟨S128x64x128, .f32⟩
  | 11 => ⟨S128x64x128, .f32⟩
  | 12 => ⟨S128x64x128, .bf16⟩
  | 13 => ⟨S128x64x128, .f32⟩
  | 14 => ⟨S128x1x64x128, .f32⟩
  | 15 => ⟨S128x128x64x128, .f32⟩
  | 16 => ⟨S128x128x64x128, .f32⟩
  | 17 => ⟨S128x128x64x128, .f32⟩
  | 18 => ⟨S_, .f32⟩
  | 19 => ⟨S128x64, .f32⟩
  | 20 => ⟨S128x1x64x1, .f32⟩
  | 21 => ⟨S_, .f32⟩
  | 22 => ⟨S128x1x64x1, .f32⟩
  | 23 => ⟨S128x1x64x1, .f32⟩
  | 24 => ⟨S_, .f32⟩
  | 25 => ⟨S128x1x64x1, .f32⟩
  | 26 => ⟨S128x1x64x1, .i1⟩
  | 27 => ⟨S128x1x64x1, .f32⟩
  | 28 => ⟨S_, .f32⟩
  | 29 => ⟨S_, .f32⟩
  | 30 => ⟨S128x1x64x1, .f32⟩
  | 31 => ⟨S128x1x64x1, .f32⟩
  | 32 => ⟨S128x1x64x1, .f32⟩
  | 33 => ⟨S_, .f32⟩
  | 34 => ⟨S128x1x64x1, .f32⟩
  | 35 => ⟨S128x1x64x1, .f32⟩
  | 36 => ⟨S_, .f32⟩
  | 37 => ⟨S_, .f32⟩
  | 38 => ⟨S128x1x64x1, .f32⟩
  | 39 => ⟨S128x1x64x1, .f32⟩
  | 40 => ⟨S_, .f32⟩
  | 41 => ⟨S128x1x64x1, .f32⟩
  | 42 => ⟨S128x1x64x1, .f32⟩
  | 43 => ⟨S128x1x64x1, .f32⟩
  | 44 => ⟨S_, .f32⟩
  | 45 => ⟨S128x1x64x1, .f32⟩
  | 46 => ⟨S128x1x64x1, .f32⟩
  | 47 => ⟨S128x128x64x128, .f32⟩
  | 48 => ⟨S128x128x64x128, .f32⟩
  | 49 => ⟨S_, .f32⟩
  | 50 => ⟨S_, .f32⟩
  | 51 => ⟨S_, .f32⟩
  | 52 => ⟨S128x128x64x128, .f32⟩
  | 53 => ⟨S128x128x64x128, .f32⟩
  | 54 => ⟨S_, .f32⟩
  | 55 => ⟨S128x128x64x128, .f32⟩
  | 56 => ⟨S128x128x64x128, .f32⟩
  | 57 => ⟨S16384x8192, .f32⟩
  | 58 => ⟨S256x64x64x128, .f32⟩
  | 59 => ⟨S1x1x64x128, .f32⟩
  | 60 => ⟨S256x64x64x128, .f32⟩
  | 61 => ⟨S256x64x64x128, .f32⟩
  | 62 => ⟨S256x64x64x128, .f32⟩
  | 63 => ⟨S_, .f32⟩
  | 64 => ⟨S256x64, .f32⟩
  | 65 => ⟨S256x1x64x1, .f32⟩
  | 66 => ⟨S_, .f32⟩
  | 67 => ⟨S256x1x64x1, .f32⟩
  | 68 => ⟨S256x1x64x1, .f32⟩
  | 69 => ⟨S_, .f32⟩
  | 70 => ⟨S256x1x64x1, .f32⟩
  | 71 => ⟨S256x1x64x1, .i1⟩
  | 72 => ⟨S256x1x64x1, .f32⟩
  | 73 => ⟨S_, .f32⟩
  | 74 => ⟨S_, .f32⟩
  | 75 => ⟨S256x1x64x1, .f32⟩
  | 76 => ⟨S256x1x64x1, .f32⟩
  | 77 => ⟨S256x1x64x1, .f32⟩
  | 78 => ⟨S_, .f32⟩
  | 79 => ⟨S256x1x64x1, .f32⟩
  | 80 => ⟨S256x1x64x1, .f32⟩
  | 81 => ⟨S_, .f32⟩
  | 82 => ⟨S_, .f32⟩
  | 83 => ⟨S256x1x64x1, .f32⟩
  | 84 => ⟨S256x1x64x1, .f32⟩
  | 85 => ⟨S_, .f32⟩
  | 86 => ⟨S256x1x64x1, .f32⟩
  | 87 => ⟨S256x1x64x1, .f32⟩
  | 88 => ⟨S256x1x64x1, .f32⟩
  | 89 => ⟨S_, .f32⟩
  | 90 => ⟨S256x1x64x1, .f32⟩
  | 91 => ⟨S256x1x64x1, .f32⟩
  | 92 => ⟨S256x64x64x128, .f32⟩
  | 93 => ⟨S256x64x64x128, .f32⟩
  | 94 => ⟨S_, .f32⟩
  | 95 => ⟨S_, .f32⟩
  | 96 => ⟨S_, .f32⟩
  | 97 => ⟨S256x64x64x128, .f32⟩
  | 98 => ⟨S256x64x64x128, .f32⟩
  | 99 => ⟨S_, .f32⟩
  | 100 => ⟨S256x64x64x128, .f32⟩
  | 101 => ⟨S256x64x64x128, .f32⟩
  | 102 => ⟨S16384x8192, .f32⟩
  | 103 => ⟨S16384x64x128, .f32⟩
  | 104 => ⟨S1x64x128, .f32⟩
  | 105 => ⟨S16384x64x128, .f32⟩
  | 106 => ⟨S16384x64x128, .f32⟩
  | 107 => ⟨S_, .f32⟩
  | 108 => ⟨S_, .f32⟩
  | 109 => ⟨S_, .f32⟩
  | 110 => ⟨S16384x64x128, .f32⟩
  | 111 => ⟨S16384x64x128, .f32⟩
  | 112 => ⟨S_, .f32⟩
  | 113 => ⟨S16384x64x128, .f32⟩
  | 114 => ⟨S16384x64x128, .f32⟩
  | 115 => ⟨S16384x64x128, .f32⟩
  | 116 => ⟨S16384x64x128, .f32⟩
  | 117 => ⟨S128x128x64x1, .f32⟩
  | 118 => ⟨S16384x64, .f32⟩
  | 119 => ⟨S256x64x64x1, .f32⟩
  | 120 => ⟨S16384x64, .f32⟩
  | 121 => ⟨S64x16384x16384, .f32⟩
  | 122 => ⟨S16384x64x128, .bf16⟩
  | 123 => ⟨S64x128x16384, .f32⟩
  | 124 => ⟨S64x128x1x16384, .f32⟩
  | 125 => ⟨S64x128x128x16384, .f32⟩
  | 126 => ⟨S64x16384x16384, .f32⟩
  | 127 => ⟨S64x16384, .f32⟩
  | _ => ⟨S16384x8192, .bf16⟩

abbrev hbmTy0_1 (i : Nat) : BufTy := match i % 128 with
  | 0 => ⟨S64x1x16384, .f32⟩
  | 1 => ⟨S64x16384, .f32⟩
  | 2 => ⟨S64x16384x1, .f32⟩
  | 3 => ⟨S64x16384x16384, .f32⟩
  | 4 => ⟨S64x16384x16384, .f32⟩
  | 5 => ⟨S64x16384x16384, .f32⟩
  | 6 => ⟨S64x16384x16384, .f32⟩
  | 7 => ⟨S64x16384x16384, .f32⟩
  | 8 => ⟨S_, .f32⟩
  | 9 => ⟨S_, .f32⟩
  | 10 => ⟨S64x16384x16384, .f32⟩
  | 11 => ⟨S64x16384x16384, .f32⟩
  | 12 => ⟨S16384x16384, .i32⟩
  | 13 => ⟨S16384x16384, .i32⟩
  | 14 => ⟨S16384x16384, .i1⟩
  | 15 => ⟨S_, .i32⟩
  | 16 => ⟨S16384x16384, .i32⟩
  | 17 => ⟨S16384x16384, .i32⟩
  | 18 => ⟨S16384x16384, .i1⟩
  | 19 => ⟨S16384x16384, .i1⟩
  | 20 => ⟨S_, .f32⟩
  | 21 => ⟨S_, .f32⟩
  | 22 => ⟨S64x16384x16384, .i1⟩
  | 23 => ⟨S64x16384x16384, .f32⟩
  | 24 => ⟨S64x16384x16384, .f32⟩
  | 25 => ⟨S_, .f32⟩
  | 26 => ⟨S64x16384, .f32⟩
  | 27 => ⟨S64x16384x1, .f32⟩
  | 28 => ⟨S64x16384x16384, .f32⟩
  | 29 => ⟨S64x16384x16384, .f32⟩
  | 30 => ⟨S64x16384x16384, .f32⟩
  | 31 => ⟨S_, .f32⟩
  | 32 => ⟨S64x16384, .f32⟩
  | 33 => ⟨S_, .f32⟩
  | 34 => ⟨S64x16384x16384, .f32⟩
  | 35 => ⟨S64x16384x16384, .f32⟩
  | 36 => ⟨S_, .f32⟩
  | 37 => ⟨S_, .f32⟩
  | 38 => ⟨S_, .f32⟩
  | 39 => ⟨S64x16384x16384, .f32⟩
  | 40 => ⟨S64x16384x16384, .f32⟩
  | 41 => ⟨S_, .f32⟩
  | 42 => ⟨S64x16384x16384, .f32⟩
  | 43 => ⟨S64x16384x16384, .f32⟩
  | 44 => ⟨S64x128x16384, .f32⟩
  | 45 => ⟨S16384x64x128, .f32⟩
  | 46 => ⟨S_, .f32⟩
  | 47 => ⟨S16384x64x128, .f32⟩
  | 48 => ⟨S16384x64x128, .f32⟩
  | 49 => ⟨S1x64x128, .f32⟩
  | 50 => ⟨S16384x64x128, .f32⟩
  | 51 => ⟨S16384x64x128, .f32⟩
  | 52 => ⟨S16384x64, .f32⟩
  | 53 => ⟨S16384x64x1, .f32⟩
  | 54 => ⟨S16384x64x128, .f32⟩
  | 55 => ⟨S16384x64x128, .f32⟩
  | 56 => ⟨S16384x64x128, .bf16⟩
  | 57 => ⟨S16384x8192, .bf16⟩
  | 58 => ⟨S16384x8192, .f32⟩
  | 59 => ⟨S16384x8192, .fp8e4m3⟩
  | 60 => ⟨S16384x8192, .f32⟩
  | 61 => ⟨S16384x8192, .fp8e4m3⟩
  | 62 => ⟨S16384x8192, .f32⟩
  | 63 => ⟨S16384x8192, .fp8e4m3⟩
  | 64 => ⟨S128x64x128, .f32⟩
  | 65 => ⟨S128x64x1, .f32⟩
  | 66 => ⟨S128x64x128, .f32⟩
  | 67 => ⟨S128x2x64, .f32⟩
  | 68 => ⟨S128x64x2, .f32⟩
  | 69 => ⟨S128x64x2x1, .f32⟩
  | 70 => ⟨S128x64x2x64, .f32⟩
  | 71 => ⟨S128x64x128, .f32⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_cst_13 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_cst_16 : Ref sig .tc := ⟨.hbm, 81, rfl⟩
abbrev main_call2_v0 : Ref sig .tc := ⟨.hbm, 82, rfl⟩
abbrev main_call2_v1 : Ref sig .tc := ⟨.hbm, 83, rfl⟩
abbrev main_v52 : Ref sig .tc := ⟨.hbm, 84, rfl⟩
abbrev main_cst_17 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_18 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_cst_20 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_21 : Ref sig .tc := ⟨.hbm, 107, rfl⟩
abbrev main_cst_22 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_call4_v3 : Ref sig .tc := ⟨.hbm, 112, rfl⟩
abbrev main_call4_v4 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_23 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_24 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v98 : Ref sig .tc := ⟨.hbm, 152, rfl⟩
abbrev main_cst_25 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_26 : Ref sig .tc := ⟨.hbm, 159, rfl⟩
abbrev main_v104 : Ref sig .tc := ⟨.hbm, 160, rfl⟩
abbrev main_cst_27 : Ref sig .tc := ⟨.hbm, 161, rfl⟩
abbrev main_v105 : Ref sig .tc := ⟨.hbm, 162, rfl⟩
abbrev main_v106 : Ref sig .tc := ⟨.hbm, 163, rfl⟩
abbrev main_cst_28 : Ref sig .tc := ⟨.hbm, 164, rfl⟩
abbrev main_cst_29 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_30 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩

abbrev nD : Nat := 1
abbrev τ : Topo := Topo.v7x

variable {F : FTy → Type} [FloatOps F]
-- ==== Stats.lean ====
abbrev S16384x8192 : Shape := ⟨2, ![16384, 8192]⟩
abbrev S1x8192 : Shape := ⟨2, ![1, 8192]⟩
abbrev S256x8192 : Shape := ⟨2, ![256, 8192]⟩
abbrev S8192 : Shape := ⟨1, ![8192]⟩

abbrev nBuf : Space → Nat
  | .hbm => 4
  | .vmem => 8
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .bf16⟩
  | .hbm, ⟨2, _⟩ => ⟨S1x8192, .f32⟩
  | .hbm, ⟨3, _⟩ => ⟨S1x8192, .f32⟩
  | .local _ .vmem, ⟨0, _⟩ => ⟨S256x8192, .bf16⟩
  | .local _ .vmem, ⟨1, _⟩ => ⟨S256x8192, .bf16⟩
  | .local _ .vmem, ⟨2, _⟩ => ⟨S256x8192, .bf16⟩
  | .local _ .vmem, ⟨3, _⟩ => ⟨S256x8192, .bf16⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v22 : BitVec 1 := Scalar.cmpi .eq arg0 c63_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== StatsRefIdeal.lean ====
abbrev S16384x8192 : Shape := ⟨2, ![16384, 8192]⟩
abbrev S_ : Shape := ⟨0, ![]⟩
abbrev S8192 : Shape := ⟨1, ![8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x8192, .bf16⟩
  | .hbm, ⟨2, _⟩ => ⟨S16384x8192, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S_, .f32⟩
  | .hbm, ⟨7, _⟩ => ⟨S1x8192, .f32⟩
  | .hbm, ⟨8, _⟩ => ⟨S1x8192, .f32⟩
  | .hbm, ⟨9, _⟩ => ⟨S1x8192, .bf16⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S_, .f32⟩
  | .hbm, ⟨17, _⟩ => ⟨S1x8192, .f32⟩
  | .hbm, ⟨18, _⟩ => ⟨S1x8192, .f32⟩
  | .hbm, ⟨19, _⟩ => ⟨S_, .f32⟩
  | .hbm, ⟨20, _⟩ => ⟨S1x8192, .f32⟩
  | .hbm, ⟨21, _⟩ => ⟨S1x8192, .i1⟩
  | .hbm, ⟨22, _⟩ => ⟨S1x8192, .f32⟩
  | .hbm, ⟨23, _⟩ => ⟨S_, .f32⟩
  | .hbm, ⟨24, _⟩ => ⟨S_, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S_, .f32⟩
  | .hbm, ⟨29, _⟩ => ⟨S1x8192, .f32⟩
  | .hbm, ⟨30, _⟩ => ⟨S1x8192, .f32⟩
  | .hbm, ⟨31, _⟩ => ⟨S_, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S1x8192, .f32⟩
  | .hbm, ⟨39, _⟩ => ⟨S_, .f32⟩
  | .hbm, ⟨40, _⟩ => ⟨S1x8192, .f32⟩
  | .hbm, ⟨41, _⟩ => ⟨S1x8192, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.PTrip.lean ====
/- One trip of the kernel's loop over the heads: what it reads, and the pieces it writes into the outputs, the ring
   buffers and the score buffer. -/
module

public import proofs.«01_k».proof.Proof.Gen.Attend.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ
/-- One trip's resources: what the region reads (arg1, arg2, arg3, arg4, arg5) at its contents, what
   it writes (arg6, arg7, arg8, arg9, arg10, arg11, arg12, arg13, arg14, arg15, arg16) at any. -/
abbrev Trip (c : Dev nD) (arg1 : Memref sig .tc .vmem S128x8192 .bf16) (arg2 : Memref sig .tc .vmem S128x8192 .bf16) (arg3 : Memref sig .tc .vmem S128x8192 .bf16) (arg4 : Memref sig .tc .vmem S64x128 .f32) (arg5 : Memref sig .tc .vmem S64x128 .f32) (arg6 : Memref sig .tc .vmem S128x8192 .bf16) (arg7 : Memref sig .tc .vmem S128x8192 .fp8e4m3) (arg8 : Memref sig .tc .vmem S128x8192 .fp8e4m3) (arg9 : Memref sig .tc .vmem S128x8192 .fp8e4m3) (arg10 : Memref sig .tc .vmem S1x64x128 .f32) (arg11 : Memref sig .tc .vmem S1x64x128 .f32) (arg12 : Memref sig .tc .vmem S1x64x128 .f32) (arg13 : Memref sig .tc .vmem S64x1664x128 .fp8e4m3) (arg14 : Memref sig .tc .vmem S64x1664x128 .fp8e4m3) (arg15 : Memref sig .tc .vmem S64x16x128 .f32) (arg16 : Memref sig .tc .vmem S128x1536 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- One trip of the loop over the heads, at a symbolic trip `k`, run by `sl_exec`: the pieces it writes into each memref
   are the run's own finds, as functions of the contents the trip finds in the memrefs it writes. -/
@[irreducible] def trip (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .bf16))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg11 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg12 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg13 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x1664x128 .fp8e4m3))) (L_arg14 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x1664x128 .fp8e4m3))) (L_arg15 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x16x128 .f32))) , { L_arg16 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x1536 .f32)) // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip (F := F) c arg1 arg2 arg3 arg4 arg5 arg6 arg7 arg8 arg9 arg10 arg11 arg12 arg13 arg14 arg15 arg16 X_arg1 X_arg2 X_arg3 X_arg4 X_arg5 f_arg6 f_arg7 f_arg8 f_arg9 f_arg10 f_arg11 f_arg12 f_arg13 f_arg14 f_arg15 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 k PUnit.unit)
          (fun _ => Trip (F := F) c arg1 arg2 arg3 arg4 arg5 arg6 arg7 arg8 arg9 arg10 arg11 arg12 arg13 arg14 arg15 arg16 X_arg1 X_arg2 X_arg3 X_arg4 X_arg5 (arg6.view.writes (Elt F) f_arg6 (L_arg6 f_arg6 f_arg7 f_arg8 f_arg9 f_arg10 f_arg11 f_arg12 f_arg13 f_arg14 f_arg15 f_arg16)) (arg7.view.writes (Elt F) f_arg7 (L_arg7 f_arg6 f_arg7 f_arg8 f_arg9 f_arg10 f_arg11 f_arg12 f_arg13 f_arg14 f_arg15 f_arg16)) (arg8.view.writes (Elt F) f_arg8 (L_arg8 f_arg6 f_arg7 f_arg8 f_arg9 f_arg10 f_arg11 f_arg12 f_arg13 f_arg14 f_arg15 f_arg16)) (arg9.view.writes (Elt F) f_arg9 (L_arg9 f_arg6 f_arg7 f_arg8 f_arg9 f_arg10 f_arg11 f_arg12 f_arg13 f_arg14 f_arg15 f_arg16)) (arg10.view.writes (Elt F) f_arg10 (L_arg10 f_arg6 f_arg7 f_arg8 f_arg9 f_arg10 f_arg11 f_arg12 f_arg13 f_arg14 f_arg15 f_arg16)) (arg11.view.writes (Elt F) f_arg11 (L_arg11 f_arg6 f_arg7 f_arg8 f_arg9 f_arg10 f_arg11 f_arg12 f_arg13 f_arg14 f_arg15 f_arg16)) (arg12.view.writes (Elt F) f_arg12 (L_arg12 f_arg6 f_arg7 f_arg8 f_arg9 f_arg10 f_arg11 f_arg12 f_arg13 f_arg14 f_arg15 f_arg16)) (arg13.view.writes (Elt F) f_arg13 (L_arg13 f_arg6 f_arg7 f_arg8 f_arg9 f_arg10 f_arg11 f_arg12 f_arg13 f_arg14 f_arg15 f_arg16)) (arg14.view.writes (Elt F) f_arg14 (L_arg14 f_arg6 f_arg7 f_arg8 f_arg9 f_arg10 f_arg11 f_arg12 f_arg13 f_arg14 f_arg15 f_arg16)) (arg15.view.writes (Elt F) f_arg15 (L_arg15 f_arg6 f_arg7 f_arg8 f_arg9 f_arg10 f_arg11 f_arg12 f_arg13 f_arg14 f_arg15 f_arg16)) (arg16.view.writes (Elt F) f_arg16 (L_arg16 f_arg6 f_arg7 f_arg8 f_arg9 f_arg10 f_arg11 f_arg12 f_arg13 f_arg14 f_arg15 f_arg16))) } := by
  have hk : k.val < 64 := Nat.lt_of_lt_of_le k.isLt k0_t1_abs.2.1
  refine ⟨?_, ?_, ?_, ?_, ?_, ?_, ?_, ?_, ?_, ?_, ?_, fun E f_arg6 f_arg7 f_arg8 f_arg9 f_arg10 f_arg11 f_arg12 f_arg13 f_arg14 f_arg15 f_arg16 => ?run⟩
  case run =>
    unfold k0_t1_body
    iintro ⟨HR_arg1, HR_arg2, HR_arg3, HR_arg4, HR_arg5, HW_arg6, HW_arg7, HW_arg8, HW_arg9, HW_arg10, HW_arg11, HW_arg12, HW_arg13, HW_arg14, HW_arg15, HW_arg16⟩
    sl_exec
    sl_step
    sl_close

end Cert.Attend.Hand

end
-- ==== Proof.PLoop.lean ====
/- The loop over the heads by an invariant: whatever one trip's writes preserve, holds after all the trips. -/
module

public import proofs.«01_k».proof.Proof.PTrip

@[expose] public section

set_option maxRecDepth 16384
set_option maxHeartbeats 4000000

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The loop's resources before trip `k`: the inputs at their contents, the written memrefs at contents of which `J k` holds. -/
abbrev inv (c : Dev nD) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop) (k : ℕ) (_u : PUnit) : sProp 𝕄G :=
  iprop(∃ f6 f7 f8 f9 f10 f11 f12 f13 f14 f15 f16, Trip (F := F) c arg1 arg2 arg3 arg4 arg5 arg6 arg7 arg8 arg9 arg10 arg11 arg12 arg13 arg14 arg15 arg16 X1 X2 X3 X4 X5 f6 f7 f8 f9 f10 f11 f12 f13 f14 f15 f16 ∗ ⌜J k f6 f7 f8 f9 f10 f11 f12 f13 f14 f15⌝)

set_option warn.classDefReducibility false in
/-- The loop's invariant from a predicate `J` that one trip's writes preserve (`hJ`). -/
def loopInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 where
  inv := inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J
  step k acc := by
    iintro ⟨%f6, %f7, %f8, %f9, %f10, %f11, %f12, %f13, %f14, %f15, %f16, HT, %hj⟩
    iapply (wp_wand_r Idealize.ShloMosaic.frame (wpE (defs₀ (F := F)) 𝒱 (c : Thread nD τ) bd) E)
    isplitl [HT]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.2.2 E f6 f7 f8 f9 f10 f11 f12 f13 f14 f15 f16)
      iexact HT
    iintro %u HT
    iexists (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)), (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)), (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)), (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)), (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)), (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)), (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)), (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)), (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)), (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16)), (arg16.view.writes (Elt F) f16 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.2.1 f6 f7 f8 f9 f10 f11 f12 f13 f14 f15 f16))
    isplitl [HT]
    · iexact HT
    ipureintro
    exact hJ k f6 f7 f8 f9 f10 f11 f12 f13 f14 f15 f16 hj

theorem trips_eq : Scf.trips k0_t1_loop.lb k0_t1_loop.ub k0_t1_loop.st = 64 := by decide +kernel

theorem toInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) (u : PUnit) :
    inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J 0 u ⊢ (loopInv (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 J hJ).inv 0 u := .rfl

theorem ofInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) (u : PUnit) :
    (loopInv (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 J hJ).inv (Scf.trips k0_t1_loop.lb k0_t1_loop.ub k0_t1_loop.st) u ⊢ inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J 64 u := by
  rw [trips_eq]; exact .rfl

end Cert.Attend.Hand

end
-- ==== Proof.PKit.lean ====
/- The body's branch condition over the points, and the memrefs that the pipeline passes to the body. -/
module

public import proofs.«01_k».proof.Proof.Gen.Attend.Frame
public import Idealize.ShloMosaic.Lib.Pipeline.FrameBody
public import Idealize.ShloMosaic.Lib.Tactic
public import Idealize.ShloMosaic.Lib.WordCmp

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S64x1664x128 .fp8e4m3 := Memref.whole cc0_scratch0
abbrev scM0_1 : Memref sig .tc .vmem S64x1664x128 .fp8e4m3 := Memref.whole cc0_scratch1
abbrev scM0_2 : Memref sig .tc .vmem S64x16x128 .f32 := Memref.whole cc0_scratch2
abbrev scM0_3 : Memref sig .tc .vmem S128x1536 .f32 := Memref.whole cc0_scratch3
/-- The scratch `arg13` the kernel carries between points, as a view: what it holds is stated through it. -/
abbrev VS0_0 : View sig .tc .vmem S64x1664x128 .fp8e4m3 := scM0_0.view
/-- The scratch `arg14` the kernel carries between points, as a view: what it holds is stated through it. -/
abbrev VS0_1 : View sig .tc .vmem S64x1664x128 .fp8e4m3 := scM0_1.view
/-- The scratch `arg15` the kernel carries between points, as a view: what it holds is stated through it. -/
abbrev VS0_2 : View sig .tc .vmem S64x16x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Attend.Hand

end
-- ==== Proof.PBody.lean ====
/- The body of the kernel at one grid point, by the loop's invariant: what holds of the written memrefs after all the heads. -/
module

public import proofs.«01_k».proof.Proof.PLoop
public import proofs.«01_k».proof.Proof.PKit

@[expose] public section

set_option maxRecDepth 16384
set_option maxHeartbeats 4000000

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
local notation "𝕄G" => MT nD τ sig Unit (Elt F) ℕ (UR sig nD τ) ℕ

/-- The body at a point where its conditional is taken: from the inputs' blocks and any other contents, it ends with
    the inputs' blocks as they were and the written memrefs at contents of which `J 64` holds, for any `J` that a trip preserves. -/
theorem runA (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (hc0 : cond0_0 i) (x1 : Vec F S128x8192 .bf16) (x2 : Vec F S128x8192 .bf16) (x3 : Vec F S128x8192 .bf16) (x4 : Vec F S64x128 .f32) (x5 : Vec F S64x128 .f32) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).1 f6 f7 f8 f9 f10 f11 f12 f13 f14 f15 f16)) (arg7.view.writes (Elt F) f7 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.1 f6 f7 f8 f9 f10 f11 f12 f13 f14 f15 f16)) (arg8.view.writes (Elt F) f8 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.1 f6 f7 f8 f9 f10 f11 f12 f13 f14 f15 f16)) (arg9.view.writes (Elt F) f9 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.1 f6 f7 f8 f9 f10 f11 f12 f13 f14 f15 f16)) (arg10.view.writes (Elt F) f10 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.1 f6 f7 f8 f9 f10 f11 f12 f13 f14 f15 f16)) (arg11.view.writes (Elt F) f11 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.1 f6 f7 f8 f9 f10 f11 f12 f13 f14 f15 f16)) (arg12.view.writes (Elt F) f12 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.1 f6 f7 f8 f9 f10 f11 f12 f13 f14 f15 f16)) (arg13.view.writes (Elt F) f13 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.1 f6 f7 f8 f9 f10 f11 f12 f13 f14 f15 f16)) (arg14.view.writes (Elt F) f14 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.1 f6 f7 f8 f9 f10 f11 f12 f13 f14 f15 f16)) (arg15.view.writes (Elt F) f15 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.2.1 f6 f7 f8 f9 f10 f11 f12 f13 f14 f15 f16)))
    (hJ0 : ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty), J 0 f6 f7 f8 f9 f10 f11 f12 (arg13.view.writes (Elt F) f13 [⟨Rect.unit (s := S64x1664x128) ![0, 0, 0] S64x1664x128.size inb_S64x1664x128_S64x1664x128_0_0_0, k0_pay2 (F := F)⟩]) (arg14.view.writes (Elt F) f14 [⟨Rect.unit (s := S64x1664x128) ![0, 0, 0] S64x1664x128.size inb_S64x1664x128_S64x1664x128_0_0_0, k0_pay3 (F := F)⟩]) (arg15.view.writes (Elt F) f15 [⟨Rect.unit (s := S64x16x128) ![0, 0, 0] S64x16x128.size inb_S64x16x128_S64x16x128_0_0_0, k0_pay4 (F := F)⟩])) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ ∃ f6 f7 f8 f9 f10 f11 f12 f13 f14 f15 f16, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜J 64 f6 f7 f8 f9 f10 f11 f12 f13 f14 f15⌝) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attend_eq_skeleton]; unfold cc0_attend_skel
    simp only [k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc0)
    iapply (exec_loop (M := 𝕄G) frame (wpE (defs₀ (F := F)) Variants.none (c : Thread nD τ) none) E k0_t1_loop.lb k0_t1_loop.ub k0_t1_loop.st k0_t1_ok _ _ (loopInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ)) $$ [H1 H2 H3 H4 H5 H6 H7 H8 H9 H10 H11 H12 H13 H14 H15 H16]
    · iapply (toInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _)
      iexists _, _, _, _, _, _, _, _, _, _, _
      isplitl [H1 H2 H3 H4 H5 H6 H7 H8 H9 H10 H11 H12 H13 H14 H15 H16]
      · unfold Trip
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      ipureintro
      exact hJ0 _ _ _ _ _ _ _ _ _ _
    iintro %acc Hinv
    ihave Hinv := (ofInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _) $$ Hinv
    icases Hinv with ⟨%g6, %g7, %g8, %g9, %g10, %g11, %g12, %g13, %g14, %g15, %g16, HT, %hj⟩
    unfold Trip
    icases HT with ⟨H1, H2, H3, H4, H5, H6, H7, H8, H9, H10, H11, H12, H13, H14, H15, H16⟩
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists g6, g7, g8, g9, g10, g11, g12, g13, g14, g15, g16
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact hj

/-- The body at a point where its conditional is not taken: from the inputs' blocks and ring contents of which `J0` holds, it ends with
    the inputs' blocks as they were and the written memrefs at contents of which `J 64` holds, for any `J` that a trip preserves. -/
theorem runB (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (hc0 : ¬ cond0_0 i) (x1 : Vec F S128x8192 .bf16) (x2 : Vec F S128x8192 .bf16) (x3 : Vec F S128x8192 .bf16) (x4 : Vec F S64x128 .f32) (x5 : Vec F S64x128 .f32) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop) (J0 : Vec F S64x1664x128 .fp8e4m3 → Vec F S64x1664x128 .fp8e4m3 → Vec F S64x16x128 .f32 → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).1 f6 f7 f8 f9 f10 f11 f12 f13 f14 f15 f16)) (arg7.view.writes (Elt F) f7 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.1 f6 f7 f8 f9 f10 f11 f12 f13 f14 f15 f16)) (arg8.view.writes (Elt F) f8 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.1 f6 f7 f8 f9 f10 f11 f12 f13 f14 f15 f16)) (arg9.view.writes (Elt F) f9 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.1 f6 f7 f8 f9 f10 f11 f12 f13 f14 f15 f16)) (arg10.view.writes (Elt F) f10 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.1 f6 f7 f8 f9 f10 f11 f12 f13 f14 f15 f16)) (arg11.view.writes (Elt F) f11 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.1 f6 f7 f8 f9 f10 f11 f12 f13 f14 f15 f16)) (arg12.view.writes (Elt F) f12 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.1 f6 f7 f8 f9 f10 f11 f12 f13 f14 f15 f16)) (arg13.view.writes (Elt F) f13 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.1 f6 f7 f8 f9 f10 f11 f12 f13 f14 f15 f16)) (arg14.view.writes (Elt F) f14 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.1 f6 f7 f8 f9 f10 f11 f12 f13 f14 f15 f16)) (arg15.view.writes (Elt F) f15 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.2.1 f6 f7 f8 f9 f10 f11 f12 f13 f14 f15 f16)))
    (hJ0 : ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty), J0 (arg13.view.read (Elt F) f13) (arg14.view.read (Elt F) f14) (arg15.view.read (Elt F) f15) → J 0 f6 f7 f8 f9 f10 f11 f12 f13 f14 f15) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d13 d14 d15, owns (c : Thread nD τ) arg13 fullShare d13 ∗ owns (c : Thread nD τ) arg14 fullShare d14 ∗ owns (c : Thread nD τ) arg15 fullShare d15 ∗ ⌜J0 d13 d14 d15⌝) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ ∃ f6 f7 f8 f9 f10 f11 f12 f13 f14 f15 f16, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜J 64 f6 f7 f8 f9 f10 f11 f12 f13 f14 f15⌝) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attend_eq_skeleton]; unfold cc0_attend_skel
    simp only [k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %d14, %d15, ⟨%f13, %hf13, H13⟩, ⟨%f14, %hf14, H14⟩, ⟨%f15, %hf15, H15⟩, %hj0⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5
    rw [← hf13, ← hf14, ← hf15] at hj0
    sl_exec (disch := first | sl_exact hc0)
    iapply (exec_loop (M := 𝕄G) frame (wpE (defs₀ (F := F)) Variants.none (c : Thread nD τ) none) E k0_t1_loop.lb k0_t1_loop.ub k0_t1_loop.st k0_t1_ok _ _ (loopInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ)) $$ [H1 H2 H3 H4 H5 H6 H7 H8 H9 H10 H11 H12 H13 H14 H15 H16]
    · iapply (toInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _)
      iexists _, _, _, _, _, _, _, _, _, _, _
      isplitl [H1 H2 H3 H4 H5 H6 H7 H8 H9 H10 H11 H12 H13 H14 H15 H16]
      · unfold Trip
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      ipureintro
      exact hJ0 _ _ _ _ _ _ _ _ _ _ hj0
    iintro %acc Hinv
    ihave Hinv := (ofInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _) $$ Hinv
    icases Hinv with ⟨%g6, %g7, %g8, %g9, %g10, %g11, %g12, %g13, %g14, %g15, %g16, HT, %hj⟩
    unfold Trip
    icases HT with ⟨H1, H2, H3, H4, H5, H6, H7, H8, H9, H10, H11, H12, H13, H14, H15, H16⟩
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists g6, g7, g8, g9, g10, g11, g12, g13, g14, g15, g16
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact hj

end Cert.Attend.Hand

end
-- ==== Proof.PRun.lean ====
/- The frame run with a predicate on what the body leaves: a `Spec` says what holds of the written memrefs before each head
   of each grid point, and the run then ends with every output block as the `Spec` says. -/
module

public import proofs.«01_k».proof.Proof.PBody
public import Idealize.ShloMosaic.Lib.Pipeline.DatRel
public import Idealize.ShloMosaic.Lib.Pipeline.ArrRel

@[expose] public section

set_option maxRecDepth 16384

noncomputable section

namespace Cert.Attend.Hand

open Cert.Attend Cert.Attend.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is to hold of the written memrefs' contents, and that the body makes it hold: `P t k` before head `k` at point `t` (of the
    outputs' blocks in order, then the two rings of codes and the ring of scales), `RP n` of the rings before point `n ≥ 1`, `Q w t` of
    what is left in output window `w` at point `t`. -/
structure Spec (c : Dev nD) where
  P : Fin cfg0.N → ℕ → Vec F S128x8192 .bf16 → Vec F S128x8192 .fp8e4m3 → Vec F S128x8192 .fp8e4m3 → Vec F S128x8192 .fp8e4m3 → Vec F S1x64x128 .f32 → Vec F S1x64x128 .f32 → Vec F S1x64x128 .f32 → Vec F S64x1664x128 .fp8e4m3 → Vec F S64x1664x128 .fp8e4m3 → Vec F S64x16x128 .f32 → Prop
  RP : ℕ → Vec F S64x1664x128 .fp8e4m3 → Vec F S64x1664x128 .fp8e4m3 → Vec F S64x16x128 .f32 → Prop
  Q5 : Fin cfg0.N → Vec F S128x8192 .bf16 → Prop
  Q6 : Fin cfg0.N → Vec F S128x8192 .fp8e4m3 → Prop
  Q7 : Fin cfg0.N → Vec F S128x8192 .fp8e4m3 → Prop
  Q8 : Fin cfg0.N → Vec F S128x8192 .fp8e4m3 → Prop
  Q9 : Fin cfg0.N → Vec F S1x64x128 .f32 → Prop
  Q10 : Fin cfg0.N → Vec F S1x64x128 .f32 → Prop
  Q11 : Fin cfg0.N → Vec F S1x64x128 .f32 → Prop
  /-- One head. -/
  step : ∀ (t : Fin cfg0.N) (k : Fin k0_t1_loop.trips) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) scM0_0.view.ty) (f14 : BufTy.Contents (Elt F) scM0_1.view.ty) (f15 : BufTy.Contents (Elt F) scM0_2.view.ty) (f16 : BufTy.Contents (Elt F) scM0_3.view.ty), P t k.val ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15) →
    P t (k.val + 1) ((ms0_5 t).view.read (Elt F) ((ms0_5 t).view.writes (Elt F) f6 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).1 f6 f7 f8 f9 f10 f11 f12 f13 f14 f15 f16))) ((ms0_6 t).view.read (Elt F) ((ms0_6 t).view.writes (Elt F) f7 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.1 f6 f7 f8 f9 f10 f11 f12 f13 f14 f15 f16))) ((ms0_7 t).view.read (Elt F) ((ms0_7 t).view.writes (Elt F) f8 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.1 f6 f7 f8 f9 f10 f11 f12 f13 f14 f15 f16))) ((ms0_8 t).view.read (Elt F) ((ms0_8 t).view.writes (Elt F) f9 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.1 f6 f7 f8 f9 f10 f11 f12 f13 f14 f15 f16))) ((ms0_9 t).view.read (Elt F) ((ms0_9 t).view.writes (Elt F) f10 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.1 f6 f7 f8 f9 f10 f11 f12 f13 f14 f15 f16))) ((ms0_10 t).view.read (Elt F) ((ms0_10 t).view.writes (Elt F) f11 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.1 f6 f7 f8 f9 f10 f11 f12 f13 f14 f15 f16))) ((ms0_11 t).view.read (Elt F) ((ms0_11 t).view.writes (Elt F) f12 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.1 f6 f7 f8 f9 f10 f11 f12 f13 f14 f15 f16))) (scM0_0.view.read (Elt F) (scM0_0.view.writes (Elt F) f13 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.1 f6 f7 f8 f9 f10 f11 f12 f13 f14 f15 f16))) (scM0_1.view.read (Elt F) (scM0_1.view.writes (Elt F) f14 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.2.1 f6 f7 f8 f9 f10 f11 f12 f13 f14 f15 f16))) (scM0_2.view.read (Elt F) (scM0_2.view.writes (Elt F) f15 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.2.2.1 f6 f7 f8 f9 f10 f11 f12 f13 f14 f15 f16)))
  /-- The first point, its rings just filled. -/
  init : ∀ (t : Fin cfg0.N), t.val = 0 → ∀ (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) scM0_0.view.ty) (f14 : BufTy.Contents (Elt F) scM0_1.view.ty) (f15 : BufTy.Contents (Elt F) scM0_2.view.ty), P t 0 ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) (scM0_0.view.writes (Elt F) f13 [⟨Rect.unit (s := S64x1664x128) ![0, 0, 0] S64x1664x128.size inb_S64x1664x128_S64x1664x128_0_0_0, k0_pay2 (F := F)⟩])) (scM0_1.view.read (Elt F) (scM0_1.view.writes (Elt F) f14 [⟨Rect.unit (s := S64x1664x128) ![0, 0, 0] S64x1664x128.size inb_S64x1664x128_S64x1664x128_0_0_0, k0_pay3 (F := F)⟩])) (scM0_2.view.read (Elt F) (scM0_2.view.writes (Elt F) f15 [⟨Rect.unit (s := S64x16x128) ![0, 0, 0] S64x16x128.size inb_S64x16x128_S64x16x128_0_0_0, k0_pay4 (F := F)⟩]))
  /-- The start of a later point. -/
  enter : ∀ (t : Fin cfg0.N), t.val ≠ 0 → ∀ (X6 : Vec F S128x8192 .bf16) (X7 : Vec F S128x8192 .fp8e4m3) (X8 : Vec F S128x8192 .fp8e4m3) (X9 : Vec F S128x8192 .fp8e4m3) (X10 : Vec F S1x64x128 .f32) (X11 : Vec F S1x64x128 .f32) (X12 : Vec F S1x64x128 .f32) (X13 : Vec F S64x1664x128 .fp8e4m3) (X14 : Vec F S64x1664x128 .fp8e4m3) (X15 : Vec F S64x16x128 .f32), RP t.val X13 X14 X15 → P t 0 X6 X7 X8 X9 X10 X11 X12 X13 X14 X15
  /-- The end of a point. -/
  leave : ∀ (t : Fin cfg0.N) (X6 : Vec F S128x8192 .bf16) (X7 : Vec F S128x8192 .fp8e4m3) (X8 : Vec F S128x8192 .fp8e4m3) (X9 : Vec F S128x8192 .fp8e4m3) (X10 : Vec F S1x64x128 .f32) (X11 : Vec F S1x64x128 .f32) (X12 : Vec F S1x64x128 .f32) (X13 : Vec F S64x1664x128 .fp8e4m3) (X14 : Vec F S64x1664x128 .fp8e4m3) (X15 : Vec F S64x16x128 .f32), P t 64 X6 X7 X8 X9 X10 X11 X12 X13 X14 X15 → Q5 t X6 ∧ Q6 t X7 ∧ Q7 t X8 ∧ Q8 t X9 ∧ Q9 t X10 ∧ Q10 t X11 ∧ Q11 t X12 ∧ RP (t.val + 1) X13 X14 X15

variable {m} (S : (c : Dev nD) → Spec (F := F) m c)

/-- What is to hold of an output window's block at point `t`. -/
def Spec.Rl {c : Dev nD} (S : Spec (F := F) m c) (w : Fin cfg0.W) (t : Fin cfg0.N) : ((cfg0.win w).block.Idx → Elt F (cfg0.win w).elt) → Prop := match w with
  | ⟨5, _⟩ => fun X => S.Q5 t X
  | ⟨6, _⟩ => fun X => S.Q6 t X
  | ⟨7, _⟩ => fun X => S.Q7 t X
  | ⟨8, _⟩ => fun X => S.Q8 t X
  | ⟨9, _⟩ => fun X => S.Q9 t X
  | ⟨10, _⟩ => fun X => S.Q10 t X
  | ⟨11, _⟩ => fun X => S.Q11 t X
  | ⟨0, _⟩ => fun _ => True
  | ⟨1, _⟩ => fun _ => True
  | ⟨2, _⟩ => fun _ => True
  | ⟨3, _⟩ => fun _ => True
  | ⟨4, _⟩ => fun _ => True

/-- The invariant before point `n`: at first anything, then rings of which `RP n` holds. -/
def PhiR (c : Dev nD) : ℕ → sProp 𝕄
  | 0 => Pipeline.ΦA spec0 c
  | n + 1 => iprop(iprop((∃ e0 e1 e2, owns (c : Thread nD τ) scM0_0 fullShare e0 ∗ owns (c : Thread nD τ) scM0_1 fullShare e1 ∗ owns (c : Thread nD τ) scM0_2 fullShare e2 ∗ ⌜(S c).RP (n + 1) e0 e1 e2⌝) ∗ (∃ d, owns (c : Thread nD τ) scM0_3 fullShare d)) ∗ (∃ r, prngReg c r))

theorem PhiR_pos (c : Dev nD) (n : ℕ) (hz : n ≠ 0) : PhiR S c n = iprop(iprop((∃ e0 e1 e2, owns (c : Thread nD τ) scM0_0 fullShare e0 ∗ owns (c : Thread nD τ) scM0_1 fullShare e1 ∗ owns (c : Thread nD τ) scM0_2 fullShare e2 ∗ ⌜(S c).RP n e0 e1 e2⌝) ∗ (∃ d, owns (c : Thread nD τ) scM0_3 fullShare d)) ∗ (∃ r, prngReg c r)) := by
  cases n with
  | zero => exact absurd rfl hz
  | succ n => rfl

/-- The windows held to a predicate: the outputs. -/
def outs0 : Fin 12 → Bool := fun w => w.val == 5 || w.val == 6 || w.val == 7 || w.val == 8 || w.val == 9 || w.val == 10 || w.val == 11

/-- The proof data: inputs at their blocks, the invariant `PhiR`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiR S c t.val
  q _ := fullShare
  owed _ := 0

theorem A_eq (c : Dev nD) (w : Fin cfg0.W) : (dats S 0 c).A w = V m c (Pipeline.arrRef spec0 w) := by
  dsimp only [dats]

theorem after0_0 (c : Dev nD) (t : Fin cfg0.N) : (dats S 0 c).after 0 t = iblk m c 0 t := by dsimp only [dats]
theorem after0_1 (c : Dev nD) (t : Fin cfg0.N) : (dats S 0 c).after 1 t = iblk m c 1 t := by dsimp only [dats]
theorem after0_2 (c : Dev nD) (t : Fin cfg0.N) : (dats S 0 c).after 2 t = iblk m c 2 t := by dsimp only [dats]
theorem after0_3 (c : Dev nD) (t : Fin cfg0.N) : (dats S 0 c).after 3 t = iblk m c 3 t := by dsimp only [dats]
theorem after0_4 (c : Dev nD) (t : Fin cfg0.N) : (dats S 0 c).after 4 t = iblk m c 4 t := by dsimp only [dats]
theorem before0_0 (c : Dev nD) (t : Fin cfg0.N) (d) : (dats S 0 c).before 0 t d = iblk m c 0 t :=
  before0_0_of m (dats S 0 c) (A_eq S c 0) (after0_0 S c) t d
theorem before0_1 (c : Dev nD) (t : Fin cfg0.N) (d) : (dats S 0 c).before 1 t d = iblk m c 1 t :=
  before0_1_of m (dats S 0 c) (A_eq S c 1) (after0_1 S c) t d
theorem before0_2 (c : Dev nD) (t : Fin cfg0.N) (d) : (dats S 0 c).before 2 t d = iblk m c 2 t :=
  before0_2_of m (dats S 0 c) (A_eq S c 2) (after0_2 S c) t d
theorem before0_3 (c : Dev nD) (t : Fin cfg0.N) (d) : (dats S 0 c).before 3 t d = iblk m c 3 t :=
  before0_3_of m (dats S 0 c) (A_eq S c 3) (after0_3 S c) t d
theorem before0_4 (c : Dev nD) (t : Fin cfg0.N) (d) : (dats S 0 c).before 4 t d = iblk m c 4 t :=
  before0_4_of m (dats S 0 c) (A_eq S c 4) (after0_4 S c) t d

/-- The proof data with the outputs held to the `Spec`. -/
abbrev rdats (c : Dev nD) : Pipeline.RDat τ (Elt F) Unit ℕ (UR sig nD τ) ℕ (cfgs 0) c := (dats S 0 c).toRRel outs0 (S c).Rl

/-- What the body is called with at point `t`, -/
def bodyPre (c : Dev nD) (t : Fin cfg0.N) : sProp 𝕄 :=
  iprop((dats S 0 c).Φ t.castSucc ∗ (dats S 0 c).owesAt () t.castSucc
    ∗ (∃ d, owns (c : Thread nD τ) (ms0_0 t) fullShare ((dats S 0 c).before 0 t d))
    ∗ (∃ d, owns (c : Thread nD τ) (ms0_1 t) fullShare ((dats S 0 c).before 1 t d))
    ∗ (∃ d, owns (c : Thread nD τ) (ms0_2 t) fullShare ((dats S 0 c).before 2 t d))
    ∗ (∃ d, owns (c : Thread nD τ) (ms0_3 t) fullShare ((dats S 0 c).before 3 t d))
    ∗ (∃ d, owns (c : Thread nD τ) (ms0_4 t) fullShare ((dats S 0 c).before 4 t d))
    ∗ (∃ Y, ⌜((dats S 0 c).toRRel outs0 (S c).Rl).Finds 5 t Y⌝ ∗ owns (c : Thread nD τ) (ms0_5 t) fullShare Y)
    ∗ (∃ Y, ⌜((dats S 0 c).toRRel outs0 (S c).Rl).Finds 6 t Y⌝ ∗ owns (c : Thread nD τ) (ms0_6 t) fullShare Y)
    ∗ (∃ Y, ⌜((dats S 0 c).toRRel outs0 (S c).Rl).Finds 7 t Y⌝ ∗ owns (c : Thread nD τ) (ms0_7 t) fullShare Y)
    ∗ (∃ Y, ⌜((dats S 0 c).toRRel outs0 (S c).Rl).Finds 8 t Y⌝ ∗ owns (c : Thread nD τ) (ms0_8 t) fullShare Y)
    ∗ (∃ Y, ⌜((dats S 0 c).toRRel outs0 (S c).Rl).Finds 9 t Y⌝ ∗ owns (c : Thread nD τ) (ms0_9 t) fullShare Y)
    ∗ (∃ Y, ⌜((dats S 0 c).toRRel outs0 (S c).Rl).Finds 10 t Y⌝ ∗ owns (c : Thread nD τ) (ms0_10 t) fullShare Y)
    ∗ (∃ Y, ⌜((dats S 0 c).toRRel outs0 (S c).Rl).Finds 11 t Y⌝ ∗ owns (c : Thread nD τ) (ms0_11 t) fullShare Y))

/-- and what it returns. -/
def bodyPost (c : Dev nD) (t : Fin cfg0.N) : sProp 𝕄 :=
  iprop((dats S 0 c).Φ t.succ ∗ (dats S 0 c).owesAt () t.succ
    ∗ owns (c : Thread nD τ) (ms0_0 t) fullShare ((dats S 0 c).after 0 t)
    ∗ owns (c : Thread nD τ) (ms0_1 t) fullShare ((dats S 0 c).after 1 t)
    ∗ owns (c : Thread nD τ) (ms0_2 t) fullShare ((dats S 0 c).after 2 t)
    ∗ owns (c : Thread nD τ) (ms0_3 t) fullShare ((dats S 0 c).after 3 t)
    ∗ owns (c : Thread nD τ) (ms0_4 t) fullShare ((dats S 0 c).after 4 t)
    ∗ (∃ X, ⌜(S c).Q5 t X⌝ ∗ owns (c : Thread nD τ) (ms0_5 t) fullShare X)
    ∗ (∃ X, ⌜(S c).Q6 t X⌝ ∗ owns (c : Thread nD τ) (ms0_6 t) fullShare X)
    ∗ (∃ X, ⌜(S c).Q7 t X⌝ ∗ owns (c : Thread nD τ) (ms0_7 t) fullShare X)
    ∗ (∃ X, ⌜(S c).Q8 t X⌝ ∗ owns (c : Thread nD τ) (ms0_8 t) fullShare X)
    ∗ (∃ X, ⌜(S c).Q9 t X⌝ ∗ owns (c : Thread nD τ) (ms0_9 t) fullShare X)
    ∗ (∃ X, ⌜(S c).Q10 t X⌝ ∗ owns (c : Thread nD τ) (ms0_10 t) fullShare X)
    ∗ (∃ X, ⌜(S c).Q11 t X⌝ ∗ owns (c : Thread nD τ) (ms0_11 t) fullShare X))

/-- The body at the first point. -/
theorem sound_first (c : Dev nD) (S : Spec (F := F) m c) (t : Fin cfg0.N) (h0 : t.val % 128 = 0) (hz : t.val = 0) (Fo : sProp 𝕄) :
    iprop(Pipeline.ΦA spec0 c ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ Y, owns (c : Thread nD τ) (ms0_5 t) fullShare Y)
      ∗ (∃ Y, owns (c : Thread nD τ) (ms0_6 t) fullShare Y)
      ∗ (∃ Y, owns (c : Thread nD τ) (ms0_7 t) fullShare Y)
      ∗ (∃ Y, owns (c : Thread nD τ) (ms0_8 t) fullShare Y)
      ∗ (∃ Y, owns (c : Thread nD τ) (ms0_9 t) fullShare Y)
      ∗ (∃ Y, owns (c : Thread nD τ) (ms0_10 t) fullShare Y)
      ∗ (∃ Y, owns (c : Thread nD τ) (ms0_11 t) fullShare Y))
      ⊢ wp frame (wpE (defs₀ (F := F)) Variants.none c none) Set.univ (bodyAt0 t) (fun _ => iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val + 1) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ X, ⌜S.Q5 t X⌝ ∗ owns (c : Thread nD τ) (ms0_5 t) fullShare X)
      ∗ (∃ X, ⌜S.Q6 t X⌝ ∗ owns (c : Thread nD τ) (ms0_6 t) fullShare X)
      ∗ (∃ X, ⌜S.Q7 t X⌝ ∗ owns (c : Thread nD τ) (ms0_7 t) fullShare X)
      ∗ (∃ X, ⌜S.Q8 t X⌝ ∗ owns (c : Thread nD τ) (ms0_8 t) fullShare X)
      ∗ (∃ X, ⌜S.Q9 t X⌝ ∗ owns (c : Thread nD τ) (ms0_9 t) fullShare X)
      ∗ (∃ X, ⌜S.Q10 t X⌝ ∗ owns (c : Thread nD τ) (ms0_10 t) fullShare X)
      ∗ (∃ X, ⌜S.Q11 t X⌝ ∗ owns (c : Thread nD τ) (ms0_11 t) fullShare X))) := by
  unfold bodyAt0
  rw [PhiA0_eq]
  iintro ⟨⟨⟨HS0, HS1, HS2, HS3⟩, Hg⟩, Ho, H0, H1, H2, H3, H4, ⟨%d5, H5⟩, ⟨%d6, H6⟩, ⟨%d7, H7⟩, ⟨%d8, H8⟩, ⟨%d9, H9⟩, ⟨%d10, H10⟩, ⟨%d11, H11⟩⟩
  iapply (runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (fun k f6 f7 f8 f9 f10 f11 f12 f13 f14 f15 => S.P t k ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15)) (fun k f6 f7 f8 f9 f10 f11 f12 f13 f14 f15 f16 h => S.step t k f6 f7 f8 f9 f10 f11 f12 f13 f14 f15 f16 h) (fun f6 f7 f8 f9 f10 f11 f12 f13 f14 f15 => S.init t hz f6 f7 f8 f9 f10 f11 f12 f13 f14 f15) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, %g6, %g7, %g8, %g9, %g10, %g11, %g12, %g13, %g14, %g15, %g16, G6, G7, G8, G9, G10, G11, G12, G13, G14, G15, G16, %hj⟩
  obtain ⟨hq6, hq7, hq8, hq9, hq10, hq11, hq12, hr'⟩ := S.leave t _ _ _ _ _ _ _ _ _ _ hj
  isplitl [G13 G14 G15 G16 Hg]
  · isplitl [G13 G14 G15 G16]
    · isplitl [G13 G14 G15]
      · iexists _, _, _
        isplitl [G13]
        · unfold owns; iexists _; isplitr
          swap; · iexact G13
          ipureintro; rfl
        isplitl [G14]
        · unfold owns; iexists _; isplitr
          swap; · iexact G14
          ipureintro; rfl
        isplitl [G15]
        · unfold owns; iexists _; isplitr
          swap; · iexact G15
          ipureintro; rfl
        ipureintro; exact hr'
      iexists _; unfold owns; iexists _; isplitr
      swap; · iexact G16
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [G6]
  · iexists _; isplitr
    · ipureintro; exact hq6
    unfold owns; iexists _; isplitr
    swap; · iexact G6
    ipureintro; rfl
  isplitl [G7]
  · iexists _; isplitr
    · ipureintro; exact hq7
    unfold owns; iexists _; isplitr
    swap; · iexact G7
    ipureintro; rfl
  isplitl [G8]
  · iexists _; isplitr
    · ipureintro; exact hq8
    unfold owns; iexists _; isplitr
    swap; · iexact G8
    ipureintro; rfl
  isplitl [G9]
  · iexists _; isplitr
    · ipureintro; exact hq9
    unfold owns; iexists _; isplitr
    swap; · iexact G9
    ipureintro; rfl
  isplitl [G10]
  · iexists _; isplitr
    · ipureintro; exact hq10
    unfold owns; iexists _; isplitr
    swap; · iexact G10
    ipureintro; rfl
  isplitl [G11]
  · iexists _; isplitr
    · ipureintro; exact hq11
    unfold owns; iexists _; isplitr
    swap; · iexact G11
    ipureintro; rfl
  iexists _; isplitr
  · ipureintro; exact hq12
  unfold owns; iexists _; isplitr
  swap; · iexact G12
  ipureintro; rfl

/-- The body at a later point. -/
theorem sound_later (c : Dev nD) (S : Spec (F := F) m c) (t : Fin cfg0.N) (h0 : ¬ t.val % 128 = 0) (hz : t.val ≠ 0) (Fo : sProp 𝕄) :
    iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ Y, owns (c : Thread nD τ) (ms0_5 t) fullShare Y)
      ∗ (∃ Y, owns (c : Thread nD τ) (ms0_6 t) fullShare Y)
      ∗ (∃ Y, owns (c : Thread nD τ) (ms0_7 t) fullShare Y)
      ∗ (∃ Y, owns (c : Thread nD τ) (ms0_8 t) fullShare Y)
      ∗ (∃ Y, owns (c : Thread nD τ) (ms0_9 t) fullShare Y)
      ∗ (∃ Y, owns (c : Thread nD τ) (ms0_10 t) fullShare Y)
      ∗ (∃ Y, owns (c : Thread nD τ) (ms0_11 t) fullShare Y))
      ⊢ wp frame (wpE (defs₀ (F := F)) Variants.none c none) Set.univ (bodyAt0 t) (fun _ => iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val + 1) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ X, ⌜S.Q5 t X⌝ ∗ owns (c : Thread nD τ) (ms0_5 t) fullShare X)
      ∗ (∃ X, ⌜S.Q6 t X⌝ ∗ owns (c : Thread nD τ) (ms0_6 t) fullShare X)
      ∗ (∃ X, ⌜S.Q7 t X⌝ ∗ owns (c : Thread nD τ) (ms0_7 t) fullShare X)
      ∗ (∃ X, ⌜S.Q8 t X⌝ ∗ owns (c : Thread nD τ) (ms0_8 t) fullShare X)
      ∗ (∃ X, ⌜S.Q9 t X⌝ ∗ owns (c : Thread nD τ) (ms0_9 t) fullShare X)
      ∗ (∃ X, ⌜S.Q10 t X⌝ ∗ owns (c : Thread nD τ) (ms0_10 t) fullShare X)
      ∗ (∃ X, ⌜S.Q11 t X⌝ ∗ owns (c : Thread nD τ) (ms0_11 t) fullShare X))) := by
  unfold bodyAt0
  iintro ⟨⟨⟨⟨%e0, %e1, %e2, HS0, HS1, HS2, %hr⟩, HS3⟩, Hg⟩, Ho, H0, H1, H2, H3, H4, ⟨%d5, H5⟩, ⟨%d6, H6⟩, ⟨%d7, H7⟩, ⟨%d8, H8⟩, ⟨%d9, H9⟩, ⟨%d10, H10⟩, ⟨%d11, H11⟩⟩
  iapply (runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (fun k f6 f7 f8 f9 f10 f11 f12 f13 f14 f15 => S.P t k ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15)) (S.RP t.val) (fun k f6 f7 f8 f9 f10 f11 f12 f13 f14 f15 f16 h => S.step t k f6 f7 f8 f9 f10 f11 f12 f13 f14 f15 f16 h) (fun f6 f7 f8 f9 f10 f11 f12 f13 f14 f15 h => S.enter t hz _ _ _ _ _ _ _ _ _ _ h) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0 HS1 HS2]
  · iexists e0, e1, e2
    isplitl [HS0]; · iexact HS0
    isplitl [HS1]; · iexact HS1
    isplitl [HS2]; · iexact HS2
    ipureintro; exact hr
  isplitl [HS3]; · iexact HS3
  iintro ⟨H0, H1, H2, H3, H4, %g6, %g7, %g8, %g9, %g10, %g11, %g12, %g13, %g14, %g15, %g16, G6, G7, G8, G9, G10, G11, G12, G13, G14, G15, G16, %hj⟩
  obtain ⟨hq6, hq7, hq8, hq9, hq10, hq11, hq12, hr'⟩ := S.leave t _ _ _ _ _ _ _ _ _ _ hj
  isplitl [G13 G14 G15 G16 Hg]
  · isplitl [G13 G14 G15 G16]
    · isplitl [G13 G14 G15]
      · iexists _, _, _
        isplitl [G13]
        · unfold owns; iexists _; isplitr
          swap; · iexact G13
          ipureintro; rfl
        isplitl [G14]
        · unfold owns; iexists _; isplitr
          swap; · iexact G14
          ipureintro; rfl
        isplitl [G15]
        · unfold owns; iexists _; isplitr
          swap; · iexact G15
          ipureintro; rfl
        ipureintro; exact hr'
      iexists _; unfold owns; iexists _; isplitr
      swap; · iexact G16
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [G6]
  · iexists _; isplitr
    · ipureintro; exact hq6
    unfold owns; iexists _; isplitr
    swap; · iexact G6
    ipureintro; rfl
  isplitl [G7]
  · iexists _; isplitr
    · ipureintro; exact hq7
    unfold owns; iexists _; isplitr
    swap; · iexact G7
    ipureintro; rfl
  isplitl [G8]
  · iexists _; isplitr
    · ipureintro; exact hq8
    unfold owns; iexists _; isplitr
    swap; · iexact G8
    ipureintro; rfl
  isplitl [G9]
  · iexists _; isplitr
    · ipureintro; exact hq9
    unfold owns; iexists _; isplitr
    swap; · iexact G9
    ipureintro; rfl
  isplitl [G10]
  · iexists _; isplitr
    · ipureintro; exact hq10
    unfold owns; iexists _; isplitr
    swap; · iexact G10
    ipureintro; rfl
  isplitl [G11]
  · iexists _; isplitr
    · ipureintro; exact hq11
    unfold owns; iexists _; isplitr
    swap; · iexact G11
    ipureintro; rfl
  iexists _; isplitr
  · ipureintro; exact hq12
  unfold owns; iexists _; isplitr
  swap; · iexact G12
  ipureintro; rfl

/-- The body at any point. -/
theorem sound_body (c : Dev nD) (t : Fin cfg0.N) :
    bodyPre S c t ⊢ wp frame (wpE (defs₀ (F := F)) Variants.none c none) Set.univ (bodyAt0 t) (fun _ => bodyPost S c t) := by
  unfold bodyPre bodyPost
  simp only [before0_0, before0_1, before0_2, before0_3, before0_4]
  rw [show (dats S 0 c).owesAt () t.succ = (dats S 0 c).owesAt () t.castSucc from rfl,
    after0_0, after0_1, after0_2, after0_3, after0_4]
  rw [show (dats S 0 c).Φ t.succ = PhiR S c (t.val + 1) from rfl, PhiR_pos S c (t.val + 1) (Nat.succ_ne_zero _),
    show (dats S 0 c).Φ t.castSucc = PhiR S c t.val from rfl]
  have hN : t.val < 128 := lt_of_lt_of_eq t.isLt (show cfg0.N = 128 from N_0)
  by_cases hz : t.val = 0
  · rw [show PhiR S c t.val = Pipeline.ΦA spec0 c from by rw [hz]; rfl]
    iintro ⟨HP, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%d8, -, H8⟩, ⟨%d9, -, H9⟩, ⟨%d10, -, H10⟩, ⟨%d11, -, H11⟩⟩
    iapply (sound_first c (S c) t (by omega) hz ((dats S 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · rw [PhiR_pos S c t.val hz]
    iintro ⟨HP, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%d8, -, H8⟩, ⟨%d9, -, H9⟩, ⟨%d10, -, H10⟩, ⟨%d11, -, H11⟩⟩
    iapply (sound_later c (S c) t (by omega) hz ((dats S 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats S 0 c) (defs₀ (F := F)) Variants.none () Set.univ outs0 (S c).Rl := fun t => by
  rw [bigSep_W0, bigSep_W0, defs₀_row]
  exact triple_restated (sound_body S c t) rfl .rfl fun _ => .rfl

theorem hin (c : Dev nD) : Pipeline.ΦA spec0 c ⊢ (dats S 0 c).Φ 0 := by
  rw [show (dats S 0 c).Φ 0 = Pipeline.ΦA spec0 c from rfl]

theorem hout (c : Dev nD) : (dats S 0 c).Φ (Fin.last cfg0.N) ⊢ Pipeline.ΦA spec0 c := by
  rw [show (dats S 0 c).Φ (Fin.last cfg0.N) = PhiR S c cfg0.N from rfl, PhiR_pos S c cfg0.N (by rw [show cfg0.N = 128 from N_0]; omega), PhiA0_eq]
  iintro ⟨⟨⟨%e0, %e1, %e2, HS0, HS1, HS2, -⟩, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

set_option backward.isDefEq.respectTransparency.types false in
/-- The launch: every final state has each output array as the `Spec` says, and every semaphore counter at zero. -/
theorem run_main : θ_run defs (onTc (τ := τ) (main (F := F))) (s₀ m ρ) (fun r => (Pipeline.RDat.FramePost (cfgs 0) (rdats S) (V m)) r ∧ r.2.sem = fun _ => 0) :=
  Pipeline.RDat.θ_run_frame_track (Q' := _) (hQ' := fun _ h => h) (cfgs := cfgs) (p := (0 : Fin 1)) (kit := launch0) (defs₀ := defs₀) (𝒱₀ := Variants.none) (rdat := rdats S) (m := m) (g := ρ) (main := main)
    (hbody := fun c => (body_obligation S c).toRRel) (hshare := fun c => (dats S 0 c).share_full fun _ => rfl)
    (howed := fun _ _ => rfl) (V := V m) (hmain := hmain m Variants.none) (hA := A_eq S) (hin := hin S) (hout := hout S)

/-- The frame: the run ends, the arguments are unchanged, the counters are zero. -/
theorem frame_hand (S : (c : Dev nD) → Spec (F := F) m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq S c 0).trans (V_main_arg0 m c)),
    (Pipeline.RDat.FramePost.arr_in h.1 c 1 rfl).trans ((A_eq S c 1).trans (V_main_arg1 m c)),
    (Pipeline.RDat.FramePost.arr_in h.1 c 2 rfl).trans ((A_eq S c 2).trans (V_main_arg2 m c)),
    (Pipeline.RDat.FramePost.arr_in h.1 c 3 rfl).trans ((A_eq S c 3).trans (V_main_arg3 m c)),
    (Pipeline.RDat.FramePost.arr_in h.1 c 4 rfl).trans ((A_eq S c 4).trans (V_main_arg4 m c))⟩, h.2⟩) (run_main ρ S)

end Cert.Attend.Hand

end
-- ==== Proof.Trip.lean ====
/- One trip of the kernel's loop over the heads: what it reads, and the pieces it writes into the outputs, the ring
   buffers and the score buffer. -/
module

public import proofs.«01_k».proof.Proof.Gen.AttendIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ
/-- One trip's resources: what the region reads (arg1, arg2, arg3, arg4, arg5) at its contents, what
   it writes (arg6, arg7, arg8, arg9, arg10, arg11, arg12, arg13, arg14, arg15, arg16) at any. -/
abbrev Trip (c : Dev nD) (arg1 : Memref sig .tc .vmem S128x8192 .bf16) (arg2 : Memref sig .tc .vmem S128x8192 .bf16) (arg3 : Memref sig .tc .vmem S128x8192 .bf16) (arg4 : Memref sig .tc .vmem S64x128 .f32) (arg5 : Memref sig .tc .vmem S64x128 .f32) (arg6 : Memref sig .tc .vmem S128x8192 .bf16) (arg7 : Memref sig .tc .vmem S128x8192 .fp8e4m3) (arg8 : Memref sig .tc .vmem S128x8192 .fp8e4m3) (arg9 : Memref sig .tc .vmem S128x8192 .fp8e4m3) (arg10 : Memref sig .tc .vmem S1x64x128 .f32) (arg11 : Memref sig .tc .vmem S1x64x128 .f32) (arg12 : Memref sig .tc .vmem S1x64x128 .f32) (arg13 : Memref sig .tc .vmem S64x1664x128 .fp8e4m3) (arg14 : Memref sig .tc .vmem S64x1664x128 .fp8e4m3) (arg15 : Memref sig .tc .vmem S64x16x128 .f32) (arg16 : Memref sig .tc .vmem S128x1536 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} f_arg6) ∗ (arg7.view.loc (c : Thread nD τ) ↦[arg7.view.set]{fullShare} f_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16))

/-- One trip of the loop over the heads, at a symbolic trip `k`, run by `sl_exec`: the pieces it writes into each memref
   are the run's own finds, as functions of the contents the trip finds in the memrefs it writes. -/
@[irreducible] def trip (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips) :
    Σ' (L_arg6 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .bf16))) (L_arg7 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg8 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg9 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x8192 .fp8e4m3))) (L_arg10 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg11 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg12 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S1x64x128 .f32))) (L_arg13 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x1664x128 .fp8e4m3))) (L_arg14 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x1664x128 .fp8e4m3))) (L_arg15 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S64x16x128 .f32))) , { L_arg16 : (BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → List (View.Piece (Elt F) S128x1536 .f32)) // ∀ (E : Set ℕ) (f_arg6 : BufTy.Contents (Elt F) arg6.view.ty) (f_arg7 : BufTy.Contents (Elt F) arg7.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty),
      Trip (F := F) c arg1 arg2 arg3 arg4 arg5 arg6 arg7 arg8 arg9 arg10 arg11 arg12 arg13 arg14 arg15 arg16 X_arg1 X_arg2 X_arg3 X_arg4 X_arg5 f_arg6 f_arg7 f_arg8 f_arg9 f_arg10 f_arg11 f_arg12 f_arg13 f_arg14 f_arg15 f_arg16
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 k PUnit.unit)
          (fun _ => Trip (F := F) c arg1 arg2 arg3 arg4 arg5 arg6 arg7 arg8 arg9 arg10 arg11 arg12 arg13 arg14 arg15 arg16 X_arg1 X_arg2 X_arg3 X_arg4 X_arg5 (arg6.view.writes (Elt F) f_arg6 (L_arg6 f_arg6 f_arg7 f_arg8 f_arg9 f_arg10 f_arg11 f_arg12 f_arg13 f_arg14 f_arg15 f_arg16)) (arg7.view.writes (Elt F) f_arg7 (L_arg7 f_arg6 f_arg7 f_arg8 f_arg9 f_arg10 f_arg11 f_arg12 f_arg13 f_arg14 f_arg15 f_arg16)) (arg8.view.writes (Elt F) f_arg8 (L_arg8 f_arg6 f_arg7 f_arg8 f_arg9 f_arg10 f_arg11 f_arg12 f_arg13 f_arg14 f_arg15 f_arg16)) (arg9.view.writes (Elt F) f_arg9 (L_arg9 f_arg6 f_arg7 f_arg8 f_arg9 f_arg10 f_arg11 f_arg12 f_arg13 f_arg14 f_arg15 f_arg16)) (arg10.view.writes (Elt F) f_arg10 (L_arg10 f_arg6 f_arg7 f_arg8 f_arg9 f_arg10 f_arg11 f_arg12 f_arg13 f_arg14 f_arg15 f_arg16)) (arg11.view.writes (Elt F) f_arg11 (L_arg11 f_arg6 f_arg7 f_arg8 f_arg9 f_arg10 f_arg11 f_arg12 f_arg13 f_arg14 f_arg15 f_arg16)) (arg12.view.writes (Elt F) f_arg12 (L_arg12 f_arg6 f_arg7 f_arg8 f_arg9 f_arg10 f_arg11 f_arg12 f_arg13 f_arg14 f_arg15 f_arg16)) (arg13.view.writes (Elt F) f_arg13 (L_arg13 f_arg6 f_arg7 f_arg8 f_arg9 f_arg10 f_arg11 f_arg12 f_arg13 f_arg14 f_arg15 f_arg16)) (arg14.view.writes (Elt F) f_arg14 (L_arg14 f_arg6 f_arg7 f_arg8 f_arg9 f_arg10 f_arg11 f_arg12 f_arg13 f_arg14 f_arg15 f_arg16)) (arg15.view.writes (Elt F) f_arg15 (L_arg15 f_arg6 f_arg7 f_arg8 f_arg9 f_arg10 f_arg11 f_arg12 f_arg13 f_arg14 f_arg15 f_arg16)) (arg16.view.writes (Elt F) f_arg16 (L_arg16 f_arg6 f_arg7 f_arg8 f_arg9 f_arg10 f_arg11 f_arg12 f_arg13 f_arg14 f_arg15 f_arg16))) } := by
  have hk : k.val < 64 := Nat.lt_of_lt_of_le k.isLt k0_t1_abs.2.1
  refine ⟨?_, ?_, ?_, ?_, ?_, ?_, ?_, ?_, ?_, ?_, ?_, fun E f_arg6 f_arg7 f_arg8 f_arg9 f_arg10 f_arg11 f_arg12 f_arg13 f_arg14 f_arg15 f_arg16 => ?run⟩
  case run =>
    unfold k0_t1_body
    iintro ⟨HR_arg1, HR_arg2, HR_arg3, HR_arg4, HR_arg5, HW_arg6, HW_arg7, HW_arg8, HW_arg9, HW_arg10, HW_arg11, HW_arg12, HW_arg13, HW_arg14, HW_arg15, HW_arg16⟩
    sl_exec
    sl_step
    sl_close

end Cert.AttendIdeal.Hand

end
-- ==== Proof.Loop.lean ====
/- The loop over the heads by an invariant: whatever one trip's writes preserve, holds after all the trips. -/
module

public import proofs.«01_k».proof.Proof.Trip

@[expose] public section

set_option maxRecDepth 16384
set_option maxHeartbeats 4000000

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The loop's resources before trip `k`: the inputs at their contents, the written memrefs at contents of which `J k` holds. -/
abbrev inv (c : Dev nD) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop) (k : ℕ) (_u : PUnit) : sProp 𝕄G :=
  iprop(∃ f6 f7 f8 f9 f10 f11 f12 f13 f14 f15 f16, Trip (F := F) c arg1 arg2 arg3 arg4 arg5 arg6 arg7 arg8 arg9 arg10 arg11 arg12 arg13 arg14 arg15 arg16 X1 X2 X3 X4 X5 f6 f7 f8 f9 f10 f11 f12 f13 f14 f15 f16 ∗ ⌜J k f6 f7 f8 f9 f10 f11 f12 f13 f14 f15⌝)

set_option warn.classDefReducibility false in
/-- The loop's invariant from a predicate `J` that one trip's writes preserve (`hJ`). -/
def loopInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 where
  inv := inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J
  step k acc := by
    iintro ⟨%f6, %f7, %f8, %f9, %f10, %f11, %f12, %f13, %f14, %f15, %f16, HT, %hj⟩
    iapply (wp_wand_r Idealize.ShloMosaic.frame (wpE (defs₀ (F := F)) 𝒱 (c : Thread nD τ) bd) E)
    isplitl [HT]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.2.2 E f6 f7 f8 f9 f10 f11 f12 f13 f14 f15 f16)
      iexact HT
    iintro %u HT
    iexists (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)), (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)), (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)), (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)), (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)), (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)), (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)), (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)), (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)), (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16)), (arg16.view.writes (Elt F) f16 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.2.1 f6 f7 f8 f9 f10 f11 f12 f13 f14 f15 f16))
    isplitl [HT]
    · iexact HT
    ipureintro
    exact hJ k f6 f7 f8 f9 f10 f11 f12 f13 f14 f15 f16 hj

theorem trips_eq : Scf.trips k0_t1_loop.lb k0_t1_loop.ub k0_t1_loop.st = 64 := by decide +kernel

theorem toInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) (u : PUnit) :
    inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J 0 u ⊢ (loopInv (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 J hJ).inv 0 u := .rfl

theorem ofInv (𝒱 : Variants) (c : Dev nD) (bd : Option 𝒱.V) (E : Set ℕ) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).1 f6 f7 f8 f9 f10 f11 f12 f13 f14 f15 f16)) (arg7.view.writes (Elt F) f7 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.1 f6 f7 f8 f9 f10 f11 f12 f13 f14 f15 f16)) (arg8.view.writes (Elt F) f8 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.1 f6 f7 f8 f9 f10 f11 f12 f13 f14 f15 f16)) (arg9.view.writes (Elt F) f9 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.1 f6 f7 f8 f9 f10 f11 f12 f13 f14 f15 f16)) (arg10.view.writes (Elt F) f10 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.1 f6 f7 f8 f9 f10 f11 f12 f13 f14 f15 f16)) (arg11.view.writes (Elt F) f11 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.1 f6 f7 f8 f9 f10 f11 f12 f13 f14 f15 f16)) (arg12.view.writes (Elt F) f12 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.1 f6 f7 f8 f9 f10 f11 f12 f13 f14 f15 f16)) (arg13.view.writes (Elt F) f13 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.1 f6 f7 f8 f9 f10 f11 f12 f13 f14 f15 f16)) (arg14.view.writes (Elt F) f14 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.1 f6 f7 f8 f9 f10 f11 f12 f13 f14 f15 f16)) (arg15.view.writes (Elt F) f15 ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 k).2.2.2.2.2.2.2.2.2.1 f6 f7 f8 f9 f10 f11 f12 f13 f14 f15 f16))) (u : PUnit) :
    (loopInv (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X1 X2 X3 X4 X5 J hJ).inv (Scf.trips k0_t1_loop.lb k0_t1_loop.ub k0_t1_loop.st) u ⊢ inv (F := F) c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X1 X2 X3 X4 X5 J 64 u := by
  rw [trips_eq]; exact .rfl

end Cert.AttendIdeal.Hand

end
-- ==== Proof.Kit.lean ====
/- The body's branch condition over the points, and the memrefs that the pipeline passes to the body. -/
module

public import proofs.«01_k».proof.Proof.Gen.AttendIdeal.Frame
public import Idealize.ShloMosaic.Lib.Pipeline.FrameBody
public import Idealize.ShloMosaic.Lib.Tactic
public import Idealize.ShloMosaic.Lib.WordCmp

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 1 % 128 := Pipeline.Grid.coords_val t 0 (by decide) rfl
    simp only [cond0_0, e0]
    word_cmp
   : ∀ t : Fin grid0.N, cond0_0 (grid0.coords t) ↔ t.val % 128 = 0)

/-! ## The kernel body on any staging memrefs: a subtype the run finds -/

/-- Each window's current staging memref at point `t`, spelled as the pipeline passes it (`bodyAt0`), and its wholeness. -/
abbrev ms0_0 (t : Fin cfg0.N) : Memref sig .tc .vmem S128x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x8192 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x8192 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8192 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S64x1664x128 .fp8e4m3 := Memref.whole cc0_scratch0
abbrev scM0_1 : Memref sig .tc .vmem S64x1664x128 .fp8e4m3 := Memref.whole cc0_scratch1
abbrev scM0_2 : Memref sig .tc .vmem S64x16x128 .f32 := Memref.whole cc0_scratch2
abbrev scM0_3 : Memref sig .tc .vmem S128x1536 .f32 := Memref.whole cc0_scratch3
/-- The scratch `arg13` the kernel carries between points, as a view: what it holds is stated through it. -/
abbrev VS0_0 : View sig .tc .vmem S64x1664x128 .fp8e4m3 := scM0_0.view
/-- The scratch `arg14` the kernel carries between points, as a view: what it holds is stated through it. -/
abbrev VS0_1 : View sig .tc .vmem S64x1664x128 .fp8e4m3 := scM0_1.view
/-- The scratch `arg15` the kernel carries between points, as a view: what it holds is stated through it. -/
abbrev VS0_2 : View sig .tc .vmem S64x16x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AttendIdeal.Hand

end
-- ==== Proof.Body.lean ====
/- The body of the kernel at one grid point, by the loop's invariant: what holds of the written memrefs after all the heads. -/
module

public import proofs.«01_k».proof.Proof.Loop
public import proofs.«01_k».proof.Proof.Kit

@[expose] public section

set_option maxRecDepth 16384
set_option maxHeartbeats 4000000

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the frame kit. -/
local notation "𝕄G" => MT nD τ sig Unit (Elt F) ℕ (UR sig nD τ) ℕ

/-- The body at a point where its conditional is taken: from the inputs' blocks and any other contents, it ends with
    the inputs' blocks as they were and the written memrefs at contents of which `J 64` holds, for any `J` that a trip preserves. -/
theorem runA (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (hc0 : cond0_0 i) (x1 : Vec F S128x8192 .bf16) (x2 : Vec F S128x8192 .bf16) (x3 : Vec F S128x8192 .bf16) (x4 : Vec F S64x128 .f32) (x5 : Vec F S64x128 .f32) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).1 f6 f7 f8 f9 f10 f11 f12 f13 f14 f15 f16)) (arg7.view.writes (Elt F) f7 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.1 f6 f7 f8 f9 f10 f11 f12 f13 f14 f15 f16)) (arg8.view.writes (Elt F) f8 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.1 f6 f7 f8 f9 f10 f11 f12 f13 f14 f15 f16)) (arg9.view.writes (Elt F) f9 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.1 f6 f7 f8 f9 f10 f11 f12 f13 f14 f15 f16)) (arg10.view.writes (Elt F) f10 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.1 f6 f7 f8 f9 f10 f11 f12 f13 f14 f15 f16)) (arg11.view.writes (Elt F) f11 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.1 f6 f7 f8 f9 f10 f11 f12 f13 f14 f15 f16)) (arg12.view.writes (Elt F) f12 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.1 f6 f7 f8 f9 f10 f11 f12 f13 f14 f15 f16)) (arg13.view.writes (Elt F) f13 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.1 f6 f7 f8 f9 f10 f11 f12 f13 f14 f15 f16)) (arg14.view.writes (Elt F) f14 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.1 f6 f7 f8 f9 f10 f11 f12 f13 f14 f15 f16)) (arg15.view.writes (Elt F) f15 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.2.1 f6 f7 f8 f9 f10 f11 f12 f13 f14 f15 f16)))
    (hJ0 : ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty), J 0 f6 f7 f8 f9 f10 f11 f12 (arg13.view.writes (Elt F) f13 [⟨Rect.unit (s := S64x1664x128) ![0, 0, 0] S64x1664x128.size inb_S64x1664x128_S64x1664x128_0_0_0, k0_pay2 (F := F)⟩]) (arg14.view.writes (Elt F) f14 [⟨Rect.unit (s := S64x1664x128) ![0, 0, 0] S64x1664x128.size inb_S64x1664x128_S64x1664x128_0_0_0, k0_pay3 (F := F)⟩]) (arg15.view.writes (Elt F) f15 [⟨Rect.unit (s := S64x16x128) ![0, 0, 0] S64x16x128.size inb_S64x16x128_S64x16x128_0_0_0, k0_pay4 (F := F)⟩])) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ ∃ f6 f7 f8 f9 f10 f11 f12 f13 f14 f15 f16, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜J 64 f6 f7 f8 f9 f10 f11 f12 f13 f14 f15⌝) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attend_eq_skeleton]; unfold cc0_attend_skel
    simp only [k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc0)
    iapply (exec_loop (M := 𝕄G) frame (wpE (defs₀ (F := F)) Variants.none (c : Thread nD τ) none) E k0_t1_loop.lb k0_t1_loop.ub k0_t1_loop.st k0_t1_ok _ _ (loopInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ)) $$ [H1 H2 H3 H4 H5 H6 H7 H8 H9 H10 H11 H12 H13 H14 H15 H16]
    · iapply (toInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _)
      iexists _, _, _, _, _, _, _, _, _, _, _
      isplitl [H1 H2 H3 H4 H5 H6 H7 H8 H9 H10 H11 H12 H13 H14 H15 H16]
      · unfold Trip
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      ipureintro
      exact hJ0 _ _ _ _ _ _ _ _ _ _
    iintro %acc Hinv
    ihave Hinv := (ofInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _) $$ Hinv
    icases Hinv with ⟨%g6, %g7, %g8, %g9, %g10, %g11, %g12, %g13, %g14, %g15, %g16, HT, %hj⟩
    unfold Trip
    icases HT with ⟨H1, H2, H3, H4, H5, H6, H7, H8, H9, H10, H11, H12, H13, H14, H15, H16⟩
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists g6, g7, g8, g9, g10, g11, g12, g13, g14, g15, g16
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact hj

/-- The body at a point where its conditional is not taken: from the inputs' blocks and ring contents of which `J0` holds, it ends with
    the inputs' blocks as they were and the written memrefs at contents of which `J 64` holds, for any `J` that a trip preserves. -/
theorem runB (c : Dev nD) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (hc0 : ¬ cond0_0 i) (x1 : Vec F S128x8192 .bf16) (x2 : Vec F S128x8192 .bf16) (x3 : Vec F S128x8192 .bf16) (x4 : Vec F S64x128 .f32) (x5 : Vec F S64x128 .f32) (J : ℕ → BufTy.Contents (Elt F) arg6.view.ty → BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → Prop) (J0 : Vec F S64x1664x128 .fp8e4m3 → Vec F S64x1664x128 .fp8e4m3 → Vec F S64x16x128 .f32 → Prop)
    (hJ : ∀ (k : Fin k0_t1_loop.trips) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty), J k.val f6 f7 f8 f9 f10 f11 f12 f13 f14 f15 → J (k.val + 1) (arg6.view.writes (Elt F) f6 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).1 f6 f7 f8 f9 f10 f11 f12 f13 f14 f15 f16)) (arg7.view.writes (Elt F) f7 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.1 f6 f7 f8 f9 f10 f11 f12 f13 f14 f15 f16)) (arg8.view.writes (Elt F) f8 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.1 f6 f7 f8 f9 f10 f11 f12 f13 f14 f15 f16)) (arg9.view.writes (Elt F) f9 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.1 f6 f7 f8 f9 f10 f11 f12 f13 f14 f15 f16)) (arg10.view.writes (Elt F) f10 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.1 f6 f7 f8 f9 f10 f11 f12 f13 f14 f15 f16)) (arg11.view.writes (Elt F) f11 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.1 f6 f7 f8 f9 f10 f11 f12 f13 f14 f15 f16)) (arg12.view.writes (Elt F) f12 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.1 f6 f7 f8 f9 f10 f11 f12 f13 f14 f15 f16)) (arg13.view.writes (Elt F) f13 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.1 f6 f7 f8 f9 f10 f11 f12 f13 f14 f15 f16)) (arg14.view.writes (Elt F) f14 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.1 f6 f7 f8 f9 f10 f11 f12 f13 f14 f15 f16)) (arg15.view.writes (Elt F) f15 ((trip (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) k).2.2.2.2.2.2.2.2.2.1 f6 f7 f8 f9 f10 f11 f12 f13 f14 f15 f16)))
    (hJ0 : ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty), J0 (arg13.view.read (Elt F) f13) (arg14.view.read (Elt F) f14) (arg15.view.read (Elt F) f15) → J 0 f6 f7 f8 f9 f10 f11 f12 f13 f14 f15) (E : Set ℕ) (K : PUnit → sProp 𝕄G) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d13 d14 d15, owns (c : Thread nD τ) arg13 fullShare d13 ∗ owns (c : Thread nD τ) arg14 fullShare d14 ∗ owns (c : Thread nD τ) arg15 fullShare d15 ∗ ⌜J0 d13 d14 d15⌝) ∗ (∃ d, owns (c : Thread nD τ) arg16 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ ∃ f6 f7 f8 f9 f10 f11 f12 f13 f14 f15 f16, (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ ⌜J 64 f6 f7 f8 f9 f10 f11 f12 f13 f14 f15⌝) -∗ K ⟨⟩))
      ⊢ wp frame (wpE (defs₀ (F := F)) Variants.none c none) E (cc0_attend i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    simp only [cc0_attend_eq_skeleton]; unfold cc0_attend_skel
    simp only [k0_part23_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %d14, %d15, ⟨%f13, %hf13, H13⟩, ⟨%f14, %hf14, H14⟩, ⟨%f15, %hf15, H15⟩, %hj0⟩, ⟨%d16, %f16, -, H16⟩, Hk⟩
    obtain rfl := harg1.eq_unread hf1; obtain rfl := harg2.eq_unread hf2; obtain rfl := harg3.eq_unread hf3; obtain rfl := harg4.eq_unread hf4; obtain rfl := harg5.eq_unread hf5
    rw [← hf13, ← hf14, ← hf15] at hj0
    sl_exec (disch := first | sl_exact hc0)
    iapply (exec_loop (M := 𝕄G) frame (wpE (defs₀ (F := F)) Variants.none (c : Thread nD τ) none) E k0_t1_loop.lb k0_t1_loop.ub k0_t1_loop.st k0_t1_ok _ _ (loopInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ)) $$ [H1 H2 H3 H4 H5 H6 H7 H8 H9 H10 H11 H12 H13 H14 H15 H16]
    · iapply (toInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _)
      iexists _, _, _, _, _, _, _, _, _, _, _
      isplitl [H1 H2 H3 H4 H5 H6 H7 H8 H9 H10 H11 H12 H13 H14 H15 H16]
      · unfold Trip
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      ipureintro
      exact hJ0 _ _ _ _ _ _ _ _ _ _ hj0
    iintro %acc Hinv
    ihave Hinv := (ofInv (F := F) Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (Scalar.remsi (BitVec.ofNat 32 (i 0).val) 13#32) (Scalar.remsi (Scalar.addi (Scalar.addi (BitVec.ofNat 32 (i 0).val) 1#32) 0#32) 13#32) (Scalar.remsi (Scalar.addi (Scalar.addi (BitVec.ofNat 32 (i 0).val) 1#32) 1#32) 13#32) (Scalar.remsi (Scalar.addi (Scalar.addi (BitVec.ofNat 32 (i 0).val) 1#32) 2#32) 13#32) (Scalar.remsi (Scalar.addi (Scalar.addi (BitVec.ofNat 32 (i 0).val) 1#32) 3#32) 13#32) (Scalar.remsi (Scalar.addi (Scalar.addi (BitVec.ofNat 32 (i 0).val) 1#32) 4#32) 13#32) (Scalar.remsi (Scalar.addi (Scalar.addi (BitVec.ofNat 32 (i 0).val) 1#32) 5#32) 13#32) (Scalar.remsi (Scalar.addi (Scalar.addi (BitVec.ofNat 32 (i 0).val) 1#32) 6#32) 13#32) (Scalar.remsi (Scalar.addi (Scalar.addi (BitVec.ofNat 32 (i 0).val) 1#32) 7#32) 13#32) (Scalar.remsi (Scalar.addi (Scalar.addi (BitVec.ofNat 32 (i 0).val) 1#32) 8#32) 13#32) (Scalar.remsi (Scalar.addi (Scalar.addi (BitVec.ofNat 32 (i 0).val) 1#32) 9#32) 13#32) (Scalar.remsi (Scalar.addi (Scalar.addi (BitVec.ofNat 32 (i 0).val) 1#32) 10#32) 13#32) (Scalar.remsi (Scalar.addi (Scalar.addi (BitVec.ofNat 32 (i 0).val) 1#32) 11#32) 13#32) (Scalar.remsi (Scalar.addi (Scalar.addi (BitVec.ofNat 32 (i 0).val) 1#32) 12#32) 13#32) (iota .tc S1x128 32 [1] iota_S1x128_d1_w32) (harg1.unread x1) (harg2.unread x2) (harg3.unread x3) (harg4.unread x4) (harg5.unread x5) J hJ _) $$ Hinv
    icases Hinv with ⟨%g6, %g7, %g8, %g9, %g10, %g11, %g12, %g13, %g14, %g15, %g16, HT, %hj⟩
    unfold Trip
    icases HT with ⟨H1, H2, H3, H4, H5, H6, H7, H8, H9, H10, H11, H12, H13, H14, H15, H16⟩
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    iexists g6, g7, g8, g9, g10, g11, g12, g13, g14, g15, g16
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    ipureintro
    exact hj

end Cert.AttendIdeal.Hand

end
-- ==== Proof.Run.lean ====
/- The frame run with a predicate on what the body leaves: a `Spec` says what holds of the written memrefs before each head
   of each grid point, and the run then ends with every output block as the `Spec` says. -/
module

public import proofs.«01_k».proof.Proof.Body
public import Idealize.ShloMosaic.Lib.Pipeline.DatRel
public import Idealize.ShloMosaic.Lib.Pipeline.ArrRel

@[expose] public section

set_option maxRecDepth 16384

noncomputable section

namespace Cert.AttendIdeal.Hand

open Cert.AttendIdeal Cert.AttendIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is to hold of the written memrefs' contents, and that the body makes it hold: `P t k` before head `k` at point `t` (of the
    outputs' blocks in order, then the two rings of codes and the ring of scales), `RP n` of the rings before point `n ≥ 1`, `Q w t` of
    what is left in output window `w` at point `t`. -/
structure Spec (c : Dev nD) where
  P : Fin cfg0.N → ℕ → Vec F S128x8192 .bf16 → Vec F S128x8192 .fp8e4m3 → Vec F S128x8192 .fp8e4m3 → Vec F S128x8192 .fp8e4m3 → Vec F S1x64x128 .f32 → Vec F S1x64x128 .f32 → Vec F S1x64x128 .f32 → Vec F S64x1664x128 .fp8e4m3 → Vec F S64x1664x128 .fp8e4m3 → Vec F S64x16x128 .f32 → Prop
  RP : ℕ → Vec F S64x1664x128 .fp8e4m3 → Vec F S64x1664x128 .fp8e4m3 → Vec F S64x16x128 .f32 → Prop
  Q5 : Fin cfg0.N → Vec F S128x8192 .bf16 → Prop
  Q6 : Fin cfg0.N → Vec F S128x8192 .fp8e4m3 → Prop
  Q7 : Fin cfg0.N → Vec F S128x8192 .fp8e4m3 → Prop
  Q8 : Fin cfg0.N → Vec F S128x8192 .fp8e4m3 → Prop
  Q9 : Fin cfg0.N → Vec F S1x64x128 .f32 → Prop
  Q10 : Fin cfg0.N → Vec F S1x64x128 .f32 → Prop
  Q11 : Fin cfg0.N → Vec F S1x64x128 .f32 → Prop
  /-- One head. -/
  step : ∀ (t : Fin cfg0.N) (k : Fin k0_t1_loop.trips) (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) scM0_0.view.ty) (f14 : BufTy.Contents (Elt F) scM0_1.view.ty) (f15 : BufTy.Contents (Elt F) scM0_2.view.ty) (f16 : BufTy.Contents (Elt F) scM0_3.view.ty), P t k.val ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15) →
    P t (k.val + 1) ((ms0_5 t).view.read (Elt F) ((ms0_5 t).view.writes (Elt F) f6 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).1 f6 f7 f8 f9 f10 f11 f12 f13 f14 f15 f16))) ((ms0_6 t).view.read (Elt F) ((ms0_6 t).view.writes (Elt F) f7 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.1 f6 f7 f8 f9 f10 f11 f12 f13 f14 f15 f16))) ((ms0_7 t).view.read (Elt F) ((ms0_7 t).view.writes (Elt F) f8 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.1 f6 f7 f8 f9 f10 f11 f12 f13 f14 f15 f16))) ((ms0_8 t).view.read (Elt F) ((ms0_8 t).view.writes (Elt F) f9 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.1 f6 f7 f8 f9 f10 f11 f12 f13 f14 f15 f16))) ((ms0_9 t).view.read (Elt F) ((ms0_9 t).view.writes (Elt F) f10 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.1 f6 f7 f8 f9 f10 f11 f12 f13 f14 f15 f16))) ((ms0_10 t).view.read (Elt F) ((ms0_10 t).view.writes (Elt F) f11 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.1 f6 f7 f8 f9 f10 f11 f12 f13 f14 f15 f16))) ((ms0_11 t).view.read (Elt F) ((ms0_11 t).view.writes (Elt F) f12 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.1 f6 f7 f8 f9 f10 f11 f12 f13 f14 f15 f16))) (scM0_0.view.read (Elt F) (scM0_0.view.writes (Elt F) f13 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.1 f6 f7 f8 f9 f10 f11 f12 f13 f14 f15 f16))) (scM0_1.view.read (Elt F) (scM0_1.view.writes (Elt F) f14 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.2.1 f6 f7 f8 f9 f10 f11 f12 f13 f14 f15 f16))) (scM0_2.view.read (Elt F) (scM0_2.view.writes (Elt F) f15 ((trip (F := F) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (BitVec.ofNat 32 ((grid0.coords t) 0).val) (Scalar.remsi (BitVec.ofNat 32 ((grid0.coords t) 0).val) 13#32) (Scalar.remsi (Scalar.addi (Scalar.addi (BitVec.ofNat 32 ((grid0.coords t) 0).val) 1#32) 0#32) 13#32) (Scalar.remsi (Scalar.addi (Scalar.addi (BitVec.ofNat 32 ((grid0.coords t) 0).val) 1#32) 1#32) 13#32) (Scalar.remsi (Scalar.addi (Scalar.addi (BitVec.ofNat 32 ((grid0.coords t) 0).val) 1#32) 2#32) 13#32) (Scalar.remsi (Scalar.addi (Scalar.addi (BitVec.ofNat 32 ((grid0.coords t) 0).val) 1#32) 3#32) 13#32) (Scalar.remsi (Scalar.addi (Scalar.addi (BitVec.ofNat 32 ((grid0.coords t) 0).val) 1#32) 4#32) 13#32) (Scalar.remsi (Scalar.addi (Scalar.addi (BitVec.ofNat 32 ((grid0.coords t) 0).val) 1#32) 5#32) 13#32) (Scalar.remsi (Scalar.addi (Scalar.addi (BitVec.ofNat 32 ((grid0.coords t) 0).val) 1#32) 6#32) 13#32) (Scalar.remsi (Scalar.addi (Scalar.addi (BitVec.ofNat 32 ((grid0.coords t) 0).val) 1#32) 7#32) 13#32) (Scalar.remsi (Scalar.addi (Scalar.addi (BitVec.ofNat 32 ((grid0.coords t) 0).val) 1#32) 8#32) 13#32) (Scalar.remsi (Scalar.addi (Scalar.addi (BitVec.ofNat 32 ((grid0.coords t) 0).val) 1#32) 9#32) 13#32) (Scalar.remsi (Scalar.addi (Scalar.addi (BitVec.ofNat 32 ((grid0.coords t) 0).val) 1#32) 10#32) 13#32) (Scalar.remsi (Scalar.addi (Scalar.addi (BitVec.ofNat 32 ((grid0.coords t) 0).val) 1#32) 11#32) 13#32) (Scalar.remsi (Scalar.addi (Scalar.addi (BitVec.ofNat 32 ((grid0.coords t) 0).val) 1#32) 12#32) 13#32) (iota .tc S1x128 32 [1] iota_S1x128_d1_w32) ((hs0_0 t).unread (iblk m c 0 t)) ((hs0_1 t).unread (iblk m c 1 t)) ((hs0_2 t).unread (iblk m c 2 t)) ((hs0_3 t).unread (iblk m c 3 t)) ((hs0_4 t).unread (iblk m c 4 t)) k).2.2.2.2.2.2.2.2.2.1 f6 f7 f8 f9 f10 f11 f12 f13 f14 f15 f16)))
  /-- The first point, its rings just filled. -/
  init : ∀ (t : Fin cfg0.N), t.val = 0 → ∀ (f6 : BufTy.Contents (Elt F) (ms0_5 t).view.ty) (f7 : BufTy.Contents (Elt F) (ms0_6 t).view.ty) (f8 : BufTy.Contents (Elt F) (ms0_7 t).view.ty) (f9 : BufTy.Contents (Elt F) (ms0_8 t).view.ty) (f10 : BufTy.Contents (Elt F) (ms0_9 t).view.ty) (f11 : BufTy.Contents (Elt F) (ms0_10 t).view.ty) (f12 : BufTy.Contents (Elt F) (ms0_11 t).view.ty) (f13 : BufTy.Contents (Elt F) scM0_0.view.ty) (f14 : BufTy.Contents (Elt F) scM0_1.view.ty) (f15 : BufTy.Contents (Elt F) scM0_2.view.ty), P t 0 ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) (scM0_0.view.writes (Elt F) f13 [⟨Rect.unit (s := S64x1664x128) ![0, 0, 0] S64x1664x128.size inb_S64x1664x128_S64x1664x128_0_0_0, k0_pay2 (F := F)⟩])) (scM0_1.view.read (Elt F) (scM0_1.view.writes (Elt F) f14 [⟨Rect.unit (s := S64x1664x128) ![0, 0, 0] S64x1664x128.size inb_S64x1664x128_S64x1664x128_0_0_0, k0_pay3 (F := F)⟩])) (scM0_2.view.read (Elt F) (scM0_2.view.writes (Elt F) f15 [⟨Rect.unit (s := S64x16x128) ![0, 0, 0] S64x16x128.size inb_S64x16x128_S64x16x128_0_0_0, k0_pay4 (F := F)⟩]))
  /-- The start of a later point. -/
  enter : ∀ (t : Fin cfg0.N), t.val ≠ 0 → ∀ (X6 : Vec F S128x8192 .bf16) (X7 : Vec F S128x8192 .fp8e4m3) (X8 : Vec F S128x8192 .fp8e4m3) (X9 : Vec F S128x8192 .fp8e4m3) (X10 : Vec F S1x64x128 .f32) (X11 : Vec F S1x64x128 .f32) (X12 : Vec F S1x64x128 .f32) (X13 : Vec F S64x1664x128 .fp8e4m3) (X14 : Vec F S64x1664x128 .fp8e4m3) (X15 : Vec F S64x16x128 .f32), RP t.val X13 X14 X15 → P t 0 X6 X7 X8 X9 X10 X11 X12 X13 X14 X15
  /-- The end of a point. -/
  leave : ∀ (t : Fin cfg0.N) (X6 : Vec F S128x8192 .bf16) (X7 : Vec F S128x8192 .fp8e4m3) (X8 : Vec F S128x8192 .fp8e4m3) (X9 : Vec F S128x8192 .fp8e4m3) (X10 : Vec F S1x64x128 .f32) (X11 : Vec F S1x64x128 .f32) (X12 : Vec F S1x64x128 .f32) (X13 : Vec F S64x1664x128 .fp8e4m3) (X14 : Vec F S64x1664x128 .fp8e4m3) (X15 : Vec F S64x16x128 .f32), P t 64 X6 X7 X8 X9 X10 X11 X12 X13 X14 X15 → Q5 t X6 ∧ Q6 t X7 ∧ Q7 t X8 ∧ Q8 t X9 ∧ Q9 t X10 ∧ Q10 t X11 ∧ Q11 t X12 ∧ RP (t.val + 1) X13 X14 X15

variable {m} (S : (c : Dev nD) → Spec (F := F) m c)

/-- What is to hold of an output window's block at point `t`. -/
def Spec.Rl {c : Dev nD} (S : Spec (F := F) m c) (w : Fin cfg0.W) (t : Fin cfg0.N) : ((cfg0.win w).block.Idx → Elt F (cfg0.win w).elt) → Prop := match w with
  | ⟨5, _⟩ => fun X => S.Q5 t X
  | ⟨6, _⟩ => fun X => S.Q6 t X
  | ⟨7, _⟩ => fun X => S.Q7 t X
  | ⟨8, _⟩ => fun X => S.Q8 t X
  | ⟨9, _⟩ => fun X => S.Q9 t X
  | ⟨10, _⟩ => fun X => S.Q10 t X
  | ⟨11, _⟩ => fun X => S.Q11 t X
  | ⟨0, _⟩ => fun _ => True
  | ⟨1, _⟩ => fun _ => True
  | ⟨2, _⟩ => fun _ => True
  | ⟨3, _⟩ => fun _ => True
  | ⟨4, _⟩ => fun _ => True

/-- The invariant before point `n`: at first anything, then rings of which `RP n` holds. -/
def PhiR (c : Dev nD) : ℕ → sProp 𝕄
  | 0 => Pipeline.ΦA spec0 c
  | n + 1 => iprop(iprop((∃ e0 e1 e2, owns (c : Thread nD τ) scM0_0 fullShare e0 ∗ owns (c : Thread nD τ) scM0_1 fullShare e1 ∗ owns (c : Thread nD τ) scM0_2 fullShare e2 ∗ ⌜(S c).RP (n + 1) e0 e1 e2⌝) ∗ (∃ d, owns (c : Thread nD τ) scM0_3 fullShare d)) ∗ (∃ r, prngReg c r))

theorem PhiR_pos (c : Dev nD) (n : ℕ) (hz : n ≠ 0) : PhiR S c n = iprop(iprop((∃ e0 e1 e2, owns (c : Thread nD τ) scM0_0 fullShare e0 ∗ owns (c : Thread nD τ) scM0_1 fullShare e1 ∗ owns (c : Thread nD τ) scM0_2 fullShare e2 ∗ ⌜(S c).RP n e0 e1 e2⌝) ∗ (∃ d, owns (c : Thread nD τ) scM0_3 fullShare d)) ∗ (∃ r, prngReg c r)) := by
  cases n with
  | zero => exact absurd rfl hz
  | succ n => rfl

/-- The windows held to a predicate: the outputs. -/
def outs0 : Fin 12 → Bool := fun w => w.val == 5 || w.val == 6 || w.val == 7 || w.val == 8 || w.val == 9 || w.val == 10 || w.val == 11

/-- The proof data: inputs at their blocks, the invariant `PhiR`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := PhiR S c t.val
  q _ := fullShare
  owed _ := 0

theorem A_eq (c : Dev nD) (w : Fin cfg0.W) : (dats S 0 c).A w = V m c (Pipeline.arrRef spec0 w) := by
  dsimp only [dats]

theorem after0_0 (c : Dev nD) (t : Fin cfg0.N) : (dats S 0 c).after 0 t = iblk m c 0 t := by dsimp only [dats]
theorem after0_1 (c : Dev nD) (t : Fin cfg0.N) : (dats S 0 c).after 1 t = iblk m c 1 t := by dsimp only [dats]
theorem after0_2 (c : Dev nD) (t : Fin cfg0.N) : (dats S 0 c).after 2 t = iblk m c 2 t := by dsimp only [dats]
theorem after0_3 (c : Dev nD) (t : Fin cfg0.N) : (dats S 0 c).after 3 t = iblk m c 3 t := by dsimp only [dats]
theorem after0_4 (c : Dev nD) (t : Fin cfg0.N) : (dats S 0 c).after 4 t = iblk m c 4 t := by dsimp only [dats]
theorem before0_0 (c : Dev nD) (t : Fin cfg0.N) (d) : (dats S 0 c).before 0 t d = iblk m c 0 t :=
  before0_0_of m (dats S 0 c) (A_eq S c 0) (after0_0 S c) t d
theorem before0_1 (c : Dev nD) (t : Fin cfg0.N) (d) : (dats S 0 c).before 1 t d = iblk m c 1 t :=
  before0_1_of m (dats S 0 c) (A_eq S c 1) (after0_1 S c) t d
theorem before0_2 (c : Dev nD) (t : Fin cfg0.N) (d) : (dats S 0 c).before 2 t d = iblk m c 2 t :=
  before0_2_of m (dats S 0 c) (A_eq S c 2) (after0_2 S c) t d
theorem before0_3 (c : Dev nD) (t : Fin cfg0.N) (d) : (dats S 0 c).before 3 t d = iblk m c 3 t :=
  before0_3_of m (dats S 0 c) (A_eq S c 3) (after0_3 S c) t d
theorem before0_4 (c : Dev nD) (t : Fin cfg0.N) (d) : (dats S 0 c).before 4 t d = iblk m c 4 t :=
  before0_4_of m (dats S 0 c) (A_eq S c 4) (after0_4 S c) t d

/-- The proof data with the outputs held to the `Spec`. -/
abbrev rdats (c : Dev nD) : Pipeline.RDat τ (Elt F) Unit ℕ (UR sig nD τ) ℕ (cfgs 0) c := (dats S 0 c).toRRel outs0 (S c).Rl

/-- What the body is called with at point `t`, -/
def bodyPre (c : Dev nD) (t : Fin cfg0.N) : sProp 𝕄 :=
  iprop((dats S 0 c).Φ t.castSucc ∗ (dats S 0 c).owesAt () t.castSucc
    ∗ (∃ d, owns (c : Thread nD τ) (ms0_0 t) fullShare ((dats S 0 c).before 0 t d))
    ∗ (∃ d, owns (c : Thread nD τ) (ms0_1 t) fullShare ((dats S 0 c).before 1 t d))
    ∗ (∃ d, owns (c : Thread nD τ) (ms0_2 t) fullShare ((dats S 0 c).before 2 t d))
    ∗ (∃ d, owns (c : Thread nD τ) (ms0_3 t) fullShare ((dats S 0 c).before 3 t d))
    ∗ (∃ d, owns (c : Thread nD τ) (ms0_4 t) fullShare ((dats S 0 c).before 4 t d))
    ∗ (∃ Y, ⌜((dats S 0 c).toRRel outs0 (S c).Rl).Finds 5 t Y⌝ ∗ owns (c : Thread nD τ) (ms0_5 t) fullShare Y)
    ∗ (∃ Y, ⌜((dats S 0 c).toRRel outs0 (S c).Rl).Finds 6 t Y⌝ ∗ owns (c : Thread nD τ) (ms0_6 t) fullShare Y)
    ∗ (∃ Y, ⌜((dats S 0 c).toRRel outs0 (S c).Rl).Finds 7 t Y⌝ ∗ owns (c : Thread nD τ) (ms0_7 t) fullShare Y)
    ∗ (∃ Y, ⌜((dats S 0 c).toRRel outs0 (S c).Rl).Finds 8 t Y⌝ ∗ owns (c : Thread nD τ) (ms0_8 t) fullShare Y)
    ∗ (∃ Y, ⌜((dats S 0 c).toRRel outs0 (S c).Rl).Finds 9 t Y⌝ ∗ owns (c : Thread nD τ) (ms0_9 t) fullShare Y)
    ∗ (∃ Y, ⌜((dats S 0 c).toRRel outs0 (S c).Rl).Finds 10 t Y⌝ ∗ owns (c : Thread nD τ) (ms0_10 t) fullShare Y)
    ∗ (∃ Y, ⌜((dats S 0 c).toRRel outs0 (S c).Rl).Finds 11 t Y⌝ ∗ owns (c : Thread nD τ) (ms0_11 t) fullShare Y))

/-- and what it returns. -/
def bodyPost (c : Dev nD) (t : Fin cfg0.N) : sProp 𝕄 :=
  iprop((dats S 0 c).Φ t.succ ∗ (dats S 0 c).owesAt () t.succ
    ∗ owns (c : Thread nD τ) (ms0_0 t) fullShare ((dats S 0 c).after 0 t)
    ∗ owns (c : Thread nD τ) (ms0_1 t) fullShare ((dats S 0 c).after 1 t)
    ∗ owns (c : Thread nD τ) (ms0_2 t) fullShare ((dats S 0 c).after 2 t)
    ∗ owns (c : Thread nD τ) (ms0_3 t) fullShare ((dats S 0 c).after 3 t)
    ∗ owns (c : Thread nD τ) (ms0_4 t) fullShare ((dats S 0 c).after 4 t)
    ∗ (∃ X, ⌜(S c).Q5 t X⌝ ∗ owns (c : Thread nD τ) (ms0_5 t) fullShare X)
    ∗ (∃ X, ⌜(S c).Q6 t X⌝ ∗ owns (c : Thread nD τ) (ms0_6 t) fullShare X)
    ∗ (∃ X, ⌜(S c).Q7 t X⌝ ∗ owns (c : Thread nD τ) (ms0_7 t) fullShare X)
    ∗ (∃ X, ⌜(S c).Q8 t X⌝ ∗ owns (c : Thread nD τ) (ms0_8 t) fullShare X)
    ∗ (∃ X, ⌜(S c).Q9 t X⌝ ∗ owns (c : Thread nD τ) (ms0_9 t) fullShare X)
    ∗ (∃ X, ⌜(S c).Q10 t X⌝ ∗ owns (c : Thread nD τ) (ms0_10 t) fullShare X)
    ∗ (∃ X, ⌜(S c).Q11 t X⌝ ∗ owns (c : Thread nD τ) (ms0_11 t) fullShare X))

/-- The body at the first point. -/
theorem sound_first (c : Dev nD) (S : Spec (F := F) m c) (t : Fin cfg0.N) (h0 : t.val % 128 = 0) (hz : t.val = 0) (Fo : sProp 𝕄) :
    iprop(Pipeline.ΦA spec0 c ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ Y, owns (c : Thread nD τ) (ms0_5 t) fullShare Y)
      ∗ (∃ Y, owns (c : Thread nD τ) (ms0_6 t) fullShare Y)
      ∗ (∃ Y, owns (c : Thread nD τ) (ms0_7 t) fullShare Y)
      ∗ (∃ Y, owns (c : Thread nD τ) (ms0_8 t) fullShare Y)
      ∗ (∃ Y, owns (c : Thread nD τ) (ms0_9 t) fullShare Y)
      ∗ (∃ Y, owns (c : Thread nD τ) (ms0_10 t) fullShare Y)
      ∗ (∃ Y, owns (c : Thread nD τ) (ms0_11 t) fullShare Y))
      ⊢ wp frame (wpE (defs₀ (F := F)) Variants.none c none) Set.univ (bodyAt0 t) (fun _ => iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val + 1) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ X, ⌜S.Q5 t X⌝ ∗ owns (c : Thread nD τ) (ms0_5 t) fullShare X)
      ∗ (∃ X, ⌜S.Q6 t X⌝ ∗ owns (c : Thread nD τ) (ms0_6 t) fullShare X)
      ∗ (∃ X, ⌜S.Q7 t X⌝ ∗ owns (c : Thread nD τ) (ms0_7 t) fullShare X)
      ∗ (∃ X, ⌜S.Q8 t X⌝ ∗ owns (c : Thread nD τ) (ms0_8 t) fullShare X)
      ∗ (∃ X, ⌜S.Q9 t X⌝ ∗ owns (c : Thread nD τ) (ms0_9 t) fullShare X)
      ∗ (∃ X, ⌜S.Q10 t X⌝ ∗ owns (c : Thread nD τ) (ms0_10 t) fullShare X)
      ∗ (∃ X, ⌜S.Q11 t X⌝ ∗ owns (c : Thread nD τ) (ms0_11 t) fullShare X))) := by
  unfold bodyAt0
  rw [PhiA0_eq]
  iintro ⟨⟨⟨HS0, HS1, HS2, HS3⟩, Hg⟩, Ho, H0, H1, H2, H3, H4, ⟨%d5, H5⟩, ⟨%d6, H6⟩, ⟨%d7, H7⟩, ⟨%d8, H8⟩, ⟨%d9, H9⟩, ⟨%d10, H10⟩, ⟨%d11, H11⟩⟩
  iapply (runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (fun k f6 f7 f8 f9 f10 f11 f12 f13 f14 f15 => S.P t k ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15)) (fun k f6 f7 f8 f9 f10 f11 f12 f13 f14 f15 f16 h => S.step t k f6 f7 f8 f9 f10 f11 f12 f13 f14 f15 f16 h) (fun f6 f7 f8 f9 f10 f11 f12 f13 f14 f15 => S.init t hz f6 f7 f8 f9 f10 f11 f12 f13 f14 f15) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, %g6, %g7, %g8, %g9, %g10, %g11, %g12, %g13, %g14, %g15, %g16, G6, G7, G8, G9, G10, G11, G12, G13, G14, G15, G16, %hj⟩
  obtain ⟨hq6, hq7, hq8, hq9, hq10, hq11, hq12, hr'⟩ := S.leave t _ _ _ _ _ _ _ _ _ _ hj
  isplitl [G13 G14 G15 G16 Hg]
  · isplitl [G13 G14 G15 G16]
    · isplitl [G13 G14 G15]
      · iexists _, _, _
        isplitl [G13]
        · unfold owns; iexists _; isplitr
          swap; · iexact G13
          ipureintro; rfl
        isplitl [G14]
        · unfold owns; iexists _; isplitr
          swap; · iexact G14
          ipureintro; rfl
        isplitl [G15]
        · unfold owns; iexists _; isplitr
          swap; · iexact G15
          ipureintro; rfl
        ipureintro; exact hr'
      iexists _; unfold owns; iexists _; isplitr
      swap; · iexact G16
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [G6]
  · iexists _; isplitr
    · ipureintro; exact hq6
    unfold owns; iexists _; isplitr
    swap; · iexact G6
    ipureintro; rfl
  isplitl [G7]
  · iexists _; isplitr
    · ipureintro; exact hq7
    unfold owns; iexists _; isplitr
    swap; · iexact G7
    ipureintro; rfl
  isplitl [G8]
  · iexists _; isplitr
    · ipureintro; exact hq8
    unfold owns; iexists _; isplitr
    swap; · iexact G8
    ipureintro; rfl
  isplitl [G9]
  · iexists _; isplitr
    · ipureintro; exact hq9
    unfold owns; iexists _; isplitr
    swap; · iexact G9
    ipureintro; rfl
  isplitl [G10]
  · iexists _; isplitr
    · ipureintro; exact hq10
    unfold owns; iexists _; isplitr
    swap; · iexact G10
    ipureintro; rfl
  isplitl [G11]
  · iexists _; isplitr
    · ipureintro; exact hq11
    unfold owns; iexists _; isplitr
    swap; · iexact G11
    ipureintro; rfl
  iexists _; isplitr
  · ipureintro; exact hq12
  unfold owns; iexists _; isplitr
  swap; · iexact G12
  ipureintro; rfl

/-- The body at a later point. -/
theorem sound_later (c : Dev nD) (S : Spec (F := F) m c) (t : Fin cfg0.N) (h0 : ¬ t.val % 128 = 0) (hz : t.val ≠ 0) (Fo : sProp 𝕄) :
    iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ Y, owns (c : Thread nD τ) (ms0_5 t) fullShare Y)
      ∗ (∃ Y, owns (c : Thread nD τ) (ms0_6 t) fullShare Y)
      ∗ (∃ Y, owns (c : Thread nD τ) (ms0_7 t) fullShare Y)
      ∗ (∃ Y, owns (c : Thread nD τ) (ms0_8 t) fullShare Y)
      ∗ (∃ Y, owns (c : Thread nD τ) (ms0_9 t) fullShare Y)
      ∗ (∃ Y, owns (c : Thread nD τ) (ms0_10 t) fullShare Y)
      ∗ (∃ Y, owns (c : Thread nD τ) (ms0_11 t) fullShare Y))
      ⊢ wp frame (wpE (defs₀ (F := F)) Variants.none c none) Set.univ (bodyAt0 t) (fun _ => iprop(iprop(iprop((∃ e0 e1 e2, owns (c : Thread nD τ) scM0_0 fullShare e0 ∗ owns (c : Thread nD τ) scM0_1 fullShare e1 ∗ owns (c : Thread nD τ) scM0_2 fullShare e2 ∗ ⌜S.RP (t.val + 1) e0 e1 e2⌝) ∗ (∃ d, owns (c : Thread nD τ) scM0_3 fullShare d)) ∗ (∃ r, prngReg c r)) ∗ Fo
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ (∃ X, ⌜S.Q5 t X⌝ ∗ owns (c : Thread nD τ) (ms0_5 t) fullShare X)
      ∗ (∃ X, ⌜S.Q6 t X⌝ ∗ owns (c : Thread nD τ) (ms0_6 t) fullShare X)
      ∗ (∃ X, ⌜S.Q7 t X⌝ ∗ owns (c : Thread nD τ) (ms0_7 t) fullShare X)
      ∗ (∃ X, ⌜S.Q8 t X⌝ ∗ owns (c : Thread nD τ) (ms0_8 t) fullShare X)
      ∗ (∃ X, ⌜S.Q9 t X⌝ ∗ owns (c : Thread nD τ) (ms0_9 t) fullShare X)
      ∗ (∃ X, ⌜S.Q10 t X⌝ ∗ owns (c : Thread nD τ) (ms0_10 t) fullShare X)
      ∗ (∃ X, ⌜S.Q11 t X⌝ ∗ owns (c : Thread nD τ) (ms0_11 t) fullShare X))) := by
  unfold bodyAt0
  iintro ⟨⟨⟨⟨%e0, %e1, %e2, HS0, HS1, HS2, %hr⟩, HS3⟩, Hg⟩, Ho, H0, H1, H2, H3, H4, ⟨%d5, H5⟩, ⟨%d6, H6⟩, ⟨%d7, H7⟩, ⟨%d8, H8⟩, ⟨%d9, H9⟩, ⟨%d10, H10⟩, ⟨%d11, H11⟩⟩
  iapply (runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (fun k f6 f7 f8 f9 f10 f11 f12 f13 f14 f15 => S.P t k ((ms0_5 t).view.read (Elt F) f6) ((ms0_6 t).view.read (Elt F) f7) ((ms0_7 t).view.read (Elt F) f8) ((ms0_8 t).view.read (Elt F) f9) ((ms0_9 t).view.read (Elt F) f10) ((ms0_10 t).view.read (Elt F) f11) ((ms0_11 t).view.read (Elt F) f12) (scM0_0.view.read (Elt F) f13) (scM0_1.view.read (Elt F) f14) (scM0_2.view.read (Elt F) f15)) (S.RP t.val) (fun k f6 f7 f8 f9 f10 f11 f12 f13 f14 f15 f16 h => S.step t k f6 f7 f8 f9 f10 f11 f12 f13 f14 f15 f16 h) (fun f6 f7 f8 f9 f10 f11 f12 f13 f14 f15 h => S.enter t hz _ _ _ _ _ _ _ _ _ _ h) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [HS0 HS1 HS2]
  · iexists e0, e1, e2
    isplitl [HS0]; · iexact HS0
    isplitl [HS1]; · iexact HS1
    isplitl [HS2]; · iexact HS2
    ipureintro; exact hr
  isplitl [HS3]; · iexact HS3
  iintro ⟨H0, H1, H2, H3, H4, %g6, %g7, %g8, %g9, %g10, %g11, %g12, %g13, %g14, %g15, %g16, G6, G7, G8, G9, G10, G11, G12, G13, G14, G15, G16, %hj⟩
  obtain ⟨hq6, hq7, hq8, hq9, hq10, hq11, hq12, hr'⟩ := S.leave t _ _ _ _ _ _ _ _ _ _ hj
  isplitl [G13 G14 G15 G16 Hg]
  · isplitl [G13 G14 G15 G16]
    · isplitl [G13 G14 G15]
      · iexists _, _, _
        isplitl [G13]
        · unfold owns; iexists _; isplitr
          swap; · iexact G13
          ipureintro; rfl
        isplitl [G14]
        · unfold owns; iexists _; isplitr
          swap; · iexact G14
          ipureintro; rfl
        isplitl [G15]
        · unfold owns; iexists _; isplitr
          swap; · iexact G15
          ipureintro; rfl
        ipureintro; exact hr'
      iexists _; unfold owns; iexists _; isplitr
      swap; · iexact G16
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [G6]
  · iexists _; isplitr
    · ipureintro; exact hq6
    unfold owns; iexists _; isplitr
    swap; · iexact G6
    ipureintro; rfl
  isplitl [G7]
  · iexists _; isplitr
    · ipureintro; exact hq7
    unfold owns; iexists _; isplitr
    swap; · iexact G7
    ipureintro; rfl
  isplitl [G8]
  · iexists _; isplitr
    · ipureintro; exact hq8
    unfold owns; iexists _; isplitr
    swap; · iexact G8
    ipureintro; rfl
  isplitl [G9]
  · iexists _; isplitr
    · ipureintro; exact hq9
    unfold owns; iexists _; isplitr
    swap; · iexact G9
    ipureintro; rfl
  isplitl [G10]
  · iexists _; isplitr
    · ipureintro; exact hq10
    unfold owns; iexists _; isplitr
    swap; · iexact G10
    ipureintro; rfl
  isplitl [G11]
  · iexists _; isplitr
    · ipureintro; exact hq11
    unfold owns; iexists _; isplitr
    swap; · iexact G11
    ipureintro; rfl
  iexists _; isplitr
  · ipureintro; exact hq12
  unfold owns; iexists _; isplitr
  swap; · iexact G12
  ipureintro; rfl

/-- The body at any point. -/
theorem sound_body (c : Dev nD) (t : Fin cfg0.N) :
    bodyPre S c t ⊢ wp frame (wpE (defs₀ (F := F)) Variants.none c none) Set.univ (bodyAt0 t) (fun _ => bodyPost S c t) := by
  unfold bodyPre bodyPost
  simp only [before0_0, before0_1, before0_2, before0_3, before0_4]
  rw [show (dats S 0 c).owesAt () t.succ = (dats S 0 c).owesAt () t.castSucc from rfl,
    after0_0, after0_1, after0_2, after0_3, after0_4]
  rw [show (dats S 0 c).Φ t.succ = PhiR S c (t.val + 1) from rfl, PhiR_pos S c (t.val + 1) (Nat.succ_ne_zero _),
    show (dats S 0 c).Φ t.castSucc = PhiR S c t.val from rfl]
  have hN : t.val < 128 := lt_of_lt_of_eq t.isLt (show cfg0.N = 128 from N_0)
  by_cases hz : t.val = 0
  · rw [show PhiR S c t.val = Pipeline.ΦA spec0 c from by rw [hz]; rfl]
    iintro ⟨HP, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%d8, -, H8⟩, ⟨%d9, -, H9⟩, ⟨%d10, -, H10⟩, ⟨%d11, -, H11⟩⟩
    iapply (sound_first c (S c) t (by omega) hz ((dats S 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · rw [PhiR_pos S c t.val hz]
    iintro ⟨HP, Ho, ⟨%d0, H0⟩, ⟨%d1, H1⟩, ⟨%d2, H2⟩, ⟨%d3, H3⟩, ⟨%d4, H4⟩, ⟨%d5, -, H5⟩, ⟨%d6, -, H6⟩, ⟨%d7, -, H7⟩, ⟨%d8, -, H8⟩, ⟨%d9, -, H9⟩, ⟨%d10, -, H10⟩, ⟨%d11, -, H11⟩⟩
    iapply (sound_later c (S c) t (by omega) hz ((dats S 0 c).owesAt () t.castSucc))
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats S 0 c) (defs₀ (F := F)) Variants.none () Set.univ outs0 (S c).Rl := fun t => by
  rw [bigSep_W0, bigSep_W0, defs₀_row]
  exact triple_restated (sound_body S c t) rfl .rfl fun _ => .rfl

theorem hin (c : Dev nD) : Pipeline.ΦA spec0 c ⊢ (dats S 0 c).Φ 0 := by
  rw [show (dats S 0 c).Φ 0 = Pipeline.ΦA spec0 c from rfl]

theorem hout (c : Dev nD) : (dats S 0 c).Φ (Fin.last cfg0.N) ⊢ Pipeline.ΦA spec0 c := by
  rw [show (dats S 0 c).Φ (Fin.last cfg0.N) = PhiR S c cfg0.N from rfl, PhiR_pos S c cfg0.N (by rw [show cfg0.N = 128 from N_0]; omega), PhiA0_eq]
  iintro ⟨⟨⟨%e0, %e1, %e2, HS0, HS1, HS2, -⟩, HS3⟩, Hg⟩
  isplitl [HS0 HS1 HS2 HS3]
  · isplitl [HS0]
    · iexists _; iexact HS0
    isplitl [HS1]
    · iexists _; iexact HS1
    isplitl [HS2]
    · iexists _; iexact HS2
    iexact HS3
  iexact Hg

set_option backward.isDefEq.respectTransparency.types false in
/-- The launch: every final state has each output array as the `Spec` says, and every semaphore counter at zero. -/
theorem run_main : θ_run defs (onTc (τ := τ) (main (F := F))) (s₀ m ρ) (fun r => (Pipeline.RDat.FramePost (cfgs 0) (rdats S) (V m)) r ∧ r.2.sem = fun _ => 0) :=
  Pipeline.RDat.θ_run_frame_track (Q' := _) (hQ' := fun _ h => h) (cfgs := cfgs) (p := (0 : Fin 1)) (kit := launch0) (defs₀ := defs₀) (𝒱₀ := Variants.none) (rdat := rdats S) (m := m) (g := ρ) (main := main)
    (hbody := fun c => (body_obligation S c).toRRel) (hshare := fun c => (dats S 0 c).share_full fun _ => rfl)
    (howed := fun _ _ => rfl) (V := V m) (hmain := hmain m Variants.none) (hA := A_eq S) (hin := hin S) (hout := hout S)

/-- The frame: the run ends, the arguments are unchanged, the counters are zero. -/
theorem frame_hand (S : (c : Dev nD) → Spec (F := F) m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq S c 0).trans (V_main_arg0 m c)),
    (Pipeline.RDat.FramePost.arr_in h.1 c 1 rfl).trans ((A_eq S c 1).trans (V_main_arg1 m c)),
    (Pipeline.RDat.FramePost.arr_in h.1 c 2 rfl).trans ((A_eq S c 2).trans (V_main_arg2 m c)),
    (Pipeline.RDat.FramePost.arr_in h.1 c 3 rfl).trans ((A_eq S c 3).trans (V_main_arg3 m c)),
    (Pipeline.RDat.FramePost.arr_in h.1 c 4 rfl).trans ((A_eq S c 4).trans (V_main_arg4 m c))⟩, h.2⟩) (run_main ρ S)

end Cert.AttendIdeal.Hand

end
-- ==== Proof.Scale.lean ====
/- The power-of-two scale of a quantised group, on the extended reals: what the kernel's bit-by-bit search of the
   exponent field and its two bit patterns denote, and that they are the reference's `2 ** e` and `2 ** -e`. -/
module

public import Idealize.ShloMosaic.Lib.Pointwise

@[expose] public section

set_option maxRecDepth 16384

noncomputable section

namespace Cert.Lowp

open Idealize.ShloMosaic

/-- The float whose exponent field is the word `w` and whose mantissa is 0. -/
def pat (w : BitVec 32) : EReal := Ideal.ofBits .f32 (IntOp.shli .vector w 23#32)

/-- One step of the search: the bit `b` is set when the float of the larger field is at most `r`. -/
def bitStep (r : EReal) (f b : BitVec 32) : BitVec 32 := if pat (IntOp.addi f b) ≤ r then IntOp.addi f b else f

/-- The search's first two bits. -/
def field2 (r : EReal) : BitVec 32 := bitStep r (bitStep r 0#32 128#32) 64#32

/-- The search's last six bits. -/
def field6 (r : EReal) (f : BitVec 32) : BitVec 32 :=
  bitStep r (bitStep r (bitStep r (bitStep r (bitStep r (bitStep r f 32#32) 16#32) 8#32) 4#32) 2#32) 1#32

/-- The exponent field that the search finds. -/
def field (r : EReal) : BitVec 32 := field6 r (field2 r)

/-- The exponent word of a field. -/
def expoOf (f : BitVec 32) : BitVec 32 := if f = 0#32 then 0#32 else IntOp.subi f 126#32

/-- The exponent word of a quotient. -/
def expo (r : EReal) : BitVec 32 := expoOf (field r)

/-- The scale `2 ^ e` as the kernel writes it. -/
def up (r : EReal) : EReal := pat (IntOp.addi (expo r) 127#32)

/-- The inverse scale `2 ^ -e` as the kernel writes it. -/
def down (r : EReal) : EReal := pat (IntOp.addi (IntOp.subi 0#32 (expo r)) 127#32)

/-- The exponent of the reference: that of `frexp`, and 0 below the least normal number. -/
def refExp (r : ℝ) : ℤ := if r < (2 : ℝ) ^ (-126 : ℤ) then 0 else ⌊Real.log r / Real.log 2⌋ + 1

theorem pat_fields : ∀ c : Fin 256,
    let b := IntOp.shli .vector (BitVec.ofNat 32 c.val) 23#32
    (b.extractLsb' 31 1 == 1#1) = false ∧ (b.extractLsb' 23 8).toNat = c.val ∧ (b.extractLsb' 0 23).toNat = 0 := by
  decide +kernel

theorem ieee_pow {b : BitVec 32} {c : ℕ} (hn : (b.extractLsb' 31 1 == 1#1) = false)
    (he : (b.extractLsb' 23 8).toNat = c) (hf : (b.extractLsb' 0 23).toNat = 0) (h1 : 1 ≤ c) (h2 : c ≤ 254) :
    Ideal.ieee 8 23 b = (((2 : ℝ) ^ ((c : ℤ) - 127) : ℝ) : EReal) := by
  have e : ((1 : ℝ) * ((2 ^ 23 + 0 : ℕ) : ℝ)) * (2 : ℝ) ^ ((c : ℤ) - (2 ^ (8 - 1) - 1) - 23) = (2 : ℝ) ^ ((c : ℤ) - 127) := by
    rw [show ((c : ℤ) - (2 ^ (8 - 1) - 1) - 23) = ((c : ℤ) - 127) - 23 by norm_num, zpow_sub₀ (by norm_num : (2 : ℝ) ≠ 0)]
    norm_num
    ring
  rw [← e]
  unfold Ideal.ieee
  rw [show (b.extractLsb' (8 + 23) 1 == 1#1) = false from hn, he, hf]
  dsimp only
  rw [if_neg (by omega), if_neg (by omega), if_neg (by simp)]
  push_cast
  rfl

theorem ieee_top {b : BitVec 32} (hn : (b.extractLsb' 31 1 == 1#1) = false)
    (he : (b.extractLsb' 23 8).toNat = 255) (hf : (b.extractLsb' 0 23).toNat = 0) : Ideal.ieee 8 23 b = ⊤ := by
  unfold Ideal.ieee
  rw [show (b.extractLsb' (8 + 23) 1 == 1#1) = false from hn, he, hf]
  dsimp only
  rw [if_pos (by norm_num), if_pos rfl, if_neg (by simp)]

/-- A pattern of field `1 ≤ c ≤ 254` denotes `2 ^ (c - 127)`. -/
theorem pat_ofNat (c : ℕ) (h1 : 1 ≤ c) (h2 : c ≤ 254) :
    pat (BitVec.ofNat 32 c) = (((2 : ℝ) ^ ((c : ℤ) - 127) : ℝ) : EReal) := by
  obtain ⟨hn, he, hf⟩ := pat_fields ⟨c, by omega⟩
  exact ieee_pow hn he hf h1 h2

/-- The pattern of field 255 denotes `⊤`. -/
theorem pat_255 : pat (BitVec.ofNat 32 255) = ⊤ := by
  obtain ⟨hn, he, hf⟩ := pat_fields ⟨255, by omega⟩
  exact ieee_top hn he hf

theorem addi_ofNat (a b : ℕ) : IntOp.addi (BitVec.ofNat 32 a) (BitVec.ofNat 32 b) = BitVec.ofNat 32 (a + b) := by
  unfold IntOp.addi; exact (BitVec.ofNat_add a b).symm

/-- What the search keeps: a field `c`, its float at most `r`, and `r` below the float of field `c + n`. -/
def Keeps (r : EReal) (n : ℕ) (f : BitVec 32) : Prop :=
  ∃ c : ℕ, f = BitVec.ofNat 32 c ∧ c + n ≤ 256 ∧ (c = 0 ∨ pat (BitVec.ofNat 32 c) ≤ r) ∧
    (c + n < 256 → r < pat (BitVec.ofNat 32 (c + n)))

theorem Keeps.step {r : EReal} {n : ℕ} {f : BitVec 32} (h : Keeps r (2 * n) f) : Keeps r n (bitStep r f (BitVec.ofNat 32 n)) := by
  obtain ⟨c, rfl, hc, h0, h1⟩ := h
  unfold bitStep
  rw [addi_ofNat]
  split
  · next hle => exact ⟨c + n, rfl, by omega, .inr hle, fun h => by rw [show c + n + n = c + 2 * n by omega]; exact h1 (by omega)⟩
  · next hle => exact ⟨c, rfl, by omega, h0, fun h => lt_of_not_ge hle⟩

theorem keeps_field (r : EReal) : Keeps r 1 (field r) := by
  have h0 : Keeps r (2 * 128) (0#32) := ⟨0, rfl, by omega, .inl rfl, fun h => by omega⟩
  exact ((((((((h0.step (n := 128)).step (n := 64)).step (n := 32)).step (n := 16)).step (n := 8)).step (n := 4)).step
    (n := 2)).step (n := 1))

theorem expo_words : ∀ c : Fin 253, 1 ≤ c.val →
    IntOp.addi (expoOf (BitVec.ofNat 32 c.val)) 127#32 = BitVec.ofNat 32 (c.val + 1) ∧
    IntOp.addi (IntOp.subi 0#32 (expoOf (BitVec.ofNat 32 c.val))) 127#32 = BitVec.ofNat 32 (253 - c.val) := by
  decide +kernel

theorem expo_zero : IntOp.addi (expoOf (BitVec.ofNat 32 0)) 127#32 = BitVec.ofNat 32 127 ∧
    IntOp.addi (IntOp.subi 0#32 (expoOf (BitVec.ofNat 32 0))) 127#32 = BitVec.ofNat 32 127 := by
  decide +kernel

/-- The two scales of the kernel are `2 ^ e` and `2 ^ -e` with the reference's `e`. -/
theorem scales (r : ℝ) (hr : r < (2 : ℝ) ^ (125 : ℤ)) :
    up r = (((2 : ℝ) ^ refExp r : ℝ) : EReal) ∧ down r = (((2 : ℝ) ^ (-refExp r) : ℝ) : EReal) := by
  obtain ⟨c, hf, hc, h0, h1⟩ := keeps_field (r : EReal)
  have two : (1 : ℝ) < 2 := by norm_num
  unfold up down expo
  rw [hf]
  by_cases hz : c = 0
  · subst hz
    have hlt := h1 (by omega)
    rw [pat_ofNat _ (by omega) (by omega), EReal.coe_lt_coe_iff] at hlt
    have he : refExp r = 0 := if_pos (by simpa using hlt)
    rw [expo_zero.1, expo_zero.2, pat_ofNat _ (by omega) (by omega), he]
    norm_num
  · have hle := h0.resolve_left hz
    have hc253 : c < 253 := by
      by_contra hge
      rcases (show c = 255 ∨ c ≤ 254 by omega) with rfl | h254
      · rw [pat_255] at hle; exact absurd hle (by simp)
      · rw [pat_ofNat _ (by omega) h254, EReal.coe_le_coe_iff] at hle
        have : (2 : ℝ) ^ (125 : ℤ) ≤ (2 : ℝ) ^ ((c : ℤ) - 127) := zpow_le_zpow_right₀ two.le (by omega)
        linarith
    rw [pat_ofNat _ (by omega) (by omega), EReal.coe_le_coe_iff] at hle
    have hlt := h1 (by omega)
    rw [pat_ofNat _ (by omega) (by omega), EReal.coe_lt_coe_iff] at hlt
    have hpos : 0 < r := lt_of_lt_of_le (zpow_pos (by norm_num) _) hle
    have hl2 : 0 < Real.log 2 := Real.log_pos two
    have he : refExp r = (c : ℤ) - 126 := by
      have hge : (2 : ℝ) ^ (-126 : ℤ) ≤ (2 : ℝ) ^ ((c : ℤ) - 127) := zpow_le_zpow_right₀ two.le (by omega)
      rw [refExp, if_neg (by linarith)]
      have : ⌊Real.log r / Real.log 2⌋ = (c : ℤ) - 127 := by
        rw [Int.floor_eq_iff]
        constructor
        · rw [le_div_iff₀ hl2, ← Real.log_zpow]
          exact Real.log_le_log (zpow_pos (by norm_num) _) hle
        · rw [div_lt_iff₀ hl2]
          have h := Real.log_lt_log hpos hlt
          rw [Real.log_zpow] at h
          push_cast at h ⊢
          linarith
      rw [this]; ring
    obtain ⟨e1, e2⟩ := expo_words ⟨c, hc253⟩ (by show 1 ≤ c; omega)
    simp only at e1 e2
    rw [e1, e2, pat_ofNat _ (by omega) (by omega), pat_ofNat _ (by omega) (by omega), he]
    constructor
    · congr 2; push_cast; ring
    · congr 2; push_cast [Nat.cast_sub (show c ≤ 253 by omega)]; ring

end Cert.Lowp
-- ==== Proof.Words.lean ====
/- What the words of one trip of the head loop hold, at the extended reals. -/
module

public import proofs.«01_k».proof.Proof.Trip
public import proofs.«01_k».proof.Proof.Scale
public import Idealize.ShloMosaic.Lib.Pointwise

@[expose] public section

set_option maxRecDepth 16384

noncomputable section

namespace Cert.Lowp

open Idealize.ShloMosaic Cert.AttendIdeal

/-- One step of the search, on the kernel's one-element arrays. -/
def stepV (r : FVec Ideal S1x1 .f32) (f : IVec S1x1 32) (b : BitVec 32) : IVec S1x1 32 :=
  select (cmpf .oge r (bitcastToFloat .f32 (shli (addi f (broadcast S1x1 b)) (broadcast S1x1 23#32))))
    (addi f (broadcast S1x1 b)) f

theorem stepV_read (r : FVec Ideal S1x1 .f32) (f : IVec S1x1 32) (b : BitVec 32) (j : S1x1.Idx) :
    stepV r f b j = bitStep (r j) (f j) b := by
  pointwise [stepV, bitStep, pat]

/-- The whole search. -/
def fieldV (r : FVec Ideal S1x1 .f32) : IVec S1x1 32 :=
  stepV r (stepV r (stepV r (stepV r (stepV r (stepV r (stepV r (stepV r (broadcast S1x1 0#32) 128#32) 64#32) 32#32) 16#32)
    8#32) 4#32) 2#32) 1#32

theorem fieldV_read (r : FVec Ideal S1x1 .f32) (j : S1x1.Idx) : fieldV r j = field (r j) := by
  simp only [fieldV, stepV_read, field, field6, field2]
  rfl

def expoV (r : FVec Ideal S1x1 .f32) : IVec S1x1 32 :=
  select (cmpi .eq (fieldV r) (broadcast S1x1 0#32)) (broadcast S1x1 0#32) (subi (fieldV r) (broadcast S1x1 126#32))

theorem expoV_read (r : FVec Ideal S1x1 .f32) (j : S1x1.Idx) : expoV r j = expo (r j) := by
  pointwise [expoV, fieldV_read, expo, expoOf]
  by_cases h : field (r j) = 0#32
  · simp [Scalar.select, IntOp.cmpi, h]
  · have hb : (field (r j) == 0#32) = false := by simpa using h
    simp [Scalar.select, IntOp.cmpi, h, hb]

def upV (r : FVec Ideal S1x1 .f32) : FVec Ideal S1x1 .f32 :=
  bitcastToFloat .f32 (shli (addi (expoV r) (broadcast S1x1 127#32)) (broadcast S1x1 23#32))

theorem upV_read (r : FVec Ideal S1x1 .f32) (j : S1x1.Idx) : upV r j = up (r j) := by
  pointwise [upV, expoV_read, up, pat]

def downV (r : FVec Ideal S1x1 .f32) : FVec Ideal S1x1 .f32 :=
  bitcastToFloat .f32 (shli (addi (subi (broadcast S1x1 0#32) (expoV r)) (broadcast S1x1 127#32)) (broadcast S1x1 23#32))

theorem downV_read (r : FVec Ideal S1x1 .f32) (j : S1x1.Idx) : downV r j = down (r j) := by
  pointwise [downV, expoV_read, down, pat]

/-! ## One group's quantiser -/

/-- `-inf`, where a maximum starts. -/
def ninf : EReal := Ideal.ofBits .f32 4286578688#32

/-- The clipping to fp8's greatest magnitude. -/
def clip (y : EReal) : EReal := min (Ideal.ofBits .f32 1138753536#32) (max (Ideal.ofBits .f32 3286237184#32) y)

/-- A group's quotient: its greatest magnitude, over 448. -/
def quo {n : ℕ} (D : Fin n → Fin 128 → EReal) : EReal :=
  Finset.fold max ninf (fun d => Finset.fold max ninf (fun r => FloatOps.absf (F := Ideal) (φ := .f32) (D r d)) Finset.univ) Finset.univ
    * Ideal.ofBits .f32 991054117#32

/-- A group's codes. -/
def code {n : ℕ} (D : Fin n → Fin 128 → EReal) (r : Fin n) (d : Fin 128) : EReal := clip (D r d * down (quo D))

/-- A group's scale. -/
def scl {n : ℕ} (D : Fin n → Fin 128 → EReal) : EReal := up (quo D)

/-- The mean of a tile's rows. -/
def meanT (x : Fin 128 → Fin 128 → EReal) (d : Fin 128) : EReal := (∑ r, x r d) * Ideal.ofBits .f32 1006632960#32

/-- A tile less the mean of its rows. -/
def cen (x : Fin 128 → Fin 128 → EReal) (r d : Fin 128) : EReal := x r d - meanT x d

/-- Half `s` of a tile of keys less the mean key. -/
def grp (x : Fin 128 → Fin 128 → EReal) (mk : Fin 128 → EReal) (s : Fin 2) (r : Fin 64) (d : Fin 128) : EReal :=
  x ⟨64 * s.val + r.val, by omega⟩ d - mk d

/-- The codes of a tile of keys. -/
def kcode (x : Fin 128 → Fin 128 → EReal) (mk : Fin 128 → EReal) (r d : Fin 128) : EReal :=
  code (grp x mk ⟨r.val / 64, by omega⟩) ⟨r.val % 64, by omega⟩ d

/-- The scales of a tile of keys. -/
def kscl (x : Fin 128 → Fin 128 → EReal) (mk : Fin 128 → EReal) (r : Fin 128) : EReal := scl (grp x mk ⟨r.val / 64, by omega⟩)

/-- The codes of a tile of values. -/
def vcode (x : Fin 128 → Fin 128 → EReal) (vs : Fin 128 → EReal) (r d : Fin 128) : EReal :=
  clip (x r d * (Ideal.div (Ideal.ofBits .f32 1065353216#32) (vs d)))

end Cert.Lowp

namespace Cert.AttendIdeal.Hand

open Cert.AttendIdeal Cert.AttendIdeal.Gen Cert.Lowp
open Idealize.ShloMosaic Idealize.ShloMosaic.TcCoe

/-- Head `k`'s tile of a block of 128 rows. -/
def ldT {arg : Memref sig .tc .vmem S128x8192 .bf16} (X : arg.view.ty.Contents (Elt Ideal)) (k : Fin 64) (r d : Fin 128) : EReal :=
  View.readAt (Elt Ideal) arg.view (Rect.unit (s := S128x8192) (k0_off1 k) S128x128.size (k0_off1_inb k)).toLoadRect X (ix2 r d)

/-- Head `k`'s row of a table. -/
def ldR {arg : Memref sig .tc .vmem S64x128 .f32} (X : arg.view.ty.Contents (Elt Ideal)) (k : Fin 64) (d : Fin 128) : EReal :=
  View.readAt (Elt Ideal) arg.view (Rect.unit (s := S64x128) (k0_off2 k) S1x128.size (k0_off2_inb k)).toLoadRect X (ix2 0 d)

section Q

variable (arg1 : Memref sig .tc .vmem S128x8192 .bf16) (X1 : arg1.view.ty.Contents (Elt Ideal)) (k : Fin 64)

theorem r60 (d : Fin 128) : trip.sl.v60 (F := Ideal) arg1 X1 k (ix2 0 d) = meanT (ldT X1 k) d := by
  pointwise [trip.sl.v60, trip.sl.v59, trip.sl.v58, trip.sl.v57, trip.sl.v56, trip.sl.v55, trip.sl.v54, trip.sl.cst_33, meanT, ldT]

theorem r62 (r d : Fin 128) : trip.sl.v62 (F := Ideal) arg1 X1 k (ix2 r d) = cen (ldT X1 k) r d := by
  pointwise [trip.sl.v62, trip.sl.v61, r60, trip.sl.v54, ldT, cen]

theorem r69 (j : S1x1.Idx) : trip.sl.v69 (F := Ideal) arg1 X1 k j = quo (cen (ldT X1 k)) := by
  pointwise [trip.sl.v69, trip.sl.v68, trip.sl.cst_36, trip.sl.v67, trip.sl.v66, trip.sl.v65, trip.sl.v64, trip.sl.v63, r62, quo, ninf]

theorem t139 : trip.sl.v139 (F := Ideal) arg1 X1 k = downV (trip.sl.v69 arg1 X1 k) := rfl
theorem t151 : trip.sl.v151 (F := Ideal) arg1 X1 k = upV (trip.sl.v69 arg1 X1 k) := rfl

theorem r151 (j : S1x1.Idx) : trip.sl.v151 (F := Ideal) arg1 X1 k j = scl (cen (ldT X1 k)) := by
  rw [t151, upV_read, r69, scl]

theorem r146 (r d : Fin 128) : trip.sl.v146 (F := Ideal) arg1 X1 k (ix2 r d) = code (cen (ldT X1 k)) r d := by
  pointwise [trip.sl.v146, trip.sl.v145, trip.sl.v144, trip.sl.v143, trip.sl.v142, trip.sl.v141, trip.sl.v140, t139, downV_read, r69, r62,
    trip.sl.cst_55, trip.sl.cst_56, code, clip]

theorem r371 (d : Fin 128) : trip.sl.v371 (F := Ideal) arg1 X1 k (ix3 0 0 d) = meanT (ldT X1 k) d := by
  pointwise [trip.sl.v371, r60]

theorem r377 (d : Fin 128) : trip.sl.v377 (F := Ideal) arg1 X1 k (ix3 0 0 d) = scl (cen (ldT X1 k)) := by
  pointwise [trip.sl.v377, trip.sl.v373, trip.sl.v372, r151]

end Q

section K

variable (arg2 : Memref sig .tc .vmem S128x8192 .bf16) (arg4 : Memref sig .tc .vmem S64x128 .f32)
variable (X2 : arg2.view.ty.Contents (Elt Ideal)) (X4 : arg4.view.ty.Contents (Elt Ideal)) (k : Fin 64)

theorem r159 (r : Fin 64) (d : Fin 128) : trip.sl.v159 (F := Ideal) arg2 arg4 X2 X4 k (ix2 r d) = grp (ldT X2 k) (ldR X4 k) 0 r d := by
  pointwise [trip.sl.v159, trip.sl.v158, trip.sl.v157, trip.sl.v154, ldT, ldR, grp]

theorem r249 (r : Fin 64) (d : Fin 128) : trip.sl.v249 (F := Ideal) arg2 arg4 X2 X4 k (ix2 r d) = grp (ldT X2 k) (ldR X4 k) 1 r d := by
  pointwise [trip.sl.v249, trip.sl.v158, trip.sl.v157, trip.sl.v154, ldT, ldR, grp]

theorem r166 (j : S1x1.Idx) : trip.sl.v166 (F := Ideal) arg2 arg4 X2 X4 k j = quo (grp (ldT X2 k) (ldR X4 k) 0) := by
  pointwise [trip.sl.v166, trip.sl.v68, trip.sl.cst_36, trip.sl.v164, trip.sl.v163, trip.sl.v162, trip.sl.v161, trip.sl.v160, r159, quo, ninf]

theorem r256 (j : S1x1.Idx) : trip.sl.v256 (F := Ideal) arg2 arg4 X2 X4 k j = quo (grp (ldT X2 k) (ldR X4 k) 1) := by
  pointwise [trip.sl.v256, trip.sl.v68, trip.sl.cst_36, trip.sl.v254, trip.sl.v253, trip.sl.v252, trip.sl.v251, trip.sl.v250, r249, quo, ninf]

theorem t236 : trip.sl.v236 (F := Ideal) arg2 arg4 X2 X4 k = downV (trip.sl.v166 arg2 arg4 X2 X4 k) := rfl
theorem t326 : trip.sl.v326 (F := Ideal) arg2 arg4 X2 X4 k = downV (trip.sl.v256 arg2 arg4 X2 X4 k) := rfl
theorem t248 : trip.sl.v248 (F := Ideal) arg2 arg4 X2 X4 k = upV (trip.sl.v166 arg2 arg4 X2 X4 k) := rfl
theorem t338 : trip.sl.v338 (F := Ideal) arg2 arg4 X2 X4 k = upV (trip.sl.v256 arg2 arg4 X2 X4 k) := rfl

theorem r243 (r : Fin 64) (d : Fin 128) : trip.sl.v243 (F := Ideal) arg2 arg4 X2 X4 k (ix2 r d) = code (grp (ldT X2 k) (ldR X4 k) 0) r d := by
  pointwise [trip.sl.v243, trip.sl.v242, trip.sl.v241, trip.sl.v240, trip.sl.v239, trip.sl.v238, trip.sl.v237, t236, downV_read, r166, r159,
    trip.sl.cst_55, trip.sl.cst_56, code, clip]

theorem r333 (r : Fin 64) (d : Fin 128) : trip.sl.v333 (F := Ideal) arg2 arg4 X2 X4 k (ix2 r d) = code (grp (ldT X2 k) (ldR X4 k) 1) r d := by
  pointwise [trip.sl.v333, trip.sl.v332, trip.sl.v241, trip.sl.v330, trip.sl.v239, trip.sl.v328, trip.sl.v327, t326, downV_read, r256, r249,
    trip.sl.cst_55, trip.sl.cst_56, code, clip]

theorem r339 (r d : Fin 128) : trip.sl.v339 (F := Ideal) arg2 arg4 X2 X4 k (ix2 r d) = kcode (ldT X2 k) (ldR X4 k) r d := by
  pointwise [trip.sl.v339, r243, r333]
  unfold kcode
  by_cases h : r.val < 64
  · rw [dif_pos h, show (⟨r.val / 64, by omega⟩ : Fin 2) = 0 from Fin.ext (by simp; omega)]
    exact congrArg (fun i => code _ i d) (Fin.ext (by simp; omega))
  · rw [dif_neg h, show (⟨r.val / 64, by omega⟩ : Fin 2) = 1 from Fin.ext (by simp; omega)]
    exact congrArg (fun i => code _ i d) (Fin.ext (by simp; omega))

theorem r387 (r d : Fin 128) : trip.sl.v387 (F := Ideal) arg2 arg4 X2 X4 k (ix3 0 r d) = kcode (ldT X2 k) (ldR X4 k) r d := by
  pointwise [trip.sl.v387, r339]

theorem r346 (v43) (hv : ∀ d : Fin 128, v43 (ix2 0 d) = BitVec.ofNat 32 d.val) (d : Fin 128) : trip.sl.v346 (F := Ideal) arg2 arg4 v43 X2 X4 k (ix2 0 d) = kscl (ldT X2 k) (ldR X4 k) d := by
  pointwise [trip.sl.v346, trip.sl.v345, trip.sl.v344, trip.sl.v343, trip.sl.v342, trip.sl.v341, trip.sl.v340, t248, t338, upV_read, r166, r256]
  rw [hv, kscl, scl]
  have hs : BitVec.slt (BitVec.ofNat 32 d.val) 64#32 = decide (d.val < 64) := by
    rw [BitVec.slt, BitVec.toInt_eq_toNat_of_lt (by rw [BitVec.toNat_ofNat]; omega), BitVec.toNat_ofNat,
      Nat.mod_eq_of_lt (by omega), show (64#32).toInt = 64 from rfl]
    norm_num
  by_cases h : d.val < 64
  · rw [show (⟨d.val / 64, by omega⟩ : Fin 2) = 0 from Fin.ext (by simp; omega)]
    simp [Scalar.select, IntOp.cmpi, hs, h]
  · rw [show (⟨d.val / 64, by omega⟩ : Fin 2) = 1 from Fin.ext (by simp; omega)]
    simp [Scalar.select, IntOp.cmpi, hs, h]

theorem r381 (v43) (hv : ∀ d : Fin 128, v43 (ix2 0 d) = BitVec.ofNat 32 d.val) (d : Fin 128) :
    trip.sl.v381 (F := Ideal) arg2 arg4 v43 X2 X4 k (ix3 0 0 d) = kscl (ldT X2 k) (ldR X4 k) d := by
  pointwise [trip.sl.v381, r346 arg2 arg4 X2 X4 k v43 hv]

end K

section V

variable (arg3 : Memref sig .tc .vmem S128x8192 .bf16) (arg5 : Memref sig .tc .vmem S64x128 .f32)
variable (X3 : arg3.view.ty.Contents (Elt Ideal)) (X5 : arg5.view.ty.Contents (Elt Ideal)) (k : Fin 64)

theorem r360 (r d : Fin 128) : trip.sl.v360 (F := Ideal) arg3 arg5 X3 X5 k (ix2 r d) = vcode (ldT X3 k) (ldR X5 k) r d := by
  pointwise [trip.sl.v360, trip.sl.v359, trip.sl.v357, trip.sl.v355, trip.sl.v354, trip.sl.v353, trip.sl.v352, trip.sl.v351, trip.sl.v144,
    trip.sl.v142, trip.sl.cst_55, trip.sl.cst_56, trip.sl.cst_124, vcode, clip, ldT, ldR]

theorem r393 (r d : Fin 128) : trip.sl.v393 (F := Ideal) arg3 arg5 X3 X5 k (ix3 0 r d) = vcode (ldT X3 k) (ldR X5 k) r d := by
  pointwise [trip.sl.v393, r360]

end V

end Cert.AttendIdeal.Hand
-- ==== Proof.Pieces.lean ====
/- What one trip of the head loop writes to each memref. -/
module

public import proofs.«01_k».proof.Proof.Words

@[expose] public section

set_option maxRecDepth 16384

noncomputable section

namespace Cert.AttendIdeal.Hand

open Cert.AttendIdeal Cert.AttendIdeal.Gen Cert.Lowp
open Idealize.ShloMosaic Idealize.ShloMosaic.TcCoe

variable (𝒱 : Variants) (c : Dev nD) (bd : Option 𝒱.V) (i : grid0.Coords) (arg1 : Memref sig .tc .vmem S128x8192 .bf16) (harg1 : arg1.IsWhole) (arg2 : Memref sig .tc .vmem S128x8192 .bf16) (harg2 : arg2.IsWhole) (arg3 : Memref sig .tc .vmem S128x8192 .bf16) (harg3 : arg3.IsWhole) (arg4 : Memref sig .tc .vmem S64x128 .f32) (harg4 : arg4.IsWhole) (arg5 : Memref sig .tc .vmem S64x128 .f32) (harg5 : arg5.IsWhole) (arg6 : Memref sig .tc .vmem S128x8192 .bf16) (harg6 : arg6.IsWhole) (arg7 : Memref sig .tc .vmem S128x8192 .fp8e4m3) (harg7 : arg7.IsWhole) (arg8 : Memref sig .tc .vmem S128x8192 .fp8e4m3) (harg8 : arg8.IsWhole) (arg9 : Memref sig .tc .vmem S128x8192 .fp8e4m3) (harg9 : arg9.IsWhole) (arg10 : Memref sig .tc .vmem S1x64x128 .f32) (harg10 : arg10.IsWhole) (arg11 : Memref sig .tc .vmem S1x64x128 .f32) (harg11 : arg11.IsWhole) (arg12 : Memref sig .tc .vmem S1x64x128 .f32) (harg12 : arg12.IsWhole) (arg13 : Memref sig .tc .vmem S64x1664x128 .fp8e4m3) (harg13 : arg13.IsWhole) (arg14 : Memref sig .tc .vmem S64x1664x128 .fp8e4m3) (harg14 : arg14.IsWhole) (arg15 : Memref sig .tc .vmem S64x16x128 .f32) (harg15 : arg15.IsWhole) (arg16 : Memref sig .tc .vmem S128x1536 .f32) (harg16 : arg16.IsWhole) (arg0 : BitVec 32) (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v43 : IVec S1x128 32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (k : Fin k0_t1_loop.trips)
variable (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty)

/-- One trip writes the codes of the queries. -/
theorem pieces7 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.1 f6 f7 f8 f9 f10 f11 f12 f13 f14 f15 f16 = [⟨Rect.unit (s := S128x8192) (k0_off1 k) S128x128.size (k0_off1_inb k), trip.sl.v146 arg1 X_arg1 k⟩] := by
  unfold trip; rfl

/-- One trip writes the codes of the keys. -/
theorem pieces8 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.1 f6 f7 f8 f9 f10 f11 f12 f13 f14 f15 f16 = [⟨Rect.unit (s := S128x8192) (k0_off1 k) S128x128.size (k0_off1_inb k), trip.sl.v339 arg2 arg4 X_arg2 X_arg4 k⟩] := by
  unfold trip; rfl

/-- One trip writes the codes of the values. -/
theorem pieces9 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.1 f6 f7 f8 f9 f10 f11 f12 f13 f14 f15 f16 = [⟨Rect.unit (s := S128x8192) (k0_off1 k) S128x128.size (k0_off1_inb k), trip.sl.v360 arg3 arg5 X_arg3 X_arg5 k⟩] := by
  unfold trip; rfl

/-- One trip writes the mean query. -/
theorem pieces10 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.1 f6 f7 f8 f9 f10 f11 f12 f13 f14 f15 f16 = [⟨Rect.unit (s := S1x64x128) (k0_off3 k) S1x1x128.size (k0_off3_inb k), trip.sl.v371 arg1 X_arg1 k⟩] := by
  unfold trip; rfl

/-- One trip writes the queries' scale. -/
theorem pieces11 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.2.1 f6 f7 f8 f9 f10 f11 f12 f13 f14 f15 f16 = [⟨Rect.unit (s := S1x64x128) (k0_off3 k) S1x1x128.size (k0_off3_inb k), trip.sl.v377 arg1 X_arg1 k⟩] := by
  unfold trip; rfl

/-- One trip writes the keys' scales. -/
theorem pieces12 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.2.2.1 f6 f7 f8 f9 f10 f11 f12 f13 f14 f15 f16 = [⟨Rect.unit (s := S1x64x128) (k0_off3 k) S1x1x128.size (k0_off3_inb k), trip.sl.v381 arg2 arg4 v43 X_arg2 X_arg4 k⟩] := by
  unfold trip; rfl

/-- One trip writes the codes of the keys, in the ring. -/
theorem pieces13 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.2.2.2.1 f6 f7 f8 f9 f10 f11 f12 f13 f14 f15 f16 = [⟨Rect.unit (s := S64x1664x128) (k0_off4 i k) S1x128x128.size (k0_off4_inb i k), trip.sl.v387 arg2 arg4 X_arg2 X_arg4 k⟩] := by
  unfold trip; rfl

/-- One trip writes the codes of the values, in the ring. -/
theorem pieces14 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.2.2.2.2.1 f6 f7 f8 f9 f10 f11 f12 f13 f14 f15 f16 = [⟨Rect.unit (s := S64x1664x128) (k0_off4 i k) S1x128x128.size (k0_off4_inb i k), trip.sl.v393 arg3 arg5 X_arg3 X_arg5 k⟩] := by
  unfold trip; rfl

/-- One trip writes the keys' scales, in the ring. -/
theorem pieces15 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).2.2.2.2.2.2.2.2.2.1 f6 f7 f8 f9 f10 f11 f12 f13 f14 f15 f16 = [⟨Rect.unit (s := S64x16x128) (k0_off5 i k) S1x1x128.size (k0_off5_inb i k), trip.sl.v381 arg2 arg4 v43 X_arg2 X_arg4 k⟩] := by
  unfold trip; rfl

/-- One trip writes the output tile. -/
theorem pieces6 : (trip (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v3 v6 v9 v12 v15 v18 v21 v24 v27 v30 v33 v36 v39 v43 X_arg1 X_arg2 X_arg3 X_arg4 X_arg5 k).1 f6 f7 f8 f9 f10 f11 f12 f13 f14 f15 f16 = [⟨Rect.unit (s := S128x8192) (k0_off1 k) S128x128.size (k0_off1_inb k),
    k0_pay5 (trip.sl.r arg5 X_arg5 k) (trip.sl.r_6 i arg1 arg2 arg3 arg4 arg5 arg13 arg14 arg15 arg16 arg0 v43 X_arg1 X_arg2 X_arg3 X_arg4 X_arg5 k f13 f14 f15)
    (trip.sl.r_7 i arg1 arg2 arg4 arg13 arg15 arg16 arg0 v43 X_arg1 X_arg2 X_arg4 k f13 f15)
    (trip.sl.r_8 i arg1 arg2 arg3 arg4 arg5 arg13 arg14 arg15 arg16 arg0 v43 X_arg1 X_arg2 X_arg3 X_arg4 X_arg5 k f13 f14 f15)⟩] := by
  unfold trip; rfl

end Cert.AttendIdeal.Hand
-- ==== Proof.Hold.lean ====
/- What a written block holds head by head, and that one trip's store extends it by one head. -/
module

public import proofs.«01_k».proof.Proof.Words
public import Idealize.ShloMosaic.Lib.WritesUnit
public import Idealize.ShloMosaic.Lib.WholeRead

@[expose] public section

set_option maxRecDepth 16384

noncomputable section

namespace Cert.AttendIdeal.Hand

open Cert.AttendIdeal Cert.AttendIdeal.Gen Cert.Lowp
open Idealize.ShloMosaic Idealize.ShloMosaic.TcCoe

variable {e : EltTy}

/-- Lane `d` of head `h`, as a column of a block. -/
def col (h : Fin 64) (d : Fin 128) : Fin 8192 := ⟨128 * h.val + d.val, by omega⟩

/-- The heads before `n` of a block of 128 rows hold the tiles `g`. -/
def HoldsT (g : Fin 64 → Fin 128 → Fin 128 → Elt Ideal e) (n : ℕ) (X : S128x8192.Idx → Elt Ideal e) : Prop :=
  ∀ h : Fin 64, h.val < n → ∀ r d : Fin 128, X (ix2 r (col h d)) = g h r d

/-- The heads before `n` of a table of one row a head hold the rows `g`. -/
def HoldsR (g : Fin 64 → Fin 128 → Elt Ideal e) (n : ℕ) (X : S1x64x128.Idx → Elt Ideal e) : Prop :=
  ∀ h : Fin 64, h.val < n → ∀ d : Fin 128, X (ix3 0 h d) = g h d

theorem HoldsT.zero (g : Fin 64 → Fin 128 → Fin 128 → Elt Ideal e) (X : S128x8192.Idx → Elt Ideal e) : HoldsT g 0 X :=
  fun _ h => absurd h (Nat.not_lt_zero _)

theorem HoldsR.zero (g : Fin 64 → Fin 128 → Elt Ideal e) (X : S1x64x128.Idx → Elt Ideal e) : HoldsR g 0 X :=
  fun _ h => absurd h (Nat.not_lt_zero _)

/-- The store of head `k`'s tile extends what the block holds. -/
theorem HoldsT.step (M : Memref sig .tc .vmem S128x8192 e) (f : M.view.ty.Contents (Elt Ideal)) (k : Fin 64)
    (w : S128x128.Idx → Elt Ideal e) (g : Fin 64 → Fin 128 → Fin 128 → Elt Ideal e)
    (hf : HoldsT g k.val (M.view.read (Elt Ideal) f)) (hw : ∀ r d : Fin 128, w (ix2 r d) = g k r d) :
    HoldsT g (k.val + 1) (M.view.read (Elt Ideal) (M.view.writes (Elt Ideal) f
      [⟨Rect.unit (s := S128x8192) (k0_off1 k) S128x128.size (k0_off1_inb k), w⟩])) := by
  intro h hh r d
  by_cases e' : h = k
  · subst e'
    rw [← hw]
    exact View.read_writes_cons_unit_of_mem M.view f _ w [] _ (ix2 r d) (k0_off1_eq h)
      (Fin.forall_fin_two.mpr ⟨(Nat.zero_add _).symm, rfl⟩)
  · have hlt : h.val < k.val := by have := fun q => e' (Fin.ext q); omega
    rw [← hf h hlt r d]
    exact View.read_writes_cons_unit_of_not_mem M.view f _ w [] _ (k0_off1_eq k) (1 : Fin 2)
      (Or.inl (show 128 * h.val + d.val < 128 * k.val by omega))

/-- The store of head `k`'s row extends what the table holds. -/
theorem HoldsR.step (M : Memref sig .tc .vmem S1x64x128 e) (f : M.view.ty.Contents (Elt Ideal)) (k : Fin 64)
    (w : S1x1x128.Idx → Elt Ideal e) (g : Fin 64 → Fin 128 → Elt Ideal e)
    (hf : HoldsR g k.val (M.view.read (Elt Ideal) f)) (hw : ∀ d : Fin 128, w (ix3 0 0 d) = g k d) :
    HoldsR g (k.val + 1) (M.view.read (Elt Ideal) (M.view.writes (Elt Ideal) f
      [⟨Rect.unit (s := S1x64x128) (k0_off3 k) S1x1x128.size (k0_off3_inb k), w⟩])) := by
  intro h hh d
  by_cases e' : h = k
  · subst e'
    rw [← hw]
    refine View.read_writes_cons_unit_of_mem M.view f _ w [] _ (ix3 0 0 d) (k0_off3_eq h) ?_
    intro a
    fin_cases a <;> simp
  · have hlt : h.val < k.val := by have := fun q => e' (Fin.ext q); omega
    rw [← hf h hlt d]
    exact View.read_writes_cons_unit_of_not_mem M.view f _ w [] _ (k0_off3_eq k) (1 : Fin 3) (Or.inl hlt)

/-- Head `k`'s tile of a whole block. -/
theorem ldT_unread {M : Memref sig .tc .vmem S128x8192 .bf16} (hM : M.IsWhole) (X : S128x8192.Idx → Elt Ideal .bf16) (k : Fin 64)
    (r d : Fin 128) : ldT (arg := M) (hM.unread X) k r d = X (ix2 r (col k d)) := by
  unfold ldT
  rw [Memref.IsWhole.readAt_unread]
  congr 1
  funext a
  refine Fin.ext ?_
  have h0 : k0_off1 k 0 = 0 := congrFun (k0_off1_eq k) 0
  have h1 : k0_off1 k 1 = 128 * k.val := congrFun (k0_off1_eq k) 1
  fin_cases a
  · show k0_off1 k 0 + 1 * r.val = r.val
    omega
  · show k0_off1 k 1 + 1 * d.val = 128 * k.val + d.val
    omega

/-- Head `k`'s row of a whole table. -/
theorem ldR_unread {M : Memref sig .tc .vmem S64x128 .f32} (hM : M.IsWhole) (X : S64x128.Idx → Elt Ideal .f32) (k : Fin 64)
    (d : Fin 128) : ldR (arg := M) (hM.unread X) k d = X (ix2 k d) := by
  unfold ldR
  rw [Memref.IsWhole.readAt_unread]
  congr 1
  funext a
  refine Fin.ext ?_
  have h0 : k0_off2 k 0 = k.val := congrFun (k0_off2_eq k) 0
  have h1 : k0_off2 k 1 = 0 := congrFun (k0_off2_eq k) 1
  fin_cases a
  · show k0_off2 k 0 + 1 * 0 = k.val
    omega
  · show k0_off2 k 1 + 1 * d.val = d.val
    omega

end Cert.AttendIdeal.Hand
-- ==== Proof.Value.lean ====
/- What the launch leaves in its output blocks, at the extended reals. -/
module

public import proofs.«01_k».proof.Proof.Run
public import proofs.«01_k».proof.Proof.Pieces
public import proofs.«01_k».proof.Proof.Hold

@[expose] public section

set_option maxRecDepth 16384

noncomputable section

namespace Cert.AttendIdeal.Hand

open Cert.AttendIdeal Cert.AttendIdeal.Gen Cert.Lowp
open Idealize.ShloMosaic Idealize.ShloMosaic.TcCoe
open Idealize.ShloMosaic.Pipeline (Dat Cfg Window)

variable (m : (ℓ : Loc nD τ sig) → Buf (Elt Ideal) ℓ) (c : Dev nD)

/-- Head `h`'s tile of the queries at point `t`. -/
def xT (t : Fin cfg0.N) (h : Fin 64) (r d : Fin 128) : EReal := (iblk (F := Ideal) m c 0 t : S128x8192.Idx → EReal) (ix2 r (col h d))
/-- Head `h`'s tile of the keys at point `t`. -/
def kT (t : Fin cfg0.N) (h : Fin 64) (r d : Fin 128) : EReal := (iblk (F := Ideal) m c 1 t : S128x8192.Idx → EReal) (ix2 r (col h d))
/-- Head `h`'s tile of the values at point `t`. -/
def vT (t : Fin cfg0.N) (h : Fin 64) (r d : Fin 128) : EReal := (iblk (F := Ideal) m c 2 t : S128x8192.Idx → EReal) (ix2 r (col h d))
/-- Head `h`'s row of the mean keys. -/
def mkT (t : Fin cfg0.N) (h : Fin 64) (d : Fin 128) : EReal := (iblk (F := Ideal) m c 3 t : S64x128.Idx → EReal) (ix2 h d)
/-- Head `h`'s row of the values' scales. -/
def vsT (t : Fin cfg0.N) (h : Fin 64) (d : Fin 128) : EReal := (iblk (F := Ideal) m c 4 t : S64x128.Idx → EReal) (ix2 h d)

theorem ldT0 (t : Fin cfg0.N) (k : Fin 64) : ldT (arg := ms0_0 t) ((hs0_0 t).unread (iblk (F := Ideal) m c 0 t)) k = xT m c t k :=
  funext fun r => funext fun d => ldT_unread (hs0_0 t) _ k r d
theorem ldT1 (t : Fin cfg0.N) (k : Fin 64) : ldT (arg := ms0_1 t) ((hs0_1 t).unread (iblk (F := Ideal) m c 1 t)) k = kT m c t k :=
  funext fun r => funext fun d => ldT_unread (hs0_1 t) _ k r d
theorem ldT2 (t : Fin cfg0.N) (k : Fin 64) : ldT (arg := ms0_2 t) ((hs0_2 t).unread (iblk (F := Ideal) m c 2 t)) k = vT m c t k :=
  funext fun r => funext fun d => ldT_unread (hs0_2 t) _ k r d
theorem ldR3 (t : Fin cfg0.N) (k : Fin 64) : ldR (arg := ms0_3 t) ((hs0_3 t).unread (iblk (F := Ideal) m c 3 t)) k = mkT m c t k :=
  funext fun d => ldR_unread (hs0_3 t) _ k d
theorem ldR4 (t : Fin cfg0.N) (k : Fin 64) : ldR (arg := ms0_4 t) ((hs0_4 t).unread (iblk (F := Ideal) m c 4 t)) k = vsT m c t k :=
  funext fun d => ldR_unread (hs0_4 t) _ k d

/-- The lane numbers. -/
theorem lane (d : Fin 128) : (iota .tc S1x128 32 [1] iota_S1x128_d1_w32) (ix2 0 d) = BitVec.ofNat 32 d.val := by
  pointwise []

theorem r381i (arg2 : Memref sig .tc .vmem S128x8192 .bf16) (arg4 : Memref sig .tc .vmem S64x128 .f32)
    (X2 : arg2.view.ty.Contents (Elt Ideal)) (X4 : arg4.view.ty.Contents (Elt Ideal)) (k : Fin 64) (d : Fin 128) :
    trip.sl.v381 (F := Ideal) arg2 arg4 (iota .tc S1x128 32 [1] iota_S1x128_d1_w32) X2 X4 k (ix3 0 0 d) = kscl (ldT X2 k) (ldR X4 k) d :=
  r381 arg2 arg4 X2 X4 k _ lane d

/-- The codes of the queries. -/
def gQ (t : Fin cfg0.N) (h : Fin 64) (r d : Fin 128) : EReal := code (cen (xT m c t h)) r d
/-- The codes of the keys. -/
def gK (t : Fin cfg0.N) (h : Fin 64) (r d : Fin 128) : EReal := kcode (kT m c t h) (mkT m c t h) r d
/-- The codes of the values. -/
def gV (t : Fin cfg0.N) (h : Fin 64) (r d : Fin 128) : EReal := vcode (vT m c t h) (vsT m c t h) r d
/-- The mean queries. -/
def gM (t : Fin cfg0.N) (h : Fin 64) (d : Fin 128) : EReal := meanT (xT m c t h) d
/-- The queries' scales. -/
def gS (t : Fin cfg0.N) (h : Fin 64) (_ : Fin 128) : EReal := scl (cen (xT m c t h))
/-- The keys' scales. -/
def gL (t : Fin cfg0.N) (h : Fin 64) (d : Fin 128) : EReal := kscl (kT m c t h) (mkT m c t h) d

theorem wq (t : Fin cfg0.N) (k : Fin 64) (r d : Fin 128) :
    trip.sl.v146 (F := Ideal) (ms0_0 t) ((hs0_0 t).unread (iblk (F := Ideal) m c 0 t)) k (ix2 r d) = gQ m c t k r d := by
  rw [r146 (ms0_0 t) ((hs0_0 t).unread (iblk (F := Ideal) m c 0 t)) k r d, ldT0]
  rfl

theorem step_q (t : Fin cfg0.N) (k : Fin 64) (f : BufTy.Contents (Elt Ideal) (ms0_6 t).view.ty)
    (h : HoldsT (e := .fp8e4m3) (gQ m c t) k.val ((ms0_6 t).view.read (Elt Ideal) f)) :
    HoldsT (e := .fp8e4m3) (gQ m c t) (k.val + 1) ((ms0_6 t).view.read (Elt Ideal) ((ms0_6 t).view.writes (Elt Ideal) f
      [⟨Rect.unit (s := S128x8192) (k0_off1 k) S128x128.size (k0_off1_inb k), trip.sl.v146 (F := Ideal) (ms0_0 t) ((hs0_0 t).unread (iblk (F := Ideal) m c 0 t)) k⟩])) :=
  HoldsT.step (ms0_6 t) f k _ (gQ m c t) h (wq m c t k)

theorem wk (t : Fin cfg0.N) (k : Fin 64) (r d : Fin 128) :
    trip.sl.v339 (F := Ideal) (ms0_1 t) (ms0_3 t) ((hs0_1 t).unread (iblk (F := Ideal) m c 1 t)) ((hs0_3 t).unread (iblk (F := Ideal) m c 3 t)) k (ix2 r d) = gK m c t k r d := by
  rw [r339 (ms0_1 t) (ms0_3 t) ((hs0_1 t).unread (iblk (F := Ideal) m c 1 t)) ((hs0_3 t).unread (iblk (F := Ideal) m c 3 t)) k r d, ldT1, ldR3]
  rfl

theorem step_k (t : Fin cfg0.N) (k : Fin 64) (f : BufTy.Contents (Elt Ideal) (ms0_7 t).view.ty)
    (h : HoldsT (e := .fp8e4m3) (gK m c t) k.val ((ms0_7 t).view.read (Elt Ideal) f)) :
    HoldsT (e := .fp8e4m3) (gK m c t) (k.val + 1) ((ms0_7 t).view.read (Elt Ideal) ((ms0_7 t).view.writes (Elt Ideal) f
      [⟨Rect.unit (s := S128x8192) (k0_off1 k) S128x128.size (k0_off1_inb k), trip.sl.v339 (F := Ideal) (ms0_1 t) (ms0_3 t) ((hs0_1 t).unread (iblk (F := Ideal) m c 1 t)) ((hs0_3 t).unread (iblk (F := Ideal) m c 3 t)) k⟩])) :=
  HoldsT.step (ms0_7 t) f k _ (gK m c t) h (wk m c t k)

theorem wv (t : Fin cfg0.N) (k : Fin 64) (r d : Fin 128) :
    trip.sl.v360 (F := Ideal) (ms0_2 t) (ms0_4 t) ((hs0_2 t).unread (iblk (F := Ideal) m c 2 t)) ((hs0_4 t).unread (iblk (F := Ideal) m c 4 t)) k (ix2 r d) = gV m c t k r d := by
  rw [r360 (ms0_2 t) (ms0_4 t) ((hs0_2 t).unread (iblk (F := Ideal) m c 2 t)) ((hs0_4 t).unread (iblk (F := Ideal) m c 4 t)) k r d, ldT2, ldR4]
  rfl

theorem step_v (t : Fin cfg0.N) (k : Fin 64) (f : BufTy.Contents (Elt Ideal) (ms0_8 t).view.ty)
    (h : HoldsT (e := .fp8e4m3) (gV m c t) k.val ((ms0_8 t).view.read (Elt Ideal) f)) :
    HoldsT (e := .fp8e4m3) (gV m c t) (k.val + 1) ((ms0_8 t).view.read (Elt Ideal) ((ms0_8 t).view.writes (Elt Ideal) f
      [⟨Rect.unit (s := S128x8192) (k0_off1 k) S128x128.size (k0_off1_inb k), trip.sl.v360 (F := Ideal) (ms0_2 t) (ms0_4 t) ((hs0_2 t).unread (iblk (F := Ideal) m c 2 t)) ((hs0_4 t).unread (iblk (F := Ideal) m c 4 t)) k⟩])) :=
  HoldsT.step (ms0_8 t) f k _ (gV m c t) h (wv m c t k)

theorem wu (t : Fin cfg0.N) (k : Fin 64) (d : Fin 128) :
    trip.sl.v371 (F := Ideal) (ms0_0 t) ((hs0_0 t).unread (iblk (F := Ideal) m c 0 t)) k (ix3 0 0 d) = gM m c t k d := by
  rw [r371 (ms0_0 t) ((hs0_0 t).unread (iblk (F := Ideal) m c 0 t)) k d, ldT0]
  rfl

theorem step_u (t : Fin cfg0.N) (k : Fin 64) (f : BufTy.Contents (Elt Ideal) (ms0_9 t).view.ty)
    (h : HoldsR (e := .f32) (gM m c t) k.val ((ms0_9 t).view.read (Elt Ideal) f)) :
    HoldsR (e := .f32) (gM m c t) (k.val + 1) ((ms0_9 t).view.read (Elt Ideal) ((ms0_9 t).view.writes (Elt Ideal) f
      [⟨Rect.unit (s := S1x64x128) (k0_off3 k) S1x1x128.size (k0_off3_inb k), trip.sl.v371 (F := Ideal) (ms0_0 t) ((hs0_0 t).unread (iblk (F := Ideal) m c 0 t)) k⟩])) :=
  HoldsR.step (ms0_9 t) f k _ (gM m c t) h (wu m c t k)

theorem ws (t : Fin cfg0.N) (k : Fin 64) (d : Fin 128) :
    trip.sl.v377 (F := Ideal) (ms0_0 t) ((hs0_0 t).unread (iblk (F := Ideal) m c 0 t)) k (ix3 0 0 d) = gS m c t k d := by
  rw [r377 (ms0_0 t) ((hs0_0 t).unread (iblk (F := Ideal) m c 0 t)) k d, ldT0]
  rfl

theorem step_s (t : Fin cfg0.N) (k : Fin 64) (f : BufTy.Contents (Elt Ideal) (ms0_10 t).view.ty)
    (h : HoldsR (e := .f32) (gS m c t) k.val ((ms0_10 t).view.read (Elt Ideal) f)) :
    HoldsR (e := .f32) (gS m c t) (k.val + 1) ((ms0_10 t).view.read (Elt Ideal) ((ms0_10 t).view.writes (Elt Ideal) f
      [⟨Rect.unit (s := S1x64x128) (k0_off3 k) S1x1x128.size (k0_off3_inb k), trip.sl.v377 (F := Ideal) (ms0_0 t) ((hs0_0 t).unread (iblk (F := Ideal) m c 0 t)) k⟩])) :=
  HoldsR.step (ms0_10 t) f k _ (gS m c t) h (ws m c t k)

theorem wl (t : Fin cfg0.N) (k : Fin 64) (d : Fin 128) :
    trip.sl.v381 (F := Ideal) (ms0_1 t) (ms0_3 t) (iota .tc S1x128 32 [1] iota_S1x128_d1_w32) ((hs0_1 t).unread (iblk (F := Ideal) m c 1 t)) ((hs0_3 t).unread (iblk (F := Ideal) m c 3 t)) k (ix3 0 0 d) = gL m c t k d := by
  rw [r381i (ms0_1 t) (ms0_3 t) ((hs0_1 t).unread (iblk (F := Ideal) m c 1 t)) ((hs0_3 t).unread (iblk (F := Ideal) m c 3 t)) k d, ldT1, ldR3]
  rfl

theorem step_l (t : Fin cfg0.N) (k : Fin 64) (f : BufTy.Contents (Elt Ideal) (ms0_11 t).view.ty)
    (h : HoldsR (e := .f32) (gL m c t) k.val ((ms0_11 t).view.read (Elt Ideal) f)) :
    HoldsR (e := .f32) (gL m c t) (k.val + 1) ((ms0_11 t).view.read (Elt Ideal) ((ms0_11 t).view.writes (Elt Ideal) f
      [⟨Rect.unit (s := S1x64x128) (k0_off3 k) S1x1x128.size (k0_off3_inb k), trip.sl.v381 (F := Ideal) (ms0_1 t) (ms0_3 t) (iota .tc S1x128 32 [1] iota_S1x128_d1_w32) ((hs0_1 t).unread (iblk (F := Ideal) m c 1 t)) ((hs0_3 t).unread (iblk (F := Ideal) m c 3 t)) k⟩])) :=
  HoldsR.step (ms0_11 t) f k _ (gL m c t) h (wl m c t k)

/-- What holds of the six quantiser outputs before head `n`. -/
structure Outs (t : Fin cfg0.N) (n : ℕ) (X7 X8 X9 : S128x8192.Idx → EReal) (X10 X11 X12 : S1x64x128.Idx → EReal) : Prop where
  q : HoldsT (e := .fp8e4m3) (gQ m c t) n X7
  k : HoldsT (e := .fp8e4m3) (gK m c t) n X8
  v : HoldsT (e := .fp8e4m3) (gV m c t) n X9
  u : HoldsR (e := .f32) (gM m c t) n X10
  s : HoldsR (e := .f32) (gS m c t) n X11
  l : HoldsR (e := .f32) (gL m c t) n X12

theorem Outs.zero (t : Fin cfg0.N) (X7 X8 X9 : S128x8192.Idx → EReal) (X10 X11 X12 : S1x64x128.Idx → EReal) :
    Outs m c t 0 X7 X8 X9 X10 X11 X12 :=
  ⟨.zero _ _, .zero _ _, .zero _ _, .zero _ _, .zero _ _, .zero _ _⟩

/-- The launch's blocks, of the quantiser's outputs. -/
def specQ : Spec (F := Ideal) m c where
  P t n _ X7 X8 X9 X10 X11 X12 _ _ _ := Outs m c t n X7 X8 X9 X10 X11 X12
  RP _ _ _ _ := True
  Q5 _ _ := True
  Q6 t X := HoldsT (e := .fp8e4m3) (gQ m c t) 64 X
  Q7 t X := HoldsT (e := .fp8e4m3) (gK m c t) 64 X
  Q8 t X := HoldsT (e := .fp8e4m3) (gV m c t) 64 X
  Q9 t X := HoldsR (e := .f32) (gM m c t) 64 X
  Q10 t X := HoldsR (e := .f32) (gS m c t) 64 X
  Q11 t X := HoldsR (e := .f32) (gL m c t) 64 X
  step t k f6 f7 f8 f9 f10 f11 f12 f13 f14 f15 f16 h := by
    refine ⟨?_, ?_, ?_, ?_, ?_, ?_⟩
    · rw [pieces7]; exact step_q m c t k f7 h.q
    · rw [pieces8]; exact step_k m c t k f8 h.k
    · rw [pieces9]; exact step_v m c t k f9 h.v
    · rw [pieces10]; exact step_u m c t k f10 h.u
    · rw [pieces11]; exact step_s m c t k f11 h.s
    · rw [pieces12]; exact step_l m c t k f12 h.l
  init t _ f6 f7 f8 f9 f10 f11 f12 f13 f14 f15 := .zero m c t _ _ _ _ _ _
  enter t _ X6 X7 X8 X9 X10 X11 X12 X13 X14 X15 _ := .zero m c t _ _ _ _ _ _
  leave t X6 X7 X8 X9 X10 X11 X12 X13 X14 X15 h := ⟨trivial, h.q, h.k, h.v, h.u, h.s, h.l, trivial⟩

end Cert.AttendIdeal.Hand
-- ==== Proof.Score.lean ====
/- One tile of scores, and one product of probabilities with values, as the kernel's vector operations write them, at the extended
   reals. -/
module

public import proofs.«01_k».proof.Proof.Words

@[expose] public section

set_option maxRecDepth 16384

noncomputable section

namespace Cert.Lowp

open Idealize.ShloMosaic Cert.AttendIdeal Cert.AttendIdeal.Gen

/-- One score: the product of the codes and the mean's part, scaled. -/
def score (Q : Fin 128 → Fin 128 → EReal) (u : Fin 128 → EReal) (a dead : EReal) (K : Fin 128 → Fin 128 → EReal) (S : Fin 128 → EReal)
    (r c : Fin 128) : EReal :=
  (∑ d : Fin 128, Q r d * K c d + (∑ d : Fin 128, u d * K c d + dead)) * (S c * a)

/-- Two tiles of the ring, side by side. -/
def keyV (A B : FVec Ideal S1x128x128 .fp8e4m3) : FVec Ideal S256x128 .fp8e4m3 :=
  concatenate S256x128 0 [⟨S128x128, shapeCast S128x128 A shapeCasts_S1x128x128_S128x128⟩, ⟨S128x128, shapeCast S128x128 B shapeCasts_S1x128x128_S128x128⟩] concatenates_S128x128_S128x128_S256x128_d0

/-- The first tile of scores of a pair. -/
def loV (Q : FVec Ideal S128x128 .fp8e4m3) (U : FVec Ideal S16x128 .bf16) (a : FVec Ideal S1x128 .f32) (dead : Ideal .f32)
    (A B : FVec Ideal S1x128x128 .fp8e4m3) (S : FVec Ideal S1x1x128 .f32) : FVec Ideal S128x128 .f32 :=
  mulf (addf (extractStridedSlice S128x128 ![0, 0] (matmul dot_S128x128_S256x128_S128x256_1_1_0_0_n_n none Q (keyV A B) (constant S128x256 .f32 0#32)) slices_S128x256_o0_0_S128x128)
    (broadcastTo S128x128 (addf (extractStridedSlice S1x128 ![0, 0] (extractStridedSlice S1x256 ![0, 0] (matmul dot_S16x128_S256x128_S16x256_1_1_0_0_n_n none U (keyV A B) (constant S16x256 .f32 0#32)) slices_S16x256_o0_0_S1x256) slices_S1x256_o0_0_S1x128)
      (broadcast S1x128 dead)) broadcasts_S1x128_S128x128))
    (broadcastTo S128x128 (mulf (shapeCast S1x128 S shapeCasts_S1x1x128_S1x128) a) broadcasts_S1x128_S128x128)

theorem loV_read (Q : FVec Ideal S128x128 .fp8e4m3) (U : FVec Ideal S16x128 .bf16) (a : FVec Ideal S1x128 .f32) (dead : Ideal .f32)
    (A B : FVec Ideal S1x128x128 .fp8e4m3) (S : FVec Ideal S1x1x128 .f32) (r c : Fin 128) :
    loV Q U a dead A B S (ix2 r c) = score (fun r d => Q (ix2 r d)) (fun d => U (ix2 0 d)) (a (ix2 0 c)) dead (fun c d => A (ix3 0 c d)) (fun c => S (ix3 0 0 c)) r c := by
  pointwise [loV, keyV, score]

/-- The second tile of scores of a pair. -/
def hiV (Q : FVec Ideal S128x128 .fp8e4m3) (U : FVec Ideal S16x128 .bf16) (a : FVec Ideal S1x128 .f32) (dead : Ideal .f32)
    (A B : FVec Ideal S1x128x128 .fp8e4m3) (S : FVec Ideal S1x1x128 .f32) : FVec Ideal S128x128 .f32 :=
  mulf (addf (extractStridedSlice S128x128 ![0, 128] (matmul dot_S128x128_S256x128_S128x256_1_1_0_0_n_n none Q (keyV A B) (constant S128x256 .f32 0#32)) slices_S128x256_o0_128_S128x128)
    (broadcastTo S128x128 (addf (extractStridedSlice S1x128 ![0, 128] (extractStridedSlice S1x256 ![0, 0] (matmul dot_S16x128_S256x128_S16x256_1_1_0_0_n_n none U (keyV A B) (constant S16x256 .f32 0#32)) slices_S16x256_o0_0_S1x256) slices_S1x256_o0_128_S1x128)
      (broadcast S1x128 dead)) broadcasts_S1x128_S128x128))
    (broadcastTo S128x128 (mulf (shapeCast S1x128 S shapeCasts_S1x1x128_S1x128) a) broadcasts_S1x128_S128x128)

theorem hiV_read (Q : FVec Ideal S128x128 .fp8e4m3) (U : FVec Ideal S16x128 .bf16) (a : FVec Ideal S1x128 .f32) (dead : Ideal .f32)
    (A B : FVec Ideal S1x128x128 .fp8e4m3) (S : FVec Ideal S1x1x128 .f32) (r c : Fin 128) :
    hiV Q U a dead A B S (ix2 r c) = score (fun r d => Q (ix2 r d)) (fun d => U (ix2 0 d)) (a (ix2 0 c)) dead (fun c d => B (ix3 0 c d)) (fun c => S (ix3 0 0 c)) r c := by
  pointwise [hiV, keyV, score]

/-- The one tile of scores left over from the pairs. -/
def oneV (Q : FVec Ideal S128x128 .fp8e4m3) (U : FVec Ideal S16x128 .bf16) (a : FVec Ideal S1x128 .f32) (dead : Ideal .f32)
    (A : FVec Ideal S1x128x128 .fp8e4m3) (S : FVec Ideal S1x1x128 .f32) : FVec Ideal S128x128 .f32 :=
  mulf (addf (matmul dot_S128x128_S128x128_S128x128_1_1_0_0_n_n none Q (shapeCast S128x128 A shapeCasts_S1x128x128_S128x128) (constant S128x128 .f32 0#32))
    (broadcastTo S128x128 (addf (extractStridedSlice S1x128 ![0, 0] (matmul dot_S16x128_S128x128_S16x128_1_1_0_0_n_n none U (shapeCast S128x128 A shapeCasts_S1x128x128_S128x128) (constant S16x128 .f32 0#32)) slices_S16x128_o0_0_S1x128)
      (broadcast S1x128 dead)) broadcasts_S1x128_S128x128))
    (broadcastTo S128x128 (mulf (shapeCast S1x128 S shapeCasts_S1x1x128_S1x128) a) broadcasts_S1x128_S128x128)

theorem oneV_read (Q : FVec Ideal S128x128 .fp8e4m3) (U : FVec Ideal S16x128 .bf16) (a : FVec Ideal S1x128 .f32) (dead : Ideal .f32)
    (A : FVec Ideal S1x128x128 .fp8e4m3) (S : FVec Ideal S1x1x128 .f32) (r c : Fin 128) :
    oneV Q U a dead A S (ix2 r c) = score (fun r d => Q (ix2 r d)) (fun d => U (ix2 0 d)) (a (ix2 0 c)) dead (fun c d => A (ix3 0 c d)) (fun c => S (ix3 0 0 c)) r c := by
  pointwise [oneV, score]

/-- The row maximum of a tile, less 8. -/
def topV (X : FVec Ideal S128x128 .f32) : FVec Ideal S128x1 .f32 :=
  subf (shapeCast S128x1 (multiReduction .maximumf [1] S128 X 4286578688#32 reduces_S128x128_S128_2 (.inl rfl) rfl) shapeCasts_S128_S128x1) (broadcast S128x1 (FloatOps.ofBits .f32 1090519040#32))

theorem topV_read (X : FVec Ideal S128x128 .f32) (r : Fin 128) :
    topV X (ix2 r 0) = Finset.fold max ninf (fun c => X (ix2 r c)) Finset.univ - Ideal.ofBits .f32 1090519040#32 := by
  pointwise [topV, ninf]

/-- A tile of probabilities, times 256. -/
def probV (X : FVec Ideal S128x128 .f32) (m : FVec Ideal S128x1 .f32) : FVec Ideal S128x128 .f32 :=
  exp2 (subf X (broadcastTo S128x128 m broadcasts_S128x1_S128x128))

theorem probV_read (X : FVec Ideal S128x128 .f32) (m : FVec Ideal S128x1 .f32) (r c : Fin 128) :
    probV X m (ix2 r c) = FloatOps.exp2 (F := Ideal) (φ := .f32) (X (ix2 r c) - m (ix2 r 0)) := by
  pointwise [probV]

/-- A tile of probabilities' codes. -/
def clipV (P : FVec Ideal S128x128 .f32) : FVec Ideal S128x128 .fp8e4m3 :=
  truncf .fp8e4m3 (minimumf (broadcast S128x128 (FloatOps.ofBits .f32 1138753536#32)) (maximumf (broadcast S128x128 (FloatOps.ofBits .f32 3286237184#32)) P)) bitsLt_fp8e4m3_f32

theorem clipV_read (P : FVec Ideal S128x128 .f32) (r c : Fin 128) : clipV P (ix2 r c) = clip (P (ix2 r c)) := by
  pointwise [clipV, clip]

/-- Two tiles of codes times two tiles of values. -/
def pvV (P0 P1 : FVec Ideal S128x128 .fp8e4m3) (A B : FVec Ideal S1x128x128 .fp8e4m3) : FVec Ideal S128x128 .f32 :=
  matmul dot_S128x256_S256x128_S128x128_1_0_0_1_n_n none (concatenate S128x256 1 [⟨S128x128, P0⟩, ⟨S128x128, P1⟩] concatenates_S128x128_S128x128_S128x256_d1) (keyV A B) (constant S128x128 .f32 0#32)

theorem pvV_read (P0 P1 : FVec Ideal S128x128 .fp8e4m3) (A B : FVec Ideal S1x128x128 .fp8e4m3) (r d : Fin 128) :
    pvV P0 P1 A B (ix2 r d) = ∑ c : Fin 128, P0 (ix2 r c) * A (ix3 0 c d) + ∑ c : Fin 128, P1 (ix2 r c) * B (ix3 0 c d) := by
  pointwise [pvV, keyV]

/-- One tile of codes times one tile of values. -/
def pv1V (P : FVec Ideal S128x128 .fp8e4m3) (A : FVec Ideal S1x128x128 .fp8e4m3) : FVec Ideal S128x128 .f32 :=
  matmul dot_S128x128_S128x128_S128x128_1_0_0_1_n_n none P (shapeCast S128x128 A shapeCasts_S1x128x128_S128x128) (constant S128x128 .f32 0#32)

theorem pv1V_read (P : FVec Ideal S128x128 .fp8e4m3) (A : FVec Ideal S1x128x128 .fp8e4m3) (r d : Fin 128) :
    pv1V P A (ix2 r d) = ∑ c : Fin 128, P (ix2 r c) * A (ix3 0 c d) := by
  pointwise [pv1V]

theorem sle_words : ∀ r c : Fin 128, IntOp.cmpi .sle (BitVec.ofNat 32 c.val) (BitVec.ofNat 32 r.val) = BitVec.ofBool (decide (c.val ≤ r.val)) := by
  decide +kernel

theorem pay1_read (r c : Fin 128) : k0_pay1 (ix2 r c) = BitVec.ofBool (decide (c.val ≤ r.val)) := by
  pointwise [k0_pay1]
  exact sle_words r c

theorem pay49_read (s : FVec Ideal S1x1 .f32) (u : FVec Ideal S1x128 .f32) (d : Fin 128) :
    k0_pay49 s u (ix2 0 d) = u (ix2 0 d) * Ideal.div (Ideal.ofBits .f32 1065353216#32) (s (ix2 0 0)) := by
  pointwise [k0_pay49]

theorem pay50_read (s : FVec Ideal S1x1 .f32) (c : Fin 128) :
    broadcastTo S1x128 (k0_pay50 s) broadcasts_S1x1_S1x128 (ix2 0 c) = s (ix2 0 0) * (((Real.sqrt 128)⁻¹ * (Real.log 2)⁻¹ : ℝ) : EReal) := by
  pointwise [k0_pay50]
  exact congrArg (s (ix2 0 0) * ·) (IdealRules.named_const.ideal_named_scalar κ "score_scale" _ _ rfl)

theorem pay5_read (v : FVec Ideal S1x128 .f32) (A L B : FVec Ideal S128x128 .f32) (r d : Fin 128) :
    k0_pay5 v A L B (ix2 r d) = (A (ix2 r d) + B (ix2 r d)) * v (ix2 0 d) * Ideal.div (Ideal.ofBits .f32 1065353216#32) (∑ c : Fin 128, L (ix2 r c)) := by
  pointwise [k0_pay5]

end Cert.Lowp
-- ==== Proof.Tile.lean ====
/- One head's trip of the attention, word by word: what each of the kernel's vectors is, as one of the functions of `Score.lean` of what
   the trip has loaded. -/
module

public import proofs.«01_k».proof.Proof.Score
public import Idealize.ShloMosaic.Lib.Pipeline.ReadBack

@[expose] public section

set_option maxRecDepth 16384

noncomputable section

namespace Cert.AttendIdeal.Hand

open Cert.AttendIdeal Cert.AttendIdeal.Gen Cert.Lowp
open Idealize.ShloMosaic Idealize.ShloMosaic.TcCoe

/-- The tile of codes that the trip loads for the `j`-th block of the window, from a ring of contents `g`. -/
def kld (i : grid0.Coords) (k : Fin 64) (M : Memref sig .tc .vmem S64x1664x128 .fp8e4m3) (g : M.view.ty.Contents (Elt Ideal)) (j : Fin 13) :
    FVec Ideal S1x128x128 .fp8e4m3 :=
  View.readAt (Elt Ideal) M.view (Rect.unit (s := S64x1664x128) (k0_off6 i k (BitVec.ofNat 32 j.val)) S1x128x128.size (k0_off6_inb i k j)).toLoadRect g

/-- The row of scales that the trip loads for the `j`-th block of the window. -/
def sld (i : grid0.Coords) (k : Fin 64) (M : Memref sig .tc .vmem S64x16x128 .f32) (g : M.view.ty.Contents (Elt Ideal)) (j : Fin 13) :
    FVec Ideal S1x1x128 .f32 :=
  View.readAt (Elt Ideal) M.view (Rect.unit (s := S64x16x128) (k0_off7 i k (BitVec.ofNat 32 j.val)) S1x1x128.size (k0_off7_inb i k j)).toLoadRect g

/-- What is added to every score of the `j`-th block: `-∞` where there is no such block. -/
def deadV (a : BitVec 32) (j : ℕ) : EReal :=
  Scalar.select (Scalar.cmpi .slt (Scalar.addi a (BitVec.ofNat 32 j)) 12#32) (FloatOps.ofBits (F := Ideal) .f32 0xFF800000#32) (FloatOps.ofBits (F := Ideal) .f32 0#32)

section Words

variable (i : grid0.Coords) (k : Fin 64)
  (arg1 arg2 arg3 : Memref sig .tc .vmem S128x8192 .bf16) (arg4 arg5 : Memref sig .tc .vmem S64x128 .f32)
  (arg13 arg14 : Memref sig .tc .vmem S64x1664x128 .fp8e4m3) (arg15 : Memref sig .tc .vmem S64x16x128 .f32)
  (arg16 : Memref sig .tc .vmem S128x1536 .f32) (arg0 : BitVec 32) (v43 : IVec S1x128 32)
  (X1 : arg1.view.ty.Contents (Elt Ideal)) (X2 : arg2.view.ty.Contents (Elt Ideal)) (X3 : arg3.view.ty.Contents (Elt Ideal))
  (X4 : arg4.view.ty.Contents (Elt Ideal)) (X5 : arg5.view.ty.Contents (Elt Ideal))
  (f13 : arg13.view.ty.Contents (Elt Ideal)) (f14 : arg14.view.ty.Contents (Elt Ideal)) (f15 : arg15.view.ty.Contents (Elt Ideal))

/-- The ring of the keys' codes with this block's in it. -/
def g13 : arg13.view.ty.Contents (Elt Ideal) := arg13.view.writes (Elt Ideal) f13 (trip.sl.HW_arg13_1 (F := Ideal) i arg2 arg4 X2 X4 k)
/-- The ring of the values' codes with this block's in it. -/
def g14 : arg14.view.ty.Contents (Elt Ideal) := arg14.view.writes (Elt Ideal) f14 (trip.sl.HW_arg14_1 (F := Ideal) i arg3 arg5 X3 X5 k)
/-- The ring of the keys' scales with this block's in it. -/
def g15 : arg15.view.ty.Contents (Elt Ideal) := arg15.view.writes (Elt Ideal) f15 (trip.sl.HW_arg15_1 (F := Ideal) i arg2 arg4 v43 X2 X4 k)

/-- The key of the `j`-th block. -/
abbrev kl (j : Fin 13) := kld i k arg13 (g13 i k arg2 arg4 arg13 X2 X4 f13) j
/-- The values of the `j`-th block. -/
abbrev vl (j : Fin 13) := kld i k arg14 (g14 i k arg3 arg5 arg14 X3 X5 f14) j
/-- The scales of the `j`-th block. -/
abbrev sl (j : Fin 13) := sld i k arg15 (g15 i k arg2 arg4 arg15 v43 X2 X4 f15) j

theorem w_r_5 : trip.sl.r_5 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 0) (kl i k arg2 arg4 arg13 X2 X4 f13 0) (kl i k arg2 arg4 arg13 X2 X4 f13 12) (sl i k arg2 arg4 arg15 v43 X2 X4 f15 0) := rfl
theorem w_v456 : trip.sl.v456 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 12) (kl i k arg2 arg4 arg13 X2 X4 f13 0) (kl i k arg2 arg4 arg13 X2 X4 f13 12) (sl i k arg2 arg4 arg15 v43 X2 X4 f15 12) := rfl
theorem w_v491 : trip.sl.v491 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 1) (kl i k arg2 arg4 arg13 X2 X4 f13 1) (kl i k arg2 arg4 arg13 X2 X4 f13 2) (sl i k arg2 arg4 arg15 v43 X2 X4 f15 1) := rfl
theorem w_v508 : trip.sl.v508 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 2) (kl i k arg2 arg4 arg13 X2 X4 f13 1) (kl i k arg2 arg4 arg13 X2 X4 f13 2) (sl i k arg2 arg4 arg15 v43 X2 X4 f15 2) := rfl
theorem w_v547 : trip.sl.v547 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 3) (kl i k arg2 arg4 arg13 X2 X4 f13 3) (kl i k arg2 arg4 arg13 X2 X4 f13 4) (sl i k arg2 arg4 arg15 v43 X2 X4 f15 3) := rfl
theorem w_v564 : trip.sl.v564 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 4) (kl i k arg2 arg4 arg13 X2 X4 f13 3) (kl i k arg2 arg4 arg13 X2 X4 f13 4) (sl i k arg2 arg4 arg15 v43 X2 X4 f15 4) := rfl
theorem w_v603 : trip.sl.v603 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 5) (kl i k arg2 arg4 arg13 X2 X4 f13 5) (kl i k arg2 arg4 arg13 X2 X4 f13 6) (sl i k arg2 arg4 arg15 v43 X2 X4 f15 5) := rfl
theorem w_v620 : trip.sl.v620 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 6) (kl i k arg2 arg4 arg13 X2 X4 f13 5) (kl i k arg2 arg4 arg13 X2 X4 f13 6) (sl i k arg2 arg4 arg15 v43 X2 X4 f15 6) := rfl
theorem w_v659 : trip.sl.v659 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 7) (kl i k arg2 arg4 arg13 X2 X4 f13 7) (kl i k arg2 arg4 arg13 X2 X4 f13 8) (sl i k arg2 arg4 arg15 v43 X2 X4 f15 7) := rfl
theorem w_v676 : trip.sl.v676 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 8) (kl i k arg2 arg4 arg13 X2 X4 f13 7) (kl i k arg2 arg4 arg13 X2 X4 f13 8) (sl i k arg2 arg4 arg15 v43 X2 X4 f15 8) := rfl
theorem w_v715 : trip.sl.v715 (F := Ideal) i arg1 arg2 arg4 arg13 arg15 arg0 v43 X1 X2 X4 k f13 f15 = loV (trip.sl.v146 (F := Ideal) arg1 X1 k) (trip.sl.r_1 (F := Ideal) arg1 X1 k) (trip.sl.v447 (F := Ideal) arg1 X1 k) (deadV arg0 9) (kl i k arg2 arg4 arg13 X2 X4 f13 9) (kl i k arg2 arg4 arg13 X2 X4 f13 10) (sl i k arg2 arg4 arg15 v43 X2 X4 f15 9) := rfl
theorem w_v732 : trip.sl.v732 (F := Ideal) i arg1 arg2 arg4 arg13 arg15 arg0 v43 X1 X2 X4 k f13 f15 = hiV (trip.sl.v146 (F := Ideal) arg1 X1 k) (trip.sl.r_1 (F := Ideal) arg1 X1 k) (trip.sl.v447 (F := Ideal) arg1 X1 k) (deadV arg0 10) (kl i k arg2 arg4 arg13 X2 X4 f13 9) (kl i k arg2 arg4 arg13 X2 X4 f13 10) (sl i k arg2 arg4 arg15 v43 X2 X4 f15 10) := rfl
theorem w_v763 : trip.sl.v763 (F := Ideal) i arg1 arg2 arg4 arg13 arg15 arg0 v43 X1 X2 X4 k f13 f15 = oneV (trip.sl.v146 (F := Ideal) arg1 X1 k) (trip.sl.r_1 (F := Ideal) arg1 X1 k) (trip.sl.v447 (F := Ideal) arg1 X1 k) (deadV arg0 11) (kl i k arg2 arg4 arg13 X2 X4 f13 11) (sl i k arg2 arg4 arg15 v43 X2 X4 f15 11) := rfl

theorem w_v457 : trip.sl.v457 (F := Ideal) i arg1 arg2 arg4 arg13 arg15 arg0 v43 X1 X2 X4 k f13 f15 = select k0_pay1 (trip.sl.v456 (F := Ideal) i arg1 arg2 arg4 arg13 arg15 arg0 v43 X1 X2 X4 k f13 f15) (trip.sl.r_5 (F := Ideal) i arg1 arg2 arg4 arg13 arg15 arg0 v43 X1 X2 X4 k f13 f15) := rfl
theorem w_v447 : trip.sl.v447 (F := Ideal) arg1 X1 k = broadcastTo S1x128 (k0_pay50 (trip.sl.v151 (F := Ideal) arg1 X1 k)) broadcasts_S1x1_S1x128 := rfl
theorem w_r_1 : trip.sl.r_1 (F := Ideal) arg1 X1 k = k0_pay49 (trip.sl.v151 (F := Ideal) arg1 X1 k) (trip.sl.v60 (F := Ideal) arg1 X1 k) := rfl
theorem w_v512 : (trip.sl.v512 (F := Ideal) i arg1 arg2 arg4 arg13 arg15 arg0 v43 X1 X2 X4 k f13 f15) = maximumf (trip.sl.v457 (F := Ideal) i arg1 arg2 arg4 arg13 arg15 arg0 v43 X1 X2 X4 k f13 f15) (trip.sl.v491 (F := Ideal) i arg1 arg2 arg4 arg13 arg15 arg0 v43 X1 X2 X4 k f13 f15) := rfl
theorem w_v516 : (trip.sl.v516 (F := Ideal) i arg1 arg2 arg4 arg13 arg15 arg0 v43 X1 X2 X4 k f13 f15) = maximumf (trip.sl.v512 (F := Ideal) i arg1 arg2 arg4 arg13 arg15 arg0 v43 X1 X2 X4 k f13 f15) (trip.sl.v508 (F := Ideal) i arg1 arg2 arg4 arg13 arg15 arg0 v43 X1 X2 X4 k f13 f15) := rfl
theorem w_v568 : (trip.sl.v568 (F := Ideal) i arg1 arg2 arg4 arg13 arg15 arg0 v43 X1 X2 X4 k f13 f15) = maximumf (trip.sl.v516 (F := Ideal) i arg1 arg2 arg4 arg13 arg15 arg0 v43 X1 X2 X4 k f13 f15) (trip.sl.v547 (F := Ideal) i arg1 arg2 arg4 arg13 arg15 arg0 v43 X1 X2 X4 k f13 f15) := rfl
theorem w_v572 : (trip.sl.v572 (F := Ideal) i arg1 arg2 arg4 arg13 arg15 arg0 v43 X1 X2 X4 k f13 f15) = maximumf (trip.sl.v568 (F := Ideal) i arg1 arg2 arg4 arg13 arg15 arg0 v43 X1 X2 X4 k f13 f15) (trip.sl.v564 (F := Ideal) i arg1 arg2 arg4 arg13 arg15 arg0 v43 X1 X2 X4 k f13 f15) := rfl
theorem w_v624 : (trip.sl.v624 (F := Ideal) i arg1 arg2 arg4 arg13 arg15 arg0 v43 X1 X2 X4 k f13 f15) = maximumf (trip.sl.v572 (F := Ideal) i arg1 arg2 arg4 arg13 arg15 arg0 v43 X1 X2 X4 k f13 f15) (trip.sl.v603 (F := Ideal) i arg1 arg2 arg4 arg13 arg15 arg0 v43 X1 X2 X4 k f13 f15) := rfl
theorem w_v628 : (trip.sl.v628 (F := Ideal) i arg1 arg2 arg4 arg13 arg15 arg0 v43 X1 X2 X4 k f13 f15) = maximumf (trip.sl.v624 (F := Ideal) i arg1 arg2 arg4 arg13 arg15 arg0 v43 X1 X2 X4 k f13 f15) (trip.sl.v620 (F := Ideal) i arg1 arg2 arg4 arg13 arg15 arg0 v43 X1 X2 X4 k f13 f15) := rfl
theorem w_v680 : (trip.sl.v680 (F := Ideal) i arg1 arg2 arg4 arg13 arg15 arg0 v43 X1 X2 X4 k f13 f15) = maximumf (trip.sl.v628 (F := Ideal) i arg1 arg2 arg4 arg13 arg15 arg0 v43 X1 X2 X4 k f13 f15) (trip.sl.v659 (F := Ideal) i arg1 arg2 arg4 arg13 arg15 arg0 v43 X1 X2 X4 k f13 f15) := rfl
theorem w_v684 : (trip.sl.v684 (F := Ideal) i arg1 arg2 arg4 arg13 arg15 arg0 v43 X1 X2 X4 k f13 f15) = maximumf (trip.sl.v680 (F := Ideal) i arg1 arg2 arg4 arg13 arg15 arg0 v43 X1 X2 X4 k f13 f15) (trip.sl.v676 (F := Ideal) i arg1 arg2 arg4 arg13 arg15 arg0 v43 X1 X2 X4 k f13 f15) := rfl
theorem w_v736 : (trip.sl.v736 (F := Ideal) i arg1 arg2 arg4 arg13 arg15 arg0 v43 X1 X2 X4 k f13 f15) = maximumf (trip.sl.v684 (F := Ideal) i arg1 arg2 arg4 arg13 arg15 arg0 v43 X1 X2 X4 k f13 f15) (trip.sl.v715 (F := Ideal) i arg1 arg2 arg4 arg13 arg15 arg0 v43 X1 X2 X4 k f13 f15) := rfl
theorem w_v740 : (trip.sl.v740 (F := Ideal) i arg1 arg2 arg4 arg13 arg15 arg0 v43 X1 X2 X4 k f13 f15) = maximumf (trip.sl.v736 (F := Ideal) i arg1 arg2 arg4 arg13 arg15 arg0 v43 X1 X2 X4 k f13 f15) (trip.sl.v732 (F := Ideal) i arg1 arg2 arg4 arg13 arg15 arg0 v43 X1 X2 X4 k f13 f15) := rfl
theorem w_v767 : (trip.sl.v767 (F := Ideal) i arg1 arg2 arg4 arg13 arg15 arg0 v43 X1 X2 X4 k f13 f15) = maximumf (trip.sl.v740 (F := Ideal) i arg1 arg2 arg4 arg13 arg15 arg0 v43 X1 X2 X4 k f13 f15) (trip.sl.v763 (F := Ideal) i arg1 arg2 arg4 arg13 arg15 arg0 v43 X1 X2 X4 k f13 f15) := rfl
theorem w_v771 : (trip.sl.v771 (F := Ideal) i arg1 arg2 arg4 arg13 arg15 arg0 v43 X1 X2 X4 k f13 f15) = topV (trip.sl.v767 (F := Ideal) i arg1 arg2 arg4 arg13 arg15 arg0 v43 X1 X2 X4 k f13 f15) := rfl

theorem cast_self (X : FVec Ideal S128x128 .f32) (h : S128x128.ShapeCasts S128x128) : shapeCast S128x128 X h = X := shapeCast_id X h

theorem w_v772 : (trip.sl.v772 (F := Ideal) i arg1 arg2 arg4 arg13 arg15 arg16 arg0 v43 X1 X2 X4 k f13 f15) = (trip.sl.v457 (F := Ideal) i arg1 arg2 arg4 arg13 arg15 arg0 v43 X1 X2 X4 k f13 f15) := by
  unfold trip.sl.v772 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v803 : (trip.sl.v803 (F := Ideal) i arg1 arg2 arg4 arg13 arg15 arg16 arg0 v43 X1 X2 X4 k f13 f15) = (trip.sl.v491 (F := Ideal) i arg1 arg2 arg4 arg13 arg15 arg0 v43 X1 X2 X4 k f13 f15) := by
  unfold trip.sl.v803 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v807 : (trip.sl.v807 (F := Ideal) i arg1 arg2 arg4 arg13 arg15 arg16 arg0 v43 X1 X2 X4 k f13 f15) = (trip.sl.v508 (F := Ideal) i arg1 arg2 arg4 arg13 arg15 arg0 v43 X1 X2 X4 k f13 f15) := by
  unfold trip.sl.v807 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v837 : (trip.sl.v837 (F := Ideal) i arg1 arg2 arg4 arg13 arg15 arg16 arg0 v43 X1 X2 X4 k f13 f15) = (trip.sl.v547 (F := Ideal) i arg1 arg2 arg4 arg13 arg15 arg0 v43 X1 X2 X4 k f13 f15) := by
  unfold trip.sl.v837 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v841 : (trip.sl.v841 (F := Ideal) i arg1 arg2 arg4 arg13 arg15 arg16 arg0 v43 X1 X2 X4 k f13 f15) = (trip.sl.v564 (F := Ideal) i arg1 arg2 arg4 arg13 arg15 arg0 v43 X1 X2 X4 k f13 f15) := by
  unfold trip.sl.v841 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v871 : (trip.sl.v871 (F := Ideal) i arg1 arg2 arg4 arg13 arg15 arg16 arg0 v43 X1 X2 X4 k f13 f15) = (trip.sl.v603 (F := Ideal) i arg1 arg2 arg4 arg13 arg15 arg0 v43 X1 X2 X4 k f13 f15) := by
  unfold trip.sl.v871 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v875 : (trip.sl.v875 (F := Ideal) i arg1 arg2 arg4 arg13 arg15 arg16 arg0 v43 X1 X2 X4 k f13 f15) = (trip.sl.v620 (F := Ideal) i arg1 arg2 arg4 arg13 arg15 arg0 v43 X1 X2 X4 k f13 f15) := by
  unfold trip.sl.v875 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v905 : (trip.sl.v905 (F := Ideal) i arg1 arg2 arg4 arg13 arg15 arg16 arg0 v43 X1 X2 X4 k f13 f15) = (trip.sl.v659 (F := Ideal) i arg1 arg2 arg4 arg13 arg15 arg0 v43 X1 X2 X4 k f13 f15) := by
  unfold trip.sl.v905 trip.sl.HW_arg16_12
  refine (View.readCov_skip _ _ _ _ _ (by rfl)).trans ?_
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v909 : (trip.sl.v909 (F := Ideal) i arg1 arg2 arg4 arg13 arg15 arg16 arg0 v43 X1 X2 X4 k f13 f15) = (trip.sl.v676 (F := Ideal) i arg1 arg2 arg4 arg13 arg15 arg0 v43 X1 X2 X4 k f13 f15) := by
  unfold trip.sl.v909 trip.sl.HW_arg16_12
  refine (View.readCov_skip _ _ _ _ _ (by rfl)).trans ?_
  refine (View.readCov_skip _ _ _ _ _ (by rfl)).trans ?_
  refine (View.readCov_skip _ _ _ _ _ (by rfl)).trans ?_
  exact (View.readCov_cons_toLoadRect _ _ _ _).trans (cast_self _ _)
theorem w_v939 : (trip.sl.v939 (F := Ideal) i arg1 arg2 arg4 arg13 arg15 arg16 arg0 v43 X1 X2 X4 k f13 f15) = (trip.sl.v715 (F := Ideal) i arg1 arg2 arg4 arg13 arg15 arg0 v43 X1 X2 X4 k f13 f15) := by
  unfold trip.sl.v939 trip.sl.HW_arg16_12
  refine (View.readCov_skip _ _ _ _ _ (by rfl)).trans ?_
  refine (View.readCov_skip _ _ _ _ _ (by rfl)).trans ?_
  exact (View.readCov_cons_toLoadRect _ _ _ _).trans (cast_self _ _)
theorem w_v943 : (trip.sl.v943 (F := Ideal) i arg1 arg2 arg4 arg13 arg15 arg16 arg0 v43 X1 X2 X4 k f13 f15) = (trip.sl.v732 (F := Ideal) i arg1 arg2 arg4 arg13 arg15 arg0 v43 X1 X2 X4 k f13 f15) := by
  unfold trip.sl.v943 trip.sl.HW_arg16_12
  refine (View.readCov_skip _ _ _ _ _ (by rfl)).trans ?_
  exact (View.readCov_cons_toLoadRect _ _ _ _).trans (cast_self _ _)
theorem w_v973 : (trip.sl.v973 (F := Ideal) i arg1 arg2 arg4 arg13 arg15 arg16 arg0 v43 X1 X2 X4 k f13 f15) = (trip.sl.v763 (F := Ideal) i arg1 arg2 arg4 arg13 arg15 arg0 v43 X1 X2 X4 k f13 f15) := by
  unfold trip.sl.v973 trip.sl.HW_arg16_12
  exact (View.readCov_cons_toLoadRect _ _ _ _).trans (cast_self _ _)
theorem w_v775 : (trip.sl.v775 (F := Ideal) i arg1 arg2 arg4 arg13 arg15 arg16 arg0 v43 X1 X2 X4 k f13 f15) = probV (trip.sl.v772 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v806 : (trip.sl.v806 (F := Ideal) i arg1 arg2 arg4 arg13 arg15 arg16 arg0 v43 X1 X2 X4 k f13 f15) = probV (trip.sl.v803 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v810 : (trip.sl.v810 (F := Ideal) i arg1 arg2 arg4 arg13 arg15 arg16 arg0 v43 X1 X2 X4 k f13 f15) = probV (trip.sl.v807 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v840 : (trip.sl.v840 (F := Ideal) i arg1 arg2 arg4 arg13 arg15 arg16 arg0 v43 X1 X2 X4 k f13 f15) = probV (trip.sl.v837 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v844 : (trip.sl.v844 (F := Ideal) i arg1 arg2 arg4 arg13 arg15 arg16 arg0 v43 X1 X2 X4 k f13 f15) = probV (trip.sl.v841 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v874 : (trip.sl.v874 (F := Ideal) i arg1 arg2 arg4 arg13 arg15 arg16 arg0 v43 X1 X2 X4 k f13 f15) = probV (trip.sl.v871 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v878 : (trip.sl.v878 (F := Ideal) i arg1 arg2 arg4 arg13 arg15 arg16 arg0 v43 X1 X2 X4 k f13 f15) = probV (trip.sl.v875 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v908 : (trip.sl.v908 (F := Ideal) i arg1 arg2 arg4 arg13 arg15 arg16 arg0 v43 X1 X2 X4 k f13 f15) = probV (trip.sl.v905 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v912 : (trip.sl.v912 (F := Ideal) i arg1 arg2 arg4 arg13 arg15 arg16 arg0 v43 X1 X2 X4 k f13 f15) = probV (trip.sl.v909 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v942 : (trip.sl.v942 (F := Ideal) i arg1 arg2 arg4 arg13 arg15 arg16 arg0 v43 X1 X2 X4 k f13 f15) = probV (trip.sl.v939 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v946 : (trip.sl.v946 (F := Ideal) i arg1 arg2 arg4 arg13 arg15 arg16 arg0 v43 X1 X2 X4 k f13 f15) = probV (trip.sl.v943 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_r134 : k0_pay134 (trip.sl.v771 (F := Ideal) i arg1 arg2 arg4 arg13 arg15 arg0 v43 X1 X2 X4 k f13 f15) (trip.sl.v973 (F := Ideal) i arg1 arg2 arg4 arg13 arg15 arg16 arg0 v43 X1 X2 X4 k f13 f15) = probV (trip.sl.v973 (F := Ideal) i arg1 arg2 arg4 arg13 arg15 arg16 arg0 v43 X1 X2 X4 k f13 f15) (trip.sl.v771 (F := Ideal) i arg1 arg2 arg4 arg13 arg15 arg0 v43 X1 X2 X4 k f13 f15) := rfl
theorem w_v811 : (trip.sl.v811 (F := Ideal) i arg1 arg2 arg4 arg13 arg15 arg16 arg0 v43 X1 X2 X4 k f13 f15) = addf (trip.sl.v775 (F := Ideal) i arg1 arg2 arg4 arg13 arg15 arg16 arg0 v43 X1 X2 X4 k f13 f15) (trip.sl.v806 (F := Ideal) i arg1 arg2 arg4 arg13 arg15 arg16 arg0 v43 X1 X2 X4 k f13 f15) := rfl
theorem w_v812 : (trip.sl.v812 (F := Ideal) i arg1 arg2 arg4 arg13 arg15 arg16 arg0 v43 X1 X2 X4 k f13 f15) = addf (trip.sl.v811 (F := Ideal) i arg1 arg2 arg4 arg13 arg15 arg16 arg0 v43 X1 X2 X4 k f13 f15) (trip.sl.v810 (F := Ideal) i arg1 arg2 arg4 arg13 arg15 arg16 arg0 v43 X1 X2 X4 k f13 f15) := rfl
theorem w_v845 : (trip.sl.v845 (F := Ideal) i arg1 arg2 arg4 arg13 arg15 arg16 arg0 v43 X1 X2 X4 k f13 f15) = addf (trip.sl.v812 (F := Ideal) i arg1 arg2 arg4 arg13 arg15 arg16 arg0 v43 X1 X2 X4 k f13 f15) (trip.sl.v840 (F := Ideal) i arg1 arg2 arg4 arg13 arg15 arg16 arg0 v43 X1 X2 X4 k f13 f15) := rfl
theorem w_v846 : (trip.sl.v846 (F := Ideal) i arg1 arg2 arg4 arg13 arg15 arg16 arg0 v43 X1 X2 X4 k f13 f15) = addf (trip.sl.v845 (F := Ideal) i arg1 arg2 arg4 arg13 arg15 arg16 arg0 v43 X1 X2 X4 k f13 f15) (trip.sl.v844 (F := Ideal) i arg1 arg2 arg4 arg13 arg15 arg16 arg0 v43 X1 X2 X4 k f13 f15) := rfl
theorem w_v879 : (trip.sl.v879 (F := Ideal) i arg1 arg2 arg4 arg13 arg15 arg16 arg0 v43 X1 X2 X4 k f13 f15) = addf (trip.sl.v846 (F := Ideal) i arg1 arg2 arg4 arg13 arg15 arg16 arg0 v43 X1 X2 X4 k f13 f15) (trip.sl.v874 (F := Ideal) i arg1 arg2 arg4 arg13 arg15 arg16 arg0 v43 X1 X2 X4 k f13 f15) := rfl
theorem w_v880 : (trip.sl.v880 (F := Ideal) i arg1 arg2 arg4 arg13 arg15 arg16 arg0 v43 X1 X2 X4 k f13 f15) = addf (trip.sl.v879 (F := Ideal) i arg1 arg2 arg4 arg13 arg15 arg16 arg0 v43 X1 X2 X4 k f13 f15) (trip.sl.v878 (F := Ideal) i arg1 arg2 arg4 arg13 arg15 arg16 arg0 v43 X1 X2 X4 k f13 f15) := rfl
theorem w_v913 : (trip.sl.v913 (F := Ideal) i arg1 arg2 arg4 arg13 arg15 arg16 arg0 v43 X1 X2 X4 k f13 f15) = addf (trip.sl.v880 (F := Ideal) i arg1 arg2 arg4 arg13 arg15 arg16 arg0 v43 X1 X2 X4 k f13 f15) (trip.sl.v908 (F := Ideal) i arg1 arg2 arg4 arg13 arg15 arg16 arg0 v43 X1 X2 X4 k f13 f15) := rfl
theorem w_v914 : (trip.sl.v914 (F := Ideal) i arg1 arg2 arg4 arg13 arg15 arg16 arg0 v43 X1 X2 X4 k f13 f15) = addf (trip.sl.v913 (F := Ideal) i arg1 arg2 arg4 arg13 arg15 arg16 arg0 v43 X1 X2 X4 k f13 f15) (trip.sl.v912 (F := Ideal) i arg1 arg2 arg4 arg13 arg15 arg16 arg0 v43 X1 X2 X4 k f13 f15) := rfl
theorem w_v947 : (trip.sl.v947 (F := Ideal) i arg1 arg2 arg4 arg13 arg15 arg16 arg0 v43 X1 X2 X4 k f13 f15) = addf (trip.sl.v914 (F := Ideal) i arg1 arg2 arg4 arg13 arg15 arg16 arg0 v43 X1 X2 X4 k f13 f15) (trip.sl.v942 (F := Ideal) i arg1 arg2 arg4 arg13 arg15 arg16 arg0 v43 X1 X2 X4 k f13 f15) := rfl
theorem w_v948 : (trip.sl.v948 (F := Ideal) i arg1 arg2 arg4 arg13 arg15 arg16 arg0 v43 X1 X2 X4 k f13 f15) = addf (trip.sl.v947 (F := Ideal) i arg1 arg2 arg4 arg13 arg15 arg16 arg0 v43 X1 X2 X4 k f13 f15) (trip.sl.v946 (F := Ideal) i arg1 arg2 arg4 arg13 arg15 arg16 arg0 v43 X1 X2 X4 k f13 f15) := rfl
theorem w_r_7 : (trip.sl.r_7 (F := Ideal) i arg1 arg2 arg4 arg13 arg15 arg16 arg0 v43 X1 X2 X4 k f13 f15) = addf (trip.sl.v948 (F := Ideal) i arg1 arg2 arg4 arg13 arg15 arg16 arg0 v43 X1 X2 X4 k f13 f15) (k0_pay134 (trip.sl.v771 (F := Ideal) i arg1 arg2 arg4 arg13 arg15 arg0 v43 X1 X2 X4 k f13 f15) (trip.sl.v973 (F := Ideal) i arg1 arg2 arg4 arg13 arg15 arg16 arg0 v43 X1 X2 X4 k f13 f15)) := rfl
theorem w_v782 : (trip.sl.v782 (F := Ideal) i arg1 arg2 arg4 arg13 arg15 arg16 arg0 v43 X1 X2 X4 k f13 f15) = clipV (select k0_pay1 (broadcast S128x128 (FloatOps.ofBits (F := Ideal) .f32 0#32)) (trip.sl.v775 (F := Ideal) i arg1 arg2 arg4 arg13 arg15 arg16 arg0 v43 X1 X2 X4 k f13 f15)) := rfl
theorem w_v789 : (trip.sl.v789 (F := Ideal) i arg1 arg2 arg4 arg13 arg15 arg16 arg0 v43 X1 X2 X4 k f13 f15) = clipV (select k0_pay1 (trip.sl.v775 (F := Ideal) i arg1 arg2 arg4 arg13 arg15 arg16 arg0 v43 X1 X2 X4 k f13 f15) (broadcast S128x128 (FloatOps.ofBits (F := Ideal) .f32 0#32))) := rfl
theorem w_v802 : (trip.sl.v802 (F := Ideal) i arg1 arg2 arg3 arg4 arg5 arg13 arg14 arg15 arg16 arg0 v43 X1 X2 X3 X4 X5 k f13 f14 f15) = pvV (trip.sl.v782 (F := Ideal) i arg1 arg2 arg4 arg13 arg15 arg16 arg0 v43 X1 X2 X4 k f13 f15) (trip.sl.v789 (F := Ideal) i arg1 arg2 arg4 arg13 arg15 arg16 arg0 v43 X1 X2 X4 k f13 f15) (vl i k arg3 arg5 arg14 X3 X5 f14 0) (vl i k arg3 arg5 arg14 X3 X5 f14 12) := rfl
theorem w_v836 : (trip.sl.v836 (F := Ideal) i arg1 arg2 arg3 arg4 arg5 arg13 arg14 arg15 arg16 arg0 v43 X1 X2 X3 X4 X5 k f13 f14 f15) = addf (trip.sl.v802 (F := Ideal) i arg1 arg2 arg3 arg4 arg5 arg13 arg14 arg15 arg16 arg0 v43 X1 X2 X3 X4 X5 k f13 f14 f15) (pvV (clipV (trip.sl.v806 (F := Ideal) i arg1 arg2 arg4 arg13 arg15 arg16 arg0 v43 X1 X2 X4 k f13 f15)) (clipV (trip.sl.v810 (F := Ideal) i arg1 arg2 arg4 arg13 arg15 arg16 arg0 v43 X1 X2 X4 k f13 f15)) (vl i k arg3 arg5 arg14 X3 X5 f14 1) (vl i k arg3 arg5 arg14 X3 X5 f14 2)) := rfl
theorem w_v870 : (trip.sl.v870 (F := Ideal) i arg1 arg2 arg3 arg4 arg5 arg13 arg14 arg15 arg16 arg0 v43 X1 X2 X3 X4 X5 k f13 f14 f15) = addf (trip.sl.v836 (F := Ideal) i arg1 arg2 arg3 arg4 arg5 arg13 arg14 arg15 arg16 arg0 v43 X1 X2 X3 X4 X5 k f13 f14 f15) (pvV (clipV (trip.sl.v840 (F := Ideal) i arg1 arg2 arg4 arg13 arg15 arg16 arg0 v43 X1 X2 X4 k f13 f15)) (clipV (trip.sl.v844 (F := Ideal) i arg1 arg2 arg4 arg13 arg15 arg16 arg0 v43 X1 X2 X4 k f13 f15)) (vl i k arg3 arg5 arg14 X3 X5 f14 3) (vl i k arg3 arg5 arg14 X3 X5 f14 4)) := rfl
theorem w_v904 : (trip.sl.v904 (F := Ideal) i arg1 arg2 arg3 arg4 arg5 arg13 arg14 arg15 arg16 arg0 v43 X1 X2 X3 X4 X5 k f13 f14 f15) = addf (trip.sl.v870 (F := Ideal) i arg1 arg2 arg3 arg4 arg5 arg13 arg14 arg15 arg16 arg0 v43 X1 X2 X3 X4 X5 k f13 f14 f15) (pvV (clipV (trip.sl.v874 (F := Ideal) i arg1 arg2 arg4 arg13 arg15 arg16 arg0 v43 X1 X2 X4 k f13 f15)) (clipV (trip.sl.v878 (F := Ideal) i arg1 arg2 arg4 arg13 arg15 arg16 arg0 v43 X1 X2 X4 k f13 f15)) (vl i k arg3 arg5 arg14 X3 X5 f14 5) (vl i k arg3 arg5 arg14 X3 X5 f14 6)) := rfl
theorem w_v938 : (trip.sl.v938 (F := Ideal) i arg1 arg2 arg3 arg4 arg5 arg13 arg14 arg15 arg16 arg0 v43 X1 X2 X3 X4 X5 k f13 f14 f15) = addf (trip.sl.v904 (F := Ideal) i arg1 arg2 arg3 arg4 arg5 arg13 arg14 arg15 arg16 arg0 v43 X1 X2 X3 X4 X5 k f13 f14 f15) (pvV (clipV (trip.sl.v908 (F := Ideal) i arg1 arg2 arg4 arg13 arg15 arg16 arg0 v43 X1 X2 X4 k f13 f15)) (clipV (trip.sl.v912 (F := Ideal) i arg1 arg2 arg4 arg13 arg15 arg16 arg0 v43 X1 X2 X4 k f13 f15)) (vl i k arg3 arg5 arg14 X3 X5 f14 7) (vl i k arg3 arg5 arg14 X3 X5 f14 8)) := rfl
theorem w_r_6 : (trip.sl.r_6 (F := Ideal) i arg1 arg2 arg3 arg4 arg5 arg13 arg14 arg15 arg16 arg0 v43 X1 X2 X3 X4 X5 k f13 f14 f15) = addf (trip.sl.v938 (F := Ideal) i arg1 arg2 arg3 arg4 arg5 arg13 arg14 arg15 arg16 arg0 v43 X1 X2 X3 X4 X5 k f13 f14 f15) (pvV (clipV (trip.sl.v942 (F := Ideal) i arg1 arg2 arg4 arg13 arg15 arg16 arg0 v43 X1 X2 X4 k f13 f15)) (clipV (trip.sl.v946 (F := Ideal) i arg1 arg2 arg4 arg13 arg15 arg16 arg0 v43 X1 X2 X4 k f13 f15)) (vl i k arg3 arg5 arg14 X3 X5 f14 9) (vl i k arg3 arg5 arg14 X3 X5 f14 10)) := rfl
theorem w_r_8 : (trip.sl.r_8 (F := Ideal) i arg1 arg2 arg3 arg4 arg5 arg13 arg14 arg15 arg16 arg0 v43 X1 X2 X3 X4 X5 k f13 f14 f15) = pv1V (clipV (k0_pay134 (trip.sl.v771 (F := Ideal) i arg1 arg2 arg4 arg13 arg15 arg0 v43 X1 X2 X4 k f13 f15) (trip.sl.v973 (F := Ideal) i arg1 arg2 arg4 arg13 arg15 arg16 arg0 v43 X1 X2 X4 k f13 f15))) (vl i k arg3 arg5 arg14 X3 X5 f14 11) := rfl
end Words

end Cert.AttendIdeal.Hand
-- ==== Proof.Arrays.lean ====
/- What the launch's arrays hold after the run, and its blocks as parts of the argument arrays. -/
module

public import proofs.«01_k».proof.Proof.Value
public import Idealize.ShloMosaic.Lib.Pipeline.Covers
public import Idealize.ShloMosaic.Lib.Pipeline.ValueKit

@[expose] public section

set_option maxRecDepth 16384

noncomputable section

namespace Cert.AttendIdeal.Hand

open Cert.AttendIdeal Cert.AttendIdeal.Gen Cert.Lowp
open Idealize.ShloMosaic Idealize.ShloMosaic.TcCoe
open Idealize.ShloMosaic.Pipeline (Dat Cfg Window)

variable (m : (ℓ : Loc nD τ sig) → Buf (Elt Ideal) ℓ) (c : Dev nD)

/-- Row `r` of block `t`, as a row of an array. -/
def row (t : Fin 128) (r : Fin 128) : Fin 16384 := ⟨128 * t.val + r.val, by omega⟩

/-- A point of the grid as a block's number. -/
def pt (t : Fin 128) : Fin cfg0.N := ⟨t.val, lt_of_lt_of_eq t.isLt N_0.symm⟩

theorem index_rows (t : Fin cfg0.N) : win0_0.index t = ![t.val, 0] ∧ win0_1.index t = ![t.val, 0] ∧ win0_2.index t = ![t.val, 0]
    ∧ win0_5.index t = ![t.val, 0] ∧ win0_6.index t = ![t.val, 0] ∧ win0_7.index t = ![t.val, 0] ∧ win0_8.index t = ![t.val, 0] := by
  revert t; decide +kernel

theorem index_tabs (t : Fin cfg0.N) : win0_3.index t = ![0, 0] ∧ win0_4.index t = ![0, 0] ∧ win0_9.index t = ![t.val, 0, 0]
    ∧ win0_10.index t = ![t.val, 0, 0] ∧ win0_11.index t = ![t.val, 0, 0] := by
  revert t; decide +kernel

theorem emb0 (t : Fin cfg0.N) (r : Fin 128) (q : Fin 8192) (a : Fin 2) :
    ((((win0_0.blk t).view.emb (ix2 r q)) a : Fin _) : ℕ) = ![128 * t.val + r.val, q.val] a := by
  fin_cases a <;> blk_simp [(index_rows t).1] <;> simp <;> omega

/-- A point's tile of the queries is the array's. -/
theorem xT_eq (t : Fin 128) (h : Fin 64) (r d : Fin 128) :
    xT m c (pt t) h r d = (m ((c.tc : Thread nD τ).loc main_arg0) : S16384x8192.Idx → EReal) (ix2 (row t r) (col h d)) := by
  unfold xT iblk
  blk_simp []
  refine congrArg (m ((c.tc : Thread nD τ).loc main_arg0) : S16384x8192.Idx → EReal) (funext fun a => Fin.ext ?_)
  rw [emb0]
  fin_cases a <;> rfl

theorem emb1 (t : Fin cfg0.N) (r : Fin 128) (q : Fin 8192) (a : Fin 2) :
    ((((win0_1.blk t).view.emb (ix2 r q)) a : Fin _) : ℕ) = ![128 * t.val + r.val, q.val] a := by
  fin_cases a <;> blk_simp [(index_rows t).2.1] <;> simp <;> omega

/-- A point's tile of the keys is the array's. -/
theorem kT_eq (t : Fin 128) (h : Fin 64) (r d : Fin 128) :
    kT m c (pt t) h r d = (m ((c.tc : Thread nD τ).loc main_arg1) : S16384x8192.Idx → EReal) (ix2 (row t r) (col h d)) := by
  unfold kT iblk
  blk_simp []
  refine congrArg (m ((c.tc : Thread nD τ).loc main_arg1) : S16384x8192.Idx → EReal) (funext fun a => Fin.ext ?_)
  rw [emb1]
  fin_cases a <;> rfl

theorem emb2 (t : Fin cfg0.N) (r : Fin 128) (q : Fin 8192) (a : Fin 2) :
    ((((win0_2.blk t).view.emb (ix2 r q)) a : Fin _) : ℕ) = ![128 * t.val + r.val, q.val] a := by
  fin_cases a <;> blk_simp [(index_rows t).2.2.1] <;> simp <;> omega

/-- A point's tile of the values is the array's. -/
theorem vT_eq (t : Fin 128) (h : Fin 64) (r d : Fin 128) :
    vT m c (pt t) h r d = (m ((c.tc : Thread nD τ).loc main_arg2) : S16384x8192.Idx → EReal) (ix2 (row t r) (col h d)) := by
  unfold vT iblk
  blk_simp []
  refine congrArg (m ((c.tc : Thread nD τ).loc main_arg2) : S16384x8192.Idx → EReal) (funext fun a => Fin.ext ?_)
  rw [emb2]
  fin_cases a <;> rfl

theorem emb3 (t : Fin cfg0.N) (h : Fin 64) (d : Fin 128) (a : Fin 2) :
    ((((win0_3.blk t).view.emb (ix2 h d)) a : Fin _) : ℕ) = ![h.val, d.val] a := by
  fin_cases a <;> blk_simp [(index_tabs t).1] <;> simp

/-- A point's table of the mean keys is the array. -/
theorem mkT_eq (t : Fin 128) (h : Fin 64) (d : Fin 128) :
    mkT m c (pt t) h d = (m ((c.tc : Thread nD τ).loc main_arg3) : S64x128.Idx → EReal) (ix2 h d) := by
  unfold mkT iblk
  blk_simp []
  refine congrArg (m ((c.tc : Thread nD τ).loc main_arg3) : S64x128.Idx → EReal) (funext fun a => Fin.ext ?_)
  rw [emb3]
  fin_cases a <;> rfl

theorem emb4 (t : Fin cfg0.N) (h : Fin 64) (d : Fin 128) (a : Fin 2) :
    ((((win0_4.blk t).view.emb (ix2 h d)) a : Fin _) : ℕ) = ![h.val, d.val] a := by
  fin_cases a <;> blk_simp [(index_tabs t).2.1] <;> simp

/-- A point's table of the values' scales is the array. -/
theorem vsT_eq (t : Fin 128) (h : Fin 64) (d : Fin 128) :
    vsT m c (pt t) h d = (m ((c.tc : Thread nD τ).loc main_arg4) : S64x128.Idx → EReal) (ix2 h d) := by
  unfold vsT iblk
  blk_simp []
  refine congrArg (m ((c.tc : Thread nD τ).loc main_arg4) : S64x128.Idx → EReal) (funext fun a => Fin.ext ?_)
  rw [emb4]
  fin_cases a <;> rfl

/-- The array of a row-blocked output whose blocks hold the tiles `g`. -/
def tiles (g : Fin cfg0.N → Fin 64 → Fin 128 → Fin 128 → EReal) (i : S16384x8192.Idx) : EReal :=
  g (pt ⟨(i 0).val / 128, by have := (i 0).isLt; change _ < 16384 at this; omega⟩)
    ⟨(i 1).val / 128, by have := (i 1).isLt; change _ < 8192 at this; omega⟩
    ⟨(i 0).val % 128, by omega⟩ ⟨(i 1).val % 128, by omega⟩

/-- The array of an output of a table a block, whose blocks hold the rows `g`. -/
def rows (g : Fin cfg0.N → Fin 64 → Fin 128 → EReal) (i : S128x64x128.Idx) : EReal := g (pt (i 0)) (i 1) (i 2)

/-- A block that holds the tiles `g` at all heads, at any index. -/
theorem HoldsT.at {g : Fin cfg0.N → Fin 64 → Fin 128 → Fin 128 → EReal} {t : Fin cfg0.N} {X : S128x8192.Idx → EReal}
    (h : ∀ k : Fin 64, k.val < 64 → ∀ r d : Fin 128, X (ix2 r (col k d)) = g t k r d) (y : S128x8192.Idx) (i : S16384x8192.Idx)
    (h0 : (i 0).val = 128 * t.val + (y 0).val) (h1 : (i 1).val = (y 1).val) : X y = tiles g i := by
  have y0 : (y 0).val < 128 := (y 0).isLt
  have y1 : (y 1).val < 8192 := (y 1).isLt
  have e : y = ix2 (y 0) (col ⟨(y 1).val / 128, by omega⟩ ⟨(y 1).val % 128, by omega⟩) := by
    funext a
    refine Fin.ext ?_
    fin_cases a
    · rfl
    · show (y 1).val = 128 * ((y 1).val / 128) + (y 1).val % 128
      omega
  refine (congrArg X e).trans ((h _ (by show (y 1).val / 128 < 64; omega) _ _).trans ?_)
  unfold tiles
  have e1 : t = pt ⟨(i 0).val / 128, by have := (i 0).isLt; change _ < 16384 at this; omega⟩ := Fin.ext (show t.val = (i 0).val / 128 by omega)
  rw [← e1]
  congr 1
  · exact Fin.ext (show (y 1).val / 128 = (i 1).val / 128 by omega)
  · exact Fin.ext (show (y 0).val = (i 0).val % 128 by omega)
  · exact Fin.ext (show (y 1).val % 128 = (i 1).val % 128 by omega)

/-- A table that holds the rows `g` at all heads, at any index. -/
theorem HoldsR.at {g : Fin cfg0.N → Fin 64 → Fin 128 → EReal} {t : Fin cfg0.N} {X : S1x64x128.Idx → EReal}
    (h : ∀ k : Fin 64, k.val < 64 → ∀ d : Fin 128, X (ix3 0 k d) = g t k d) (y : S1x64x128.Idx) (i : S128x64x128.Idx)
    (h0 : (i 0).val = t.val) (h1 : (i 1).val = (y 1).val) (h2 : (i 2).val = (y 2).val) : X y = rows g i := by
  have e : y = ix3 0 (y 1) (y 2) := by
    funext a
    refine Fin.ext ?_
    have y0 : (y 0).val < 1 := (y 0).isLt
    fin_cases a
    · show (y 0).val = 0
      omega
    · rfl
    · rfl
  refine (congrArg X e).trans ((h _ (y 1).isLt _).trans ?_)
  unfold rows
  rw [show t = pt (i 0) from Fin.ext h0.symm, show i 1 = y 1 from Fin.ext h1, show i 2 = y 2 from Fin.ext h2]

theorem covers5 : (cfg0.win 5).Covers := by decide +kernel

/-- Output 1's array, when every block holds what `g` says. -/
theorem arr5 (g : Fin cfg0.N → Fin 64 → Fin 128 → Fin 128 → EReal) (dat : Dat τ (Elt Ideal) Unit ℕ (UR sig nD τ) ℕ cfg0 c)
    (h : ∀ t, HoldsT (e := .bf16) (g t) 64 (dat.after 5 t)) : dat.arrAt 5 cfg0.N = tiles g := by
  refine dat.arrAt_eq_of_covers 5 _ covers5 fun t hf y => ?_
  blk_simp []
  refine HoldsT.at (h t) y _ ?_ ?_ <;> blk_simp [(index_rows t).2.2.2.1] <;> simp <;> omega

theorem covers6 : (cfg0.win 6).Covers := by decide +kernel

/-- Output 2's array, when every block holds what `g` says. -/
theorem arr6 (g : Fin cfg0.N → Fin 64 → Fin 128 → Fin 128 → EReal) (dat : Dat τ (Elt Ideal) Unit ℕ (UR sig nD τ) ℕ cfg0 c)
    (h : ∀ t, HoldsT (e := .fp8e4m3) (g t) 64 (dat.after 6 t)) : dat.arrAt 6 cfg0.N = tiles g := by
  refine dat.arrAt_eq_of_covers 6 _ covers6 fun t hf y => ?_
  blk_simp []
  refine HoldsT.at (h t) y _ ?_ ?_ <;> blk_simp [(index_rows t).2.2.2.2.1] <;> simp <;> omega

theorem covers7 : (cfg0.win 7).Covers := by decide +kernel

/-- Output 3's array, when every block holds what `g` says. -/
theorem arr7 (g : Fin cfg0.N → Fin 64 → Fin 128 → Fin 128 → EReal) (dat : Dat τ (Elt Ideal) Unit ℕ (UR sig nD τ) ℕ cfg0 c)
    (h : ∀ t, HoldsT (e := .fp8e4m3) (g t) 64 (dat.after 7 t)) : dat.arrAt 7 cfg0.N = tiles g := by
  refine dat.arrAt_eq_of_covers 7 _ covers7 fun t hf y => ?_
  blk_simp []
  refine HoldsT.at (h t) y _ ?_ ?_ <;> blk_simp [(index_rows t).2.2.2.2.2.1] <;> simp <;> omega

theorem covers8 : (cfg0.win 8).Covers := by decide +kernel

/-- Output 4's array, when every block holds what `g` says. -/
theorem arr8 (g : Fin cfg0.N → Fin 64 → Fin 128 → Fin 128 → EReal) (dat : Dat τ (Elt Ideal) Unit ℕ (UR sig nD τ) ℕ cfg0 c)
    (h : ∀ t, HoldsT (e := .fp8e4m3) (g t) 64 (dat.after 8 t)) : dat.arrAt 8 cfg0.N = tiles g := by
  refine dat.arrAt_eq_of_covers 8 _ covers8 fun t hf y => ?_
  blk_simp []
  refine HoldsT.at (h t) y _ ?_ ?_ <;> blk_simp [(index_rows t).2.2.2.2.2.2] <;> simp <;> omega

theorem covers9 : (cfg0.win 9).Covers := by decide +kernel

/-- Output 5's array, when every block holds what `g` says. -/
theorem arr9 (g : Fin cfg0.N → Fin 64 → Fin 128 → EReal) (dat : Dat τ (Elt Ideal) Unit ℕ (UR sig nD τ) ℕ cfg0 c)
    (h : ∀ t, HoldsR (e := .f32) (g t) 64 (dat.after 9 t)) : dat.arrAt 9 cfg0.N = rows g := by
  refine dat.arrAt_eq_of_covers 9 _ covers9 fun t hf y => ?_
  blk_simp []
  have y0 : (y 0).val < 1 := (y 0).isLt
  refine HoldsR.at (h t) y _ ?_ ?_ ?_ <;> blk_simp [(index_tabs t).2.2.1] <;> simp

theorem covers10 : (cfg0.win 10).Covers := by decide +kernel

/-- Output 6's array, when every block holds what `g` says. -/
theorem arr10 (g : Fin cfg0.N → Fin 64 → Fin 128 → EReal) (dat : Dat τ (Elt Ideal) Unit ℕ (UR sig nD τ) ℕ cfg0 c)
    (h : ∀ t, HoldsR (e := .f32) (g t) 64 (dat.after 10 t)) : dat.arrAt 10 cfg0.N = rows g := by
  refine dat.arrAt_eq_of_covers 10 _ covers10 fun t hf y => ?_
  blk_simp []
  have y0 : (y 0).val < 1 := (y 0).isLt
  refine HoldsR.at (h t) y _ ?_ ?_ ?_ <;> blk_simp [(index_tabs t).2.2.2.1] <;> simp

theorem covers11 : (cfg0.win 11).Covers := by decide +kernel

/-- Output 7's array, when every block holds what `g` says. -/
theorem arr11 (g : Fin cfg0.N → Fin 64 → Fin 128 → EReal) (dat : Dat τ (Elt Ideal) Unit ℕ (UR sig nD τ) ℕ cfg0 c)
    (h : ∀ t, HoldsR (e := .f32) (g t) 64 (dat.after 11 t)) : dat.arrAt 11 cfg0.N = rows g := by
  refine dat.arrAt_eq_of_covers 11 _ covers11 fun t hf y => ?_
  blk_simp []
  have y0 : (y 0).val < 1 := (y 0).isLt
  refine HoldsR.at (h t) y _ ?_ ?_ ?_ <;> blk_simp [(index_tabs t).2.2.2.2] <;> simp

end Cert.AttendIdeal.Hand
-- ==== Proof.Ref.lean ====
/- What the reference computes, read at an index. -/
module

public import proofs.«01_k».proof.Proof.Gen.AttendRefIdeal.Run
public import proofs.«01_k».proof.Proof.Arrays
public import Idealize.ShloMosaic.Lib.Pointwise

@[expose] public section

set_option maxRecDepth 16384

noncomputable section

namespace Cert.AttendRefIdeal.Hand

open Cert.AttendRefIdeal Cert.AttendRefIdeal.Gen Cert.AttendRefIdeal.Value Cert.Lowp
open Cert.AttendIdeal.Hand (row col)
open Idealize.ShloMosaic Idealize.ShloMosaic.TcCoe

variable (V : Valuation τ sig (Elt Ideal))

/-- The queries. -/
def aX (s : Fin 16384) (q : Fin 8192) : EReal := (V (Proc.devRef .tc main_arg0) : S16384x8192.Idx → EReal) (ix2 s q)
/-- The keys. -/
def aK (s : Fin 16384) (q : Fin 8192) : EReal := (V (Proc.devRef .tc main_arg1) : S16384x8192.Idx → EReal) (ix2 s q)
/-- The values. -/
def aV (s : Fin 16384) (q : Fin 8192) : EReal := (V (Proc.devRef .tc main_arg2) : S16384x8192.Idx → EReal) (ix2 s q)
/-- The mean keys. -/
def aM (h : Fin 64) (d : Fin 128) : EReal := (V (Proc.devRef .tc main_arg3) : S64x128.Idx → EReal) (ix2 h d)
/-- The values' scales. -/
def aS (h : Fin 64) (d : Fin 128) : EReal := (V (Proc.devRef .tc main_arg4) : S64x128.Idx → EReal) (ix2 h d)

/-- Row `r` of group `g` of 64 keys. -/
def krow (g : Fin 256) (r : Fin 64) : Fin 16384 := ⟨64 * g.val + r.val, by omega⟩

/-- A block of 128 queries, of one head. -/
def bX (n : Fin 128) (h : Fin 64) (r d : Fin 128) : EReal := aX V (row n r) (col h d)
/-- A group of 64 keys less the mean key, of one head. -/
def bK (g : Fin 256) (h : Fin 64) (r : Fin 64) (d : Fin 128) : EReal := aK V (krow g r) (col h d) - aM V h d

theorem q1 (n r : Fin 128) (h : Fin 64) (d : Fin 128) : res_main_v1 (F := Ideal) V (ix4 n r h d) = bX V n h r d := by
  pointwise [res_main_v1, bX, aX]
  exact congrArg (V (Proc.tc.devRef main_arg0) : S16384x8192.Idx → EReal)
    (congrArg₂ ix2 (Fin.ext (by simp [row]; omega)) (Fin.ext (by simp [col]; omega)))

/-- A product by `2 ^ -7` is a quotient by 128. -/
theorem div_128 (x : EReal) : Ideal.div x (Ideal.ofBits .f32 0x43000000#32) = x * Ideal.ofBits .f32 1006632960#32 := by
  have e1 : Ideal.ofBits .f32 0x43000000#32 = (((2 : ℝ) ^ (7 : ℤ) : ℝ) : EReal) := pat_ofNat 134 (by omega) (by omega)
  have e2 : Ideal.ofBits .f32 1006632960#32 = (((2 : ℝ) ^ (-7 : ℤ) : ℝ) : EReal) := pat_ofNat 120 (by omega) (by omega)
  rw [e1, e2, Ideal.div, if_neg (by norm_num), ← EReal.coe_inv]
  norm_num

theorem q5 (n : Fin 128) (h : Fin 64) (d : Fin 128) : res_main_v5 (F := Ideal) V (ix3 n h d) = meanT (bX V n h) d := by
  pointwise [res_main_v5, q1]
  rw [div_128]
  rfl

theorem q9 (n r : Fin 128) (h : Fin 64) (d : Fin 128) : res_main_v9 (F := Ideal) V (ix4 n r h d) = cen (bX V n h) r d := by
  pointwise [res_main_v9, q1, q5, cen]

/-- An equation, from what holds of its right side. -/
theorem by_pred {a b : EReal} (h : ∀ P : EReal → Prop, P b → P a) : a = b := h (· = b) rfl

theorem q37 (g : Fin 256) (r : Fin 64) (h : Fin 64) (d : Fin 128) : res_main_v37 (F := Ideal) V (ix4 g r h d) = bK V g h r d := by
  refine by_pred fun P hP => ?_
  pointwise [res_main_v37]
  refine cast (congrArg P ?_) hP
  refine congrArg (fun z : EReal => z - aM V h d) (congrArg (V (Proc.tc.devRef main_arg1) : S16384x8192.Idx → EReal) ?_)
  exact congrArg₂ ix2 (Fin.ext (by simp [krow]; omega)) (Fin.ext (by simp [col]; omega))

/-- A maximum over a set that two indices run through is a maximum of maxima. -/
theorem fold_two {ι : Type} {n : ℕ} (S : Finset ι) (u : Fin n → Fin 128 → ι) (hu : ∀ i, i ∈ S ↔ ∃ r d, i = u r d) (b : EReal) (f : ι → EReal) :
    Finset.fold max b f S = Finset.fold max b (fun d => Finset.fold max b (fun r => f (u r d)) Finset.univ) Finset.univ := by
  refine eq_of_forall_ge_iff fun x => ?_
  simp only [Finset.fold_max_le, Finset.mem_univ, true_implies]
  constructor
  · rintro ⟨h0, h⟩
    exact ⟨h0, fun d => ⟨h0, fun r => h _ ((hu _).2 ⟨r, d, rfl⟩)⟩⟩
  · rintro ⟨h0, h⟩
    refine ⟨h0, fun i hi => ?_⟩
    obtain ⟨r, d, rfl⟩ := (hu i).1 hi
    exact (h d).2 r

theorem drop4 (n r : Fin 128) (h : Fin 64) (d : Fin 128) : reducesTo_S128x128x64x128_S128x64_d1_3.drop (ix4 n r h d) = ix2 n h := by
  funext a; fin_cases a <;> rfl

theorem mem4 (n : Fin 128) (h : Fin 64) (i : S128x128x64x128.Idx) :
    reducesTo_S128x128x64x128_S128x64_d1_3.drop i = ix2 n h ↔ ∃ r d, i = ix4 n r h d := by
  constructor
  · intro e
    have ei : i = ix4 (i 0) (i 1) (i 2) (i 3) := by funext a; fin_cases a <;> rfl
    have e' := (drop4 (i 0) (i 1) (i 2) (i 3)).symm.trans ((congrArg _ ei.symm).trans e)
    have h0 : i 0 = n := congrFun e' 0
    have h1 : i 2 = h := congrFun e' 1
    exact ⟨i 1, i 3, by rw [ei, ← h0, ← h1]; rfl⟩
  · rintro ⟨r, d, rfl⟩
    exact drop4 n r h d

theorem drop4' (n : Fin 256) (r h : Fin 64) (d : Fin 128) : reducesTo_S256x64x64x128_S256x64_d1_3.drop (ix4 n r h d) = ix2 n h := by
  funext a; fin_cases a <;> rfl

theorem mem4' (n : Fin 256) (h : Fin 64) (i : S256x64x64x128.Idx) :
    reducesTo_S256x64x64x128_S256x64_d1_3.drop i = ix2 n h ↔ ∃ r d, i = ix4 n r h d := by
  constructor
  · intro e
    have ei : i = ix4 (i 0) (i 1) (i 2) (i 3) := by funext a; fin_cases a <;> rfl
    have e' := (drop4' (i 0) (i 1) (i 2) (i 3)).symm.trans ((congrArg _ ei.symm).trans e)
    have h0 : i 0 = n := congrFun e' 0
    have h1 : i 2 = h := congrFun e' 1
    exact ⟨i 1, i 3, by rw [ei, ← h0, ← h1]; rfl⟩
  · rintro ⟨r, d, rfl⟩
    exact drop4' n r h d

/-- The greatest magnitude of each group of an array. -/
theorem red14 (b : BitVec 32) (w : FVec Ideal S128x128x64x128 .f32) (n : Fin 128) (h : Fin 64) :
    Host.reduce (α := Ideal .f32) FloatOps.maximumf (Host.absf w) (constant (F := Ideal) S_ .f32 b) reducesTo_S128x128x64x128_S128x64_d1_3 h_S_ (ix2 n h)
      = Finset.fold max (Ideal.ofBits .f32 b) (fun d => Finset.fold max (Ideal.ofBits .f32 b) (fun r => FloatOps.absf (F := Ideal) (φ := .f32) (w (ix4 n r h d))) Finset.univ) Finset.univ := by
  refine by_pred fun P hP => ?_
  pointwise []
  refine cast (congrArg P (fold_two _ (fun r d => ix4 n r h d) ?_ _ _).symm) hP
  intro i
  simp only [Finset.mem_filter, Finset.mem_univ, true_and]
  exact mem4 n h i

/-- A group's number by a constant. -/
theorem scale14 (c : BitVec 32) (y : FVec Ideal S128x64 .f32) (n : Fin 128) (h : Fin 64) :
    mulf (broadcastInDim S128x1x64x1 ![0, 2] bcast_S128x64_S128x1x64x1_0_2 y) (broadcastInDim S128x1x64x1 ![] bcast_S_S128x1x64x1 (constant S_ .f32 c)) (ix4 n 0 h 0)
      = y (ix2 n h) * Ideal.ofBits .f32 c := by
  refine by_pred fun P hP => ?_
  pointwise []
  exact hP

theorem q14 (n : Fin 128) (h : Fin 64) : res_main_v14 (F := Ideal) V (ix4 n 0 h 0) = quo (cen (bX V n h)) := by
  unfold res_main_v14
  refine (scale14 _ _ n h).trans ?_
  unfold quo
  refine congrArg (fun z : EReal => z * Ideal.ofBits .f32 991054117#32) ((red14 _ _ n h).trans ?_)
  refine congrArg (fun f => Finset.fold max ninf f Finset.univ) (funext fun d => ?_)
  refine congrArg (fun f => Finset.fold max ninf f Finset.univ) (funext fun r => ?_)
  exact congrArg (FloatOps.absf (F := Ideal) (φ := .f32)) (q9 V n r h d)

/-- The greatest magnitude of each group of an array. -/
theorem red42 (b : BitVec 32) (w : FVec Ideal S256x64x64x128 .f32) (n : Fin 256) (h : Fin 64) :
    Host.reduce (α := Ideal .f32) FloatOps.maximumf (Host.absf w) (constant (F := Ideal) S_ .f32 b) reducesTo_S256x64x64x128_S256x64_d1_3 h_S_ (ix2 n h)
      = Finset.fold max (Ideal.ofBits .f32 b) (fun d => Finset.fold max (Ideal.ofBits .f32 b) (fun r => FloatOps.absf (F := Ideal) (φ := .f32) (w (ix4 n r h d))) Finset.univ) Finset.univ := by
  refine by_pred fun P hP => ?_
  pointwise []
  refine cast (congrArg P (fold_two _ (fun r d => ix4 n r h d) ?_ _ _).symm) hP
  intro i
  simp only [Finset.mem_filter, Finset.mem_univ, true_and]
  exact mem4' n h i

/-- A group's number by a constant. -/
theorem scale42 (c : BitVec 32) (y : FVec Ideal S256x64 .f32) (n : Fin 256) (h : Fin 64) :
    mulf (broadcastInDim S256x1x64x1 ![0, 2] bcast_S256x64_S256x1x64x1_0_2 y) (broadcastInDim S256x1x64x1 ![] bcast_S_S256x1x64x1 (constant S_ .f32 c)) (ix4 n 0 h 0)
      = y (ix2 n h) * Ideal.ofBits .f32 c := by
  refine by_pred fun P hP => ?_
  pointwise []
  exact hP

theorem q42 (n : Fin 256) (h : Fin 64) : res_main_v42 (F := Ideal) V (ix4 n 0 h 0) = quo (bK V n h) := by
  unfold res_main_v42
  refine (scale42 _ _ n h).trans ?_
  unfold quo
  refine congrArg (fun z : EReal => z * Ideal.ofBits .f32 991054117#32) ((red42 _ _ n h).trans ?_)
  refine congrArg (fun f => Finset.fold max ninf f Finset.univ) (funext fun d => ?_)
  refine congrArg (fun f => Finset.fold max ninf f Finset.univ) (funext fun r => ?_)
  exact congrArg (FloatOps.absf (F := Ideal) (φ := .f32)) (q37 V n r h d)

/-- A power of a constant, at an index. -/
theorem pow_at {s : Shape} (hb : S_.BroadcastsInDim s (![] : Fin 0 → Fin s.rank)) (b : BitVec 32) (y : FVec Ideal s .f32) (i : s.Idx) :
    Host.powf (broadcastInDim s ![] hb (constant S_ .f32 b)) y i = Ideal.pow (Ideal.ofBits .f32 b) (y i) := rfl

/-- The exponent that the reference takes of a quotient, its constants given. -/
def eref (b0 b1 b2 b3 : BitVec 32) (r : EReal) : EReal :=
  Scalar.select (FloatOps.cmpf (F := Ideal) (φ := .f32) .olt r (Ideal.ofBits .f32 b0)) (Ideal.ofBits .f32 b1)
    (Ideal.liftRound Int.floor (Ideal.div (Ideal.log r) (Ideal.log (Ideal.ofBits .f32 b2))) + Ideal.ofBits .f32 b3)

theorem expo_at {s : Shape} (hb : S_.BroadcastsInDim s (![] : Fin 0 → Fin s.rank)) (b0 b1 b2 b3 : BitVec 32) (x : FVec Ideal s .f32) (i : s.Idx) :
    select (cmpf .olt x (broadcastInDim s ![] hb (constant S_ .f32 b0))) (broadcastInDim s ![] hb (id (constant S_ .f32 b1)))
      (addf (Host.floor (Host.divf (Host.log x) (broadcastInDim s ![] hb (Host.log (constant S_ .f32 b2)))))
        (broadcastInDim s ![] hb (constant S_ .f32 b3))) i = eref b0 b1 b2 b3 (x i) := rfl

/-- The reference's exponent of a quotient. -/
def rexp (r : EReal) : EReal := eref 0x00800000#32 0x00000000#32 0x40000000#32 0x3F800000#32 r
/-- The reference's scale `2 ** e`. -/
def rup (r : EReal) : EReal := Ideal.pow (Ideal.ofBits .f32 0x40000000#32) (rexp r)
/-- The reference's inverse scale `2 ** -e`. -/
def rdown (r : EReal) : EReal := Ideal.pow (Ideal.ofBits .f32 0x40000000#32) (-(rexp r))

theorem q24 (n : Fin 128) (h : Fin 64) : res_main_v24 (F := Ideal) V (ix4 n 0 h 0) = rexp (quo (cen (bX V n h))) := by
  unfold res_main_v24
  exact (expo_at _ _ _ _ _ _ _).trans (congrArg (eref _ _ _ _) (q14 V n h))

theorem q52 (n : Fin 256) (h : Fin 64) : res_main_v52 (F := Ideal) V (ix4 n 0 h 0) = rexp (quo (bK V n h)) := by
  unfold res_main_v52
  exact (expo_at _ _ _ _ _ _ _).trans (congrArg (eref _ _ _ _) (q42 V n h))

theorem q26 (n : Fin 128) (h : Fin 64) : res_main_v26 (F := Ideal) V (ix4 n 0 h 0) = rup (quo (cen (bX V n h))) := by
  unfold res_main_v26
  exact (pow_at _ _ _ _).trans (congrArg (Ideal.pow _) (q24 V n h))

theorem q54 (n : Fin 256) (h : Fin 64) : res_main_v54 (F := Ideal) V (ix4 n 0 h 0) = rup (quo (bK V n h)) := by
  unfold res_main_v54
  exact (pow_at _ _ _ _).trans (congrArg (Ideal.pow _) (q52 V n h))

theorem idx_row (n r : Fin 128) (h : Fin 64) (d : Fin 128) (f : S128x128x64x128.Idx → EReal) (h1) (h2) :
    f (ix4 ⟨(row n r).val / 128, h1⟩ ⟨(row n r).val % 128, h2⟩ h d) = f (ix4 n r h d) := by
  rw [show (⟨(row n r).val / 128, h1⟩ : Fin 128) = n from Fin.ext (by simp [row]; omega),
    show (⟨(row n r).val % 128, h2⟩ : Fin 128) = r from Fin.ext (by simp only [row]; omega)]

theorem idx_krow (g : Fin 256) (r : Fin 64) (h : Fin 64) (d : Fin 128) (f : S256x64x64x128.Idx → EReal) (h1) (h2) :
    f (ix4 ⟨(krow g r).val / 64, h1⟩ ⟨(krow g r).val % 64, h2⟩ h d) = f (ix4 g r h d) := by
  rw [show (⟨(krow g r).val / 64, h1⟩ : Fin 256) = g from Fin.ext (by simp [krow]; omega),
    show (⟨(krow g r).val % 64, h2⟩ : Fin 64) = r from Fin.ext (by simp only [krow]; omega)]

/-- The clipping of an array, read by row of a group. -/
theorem clip67 (w : FVec Ideal S128x128x64x128 .f32) (n : Fin 128) (r : Fin 128) (h : Fin 64) (d : Fin 128) :
   shapeCast S16384x64x128 (minimumf (broadcastInDim S128x128x64x128 ![] bcast_S_S128x128x64x128 (id (constant (F := Ideal) S_ .f32 0x43E00000#32))) (maximumf (broadcastInDim S128x128x64x128 ![] bcast_S_S128x128x64x128 (id (constant S_ .f32 0xC3E00000#32))) w)) shapeCasts_S128x128x64x128_S16384x64x128 (ix3 (row n r) h d) = clip (w (ix4 n r h d)) := by
  refine by_pred fun P hP => ?_
  pointwise []
  exact cast (congrArg P (congrArg clip (idx_row n r h d w _ _).symm)) hP

theorem clip68 (w : FVec Ideal S256x64x64x128 .f32) (n : Fin 256) (r : Fin 64) (h : Fin 64) (d : Fin 128) :
   shapeCast S16384x64x128 (minimumf (broadcastInDim S256x64x64x128 ![] bcast_S_S256x64x64x128 (id (constant (F := Ideal) S_ .f32 0x43E00000#32))) (maximumf (broadcastInDim S256x64x64x128 ![] bcast_S_S256x64x64x128 (id (constant S_ .f32 0xC3E00000#32))) w)) shapeCasts_S256x64x64x128_S16384x64x128 (ix3 (krow n r) h d) = clip (w (ix4 n r h d)) := by
  refine by_pred fun P hP => ?_
  pointwise []
  exact cast (congrArg P (congrArg clip (idx_krow n r h d w _ _).symm)) hP

theorem mul67 (b : BitVec 32) (x : FVec Ideal S128x128x64x128 .f32) (e : FVec Ideal S128x1x64x1 .f32) (n : Fin 128) (r : Fin 128) (h : Fin 64) (d : Fin 128) :
    mulf x (broadcastInDim S128x128x64x128 ![0, 1, 2, 3] bcast_S128x1x64x1_S128x128x64x128_0_1_2_3 (Host.powf (broadcastInDim S128x1x64x1 ![] bcast_S_S128x1x64x1 (constant S_ .f32 b)) (Host.negf e))) (ix4 n r h d)
      = x (ix4 n r h d) * Ideal.pow (Ideal.ofBits .f32 b) (-(e (ix4 n 0 h 0))) := by
  refine by_pred fun P hP => ?_
  pointwise []
  exact hP

theorem mul68 (b : BitVec 32) (x : FVec Ideal S256x64x64x128 .f32) (e : FVec Ideal S256x1x64x1 .f32) (n : Fin 256) (r : Fin 64) (h : Fin 64) (d : Fin 128) :
    mulf x (broadcastInDim S256x64x64x128 ![0, 1, 2, 3] bcast_S256x1x64x1_S256x64x64x128_0_1_2_3 (Host.powf (broadcastInDim S256x1x64x1 ![] bcast_S_S256x1x64x1 (constant S_ .f32 b)) (Host.negf e))) (ix4 n r h d)
      = x (ix4 n r h d) * Ideal.pow (Ideal.ofBits .f32 b) (-(e (ix4 n 0 h 0))) := by
  refine by_pred fun P hP => ?_
  pointwise []
  exact hP

theorem q67 (n : Fin 128) (r : Fin 128) (h : Fin 64) (d : Fin 128) :
    res_main_v67 (F := Ideal) V (ix3 (row n r) h d) = clip (cen (bX V n h) r d * rdown (quo (cen (bX V n h)))) := by
  unfold res_main_v67
  exact (clip67 _ n r h d).trans (congrArg clip ((mul67 _ _ _ n r h d).trans
    (congrArg₂ (fun a b : EReal => a * b) (q9 V n r h d) (congrArg (fun z => Ideal.pow _ (-z)) (q24 V n h)))))

theorem q68 (g : Fin 256) (r : Fin 64) (h : Fin 64) (d : Fin 128) :
    res_main_v68 (F := Ideal) V (ix3 (krow g r) h d) = clip (bK V g h r d * rdown (quo (bK V g h))) := by
  unfold res_main_v68
  exact (clip68 _ g r h d).trans (congrArg clip ((mul68 _ _ _ g r h d).trans
    (congrArg₂ (fun a b : EReal => a * b) (q37 V g r h d) (congrArg (fun z => Ideal.pow _ (-z)) (q52 V g h)))))

theorem q66 (s : Fin 16384) (h : Fin 64) (d : Fin 128) :
    res_main_v66 (F := Ideal) V (ix3 s h d) = clip (Ideal.div (aV V s (col h d)) (aS V h d)) := by
  refine by_pred fun P hP => ?_
  pointwise [res_main_v66]
  refine cast (congrArg P ?_) hP
  refine congrArg (fun z : EReal => clip (Ideal.div z (aS V h d))) (congrArg (V (Proc.tc.devRef main_arg2) : S16384x8192.Idx → EReal) ?_)
  exact congrArg₂ ix2 rfl (Fin.ext (by simp [col]; omega))

end Cert.AttendRefIdeal.Hand
-- ==== Proof.Quant.lean ====
/- The quantiser's mathematics: the quotient of a group of finite numbers is a number below 2^125, and there the kernel's
   scales are the reference's. -/
module

public import proofs.«01_k».proof.Proof.Ref

@[expose] public section

set_option maxRecDepth 16384

noncomputable section

namespace Cert.Lowp

open Idealize.ShloMosaic Cert.AttendRefIdeal.Hand

/-- What a positive normal pattern denotes. -/
theorem ofBits_real {b : BitVec 32} {c f : ℕ} (hn : (b.extractLsb' 31 1 == 1#1) = false)
    (he : (b.extractLsb' 23 8).toNat = c) (hf : (b.extractLsb' 0 23).toNat = f) (h1 : 1 ≤ c) (h2 : c ≤ 254) :
    Ideal.ofBits .f32 b = (((2 ^ 23 + f : ℝ) * (2 : ℝ) ^ ((c : ℤ) - 150) : ℝ) : EReal) := by
  show Ideal.ieee 8 23 b = _
  unfold Ideal.ieee
  rw [show (b.extractLsb' (8 + 23) 1 == 1#1) = false from hn, he, hf]
  dsimp only
  rw [if_neg (by omega), if_neg (by omega), if_neg (by simp)]
  congr 1
  push_cast
  rw [show ((c : ℤ) - 127 - 23) = (c : ℤ) - 150 by ring]
  norm_num

theorem ninf_eq : ninf = ⊥ := by
  show Ideal.ieee 8 23 4286578688#32 = ⊥
  unfold Ideal.ieee
  rw [show ((4286578688#32).extractLsb' (8 + 23) 1 == 1#1) = true from rfl, show ((4286578688#32).extractLsb' 23 8).toNat = 255 from rfl,
    show ((4286578688#32).extractLsb' 0 23).toNat = 0 from rfl]
  simp

theorem ofBits_zero : Ideal.ofBits .f32 0#32 = 0 := by
  show Ideal.ieee 8 23 0#32 = 0
  unfold Ideal.ieee
  rw [show ((0#32).extractLsb' (8 + 23) 1 == 1#1) = false from rfl, show ((0#32).extractLsb' 23 8).toNat = 0 from rfl,
    show ((0#32).extractLsb' 0 23).toNat = 0 from rfl]
  simp

theorem ofBits_one : Ideal.ofBits .f32 1065353216#32 = ((1 : ℝ) : EReal) := by
  rw [show Ideal.ofBits .f32 1065353216#32 = pat (BitVec.ofNat 32 127) from rfl, pat_ofNat 127 (by omega) (by omega)]
  norm_num

theorem ofBits_two : Ideal.ofBits .f32 1073741824#32 = ((2 : ℝ) : EReal) := by
  rw [show Ideal.ofBits .f32 1073741824#32 = pat (BitVec.ofNat 32 128) from rfl, pat_ofNat 128 (by omega) (by omega)]
  norm_num

theorem ofBits_tiny : Ideal.ofBits .f32 8388608#32 = (((2 : ℝ) ^ (-126 : ℤ) : ℝ) : EReal) :=
  pat_ofNat 1 (by omega) (by omega)

/-- The reciprocal of 448 in the quotient: positive, at most `2 ^ -8`. -/
theorem ofBits_448 : ∃ c : ℝ, Ideal.ofBits .f32 991054117#32 = (c : EReal) ∧ 0 ≤ c ∧ c ≤ (2 : ℝ) ^ (-8 : ℤ) := by
  refine ⟨_, ofBits_real (c := 118) (f := 1198373) rfl rfl rfl (by omega) (by omega), by positivity, ?_⟩
  norm_num

/-- bf16's greatest number is at most `2 ^ 128`. -/
theorem ofBits_max : Ideal.ofBits .f32 0x7F7F0000#32 ≤ (((2 : ℝ) ^ (128 : ℤ) : ℝ) : EReal) := by
  rw [ofBits_real (c := 254) (f := 8323072) rfl rfl rfl (by omega) (by omega), EReal.coe_le_coe_iff]
  norm_num

/-- A number whose magnitude is at most `B`. -/
def Fin' (B : ℝ) (x : EReal) : Prop := ∃ a : ℝ, x = (a : EReal) ∧ |a| ≤ B

theorem Fin'.sub {B C : ℝ} {x y : EReal} (hx : Fin' B x) (hy : Fin' C y) : Fin' (B + C) (x - y) := by
  obtain ⟨a, rfl, ha⟩ := hx
  obtain ⟨b, rfl, hb⟩ := hy
  exact ⟨a - b, (EReal.coe_sub a b).symm, (abs_sub a b).trans (add_le_add ha hb)⟩

/-- A sum of numbers of magnitude at most `B`. -/
theorem Fin'.sum {B : ℝ} {n : ℕ} {f : Fin n → EReal} (h : ∀ i, Fin' B (f i)) : Fin' (n * B) (∑ i, f i) := by
  choose a ha hb using h
  refine ⟨∑ i, a i, ?_, ?_⟩
  · rw [Finset.sum_congr rfl fun i _ => ha i]
    exact (map_sum (⟨⟨Real.toEReal, EReal.coe_zero⟩, EReal.coe_add⟩ : ℝ →+ EReal) a Finset.univ).symm
  · refine (Finset.abs_sum_le_sum_abs _ _).trans ((Finset.sum_le_sum fun i _ => hb i).trans ?_)
    simp

theorem mean_fin {x : Fin 128 → Fin 128 → EReal} {B : ℝ} (h : ∀ r d, Fin' B (x r d)) (d : Fin 128) : Fin' B (meanT x d) := by
  obtain ⟨a, ha, hb⟩ := Fin'.sum (n := 128) fun r => h r d
  have e2 : Ideal.ofBits .f32 1006632960#32 = (((2 : ℝ) ^ (-7 : ℤ) : ℝ) : EReal) := pat_ofNat 120 (by omega) (by omega)
  refine ⟨a * (2 : ℝ) ^ (-7 : ℤ), ?_, ?_⟩
  · unfold meanT
    rw [ha, e2, EReal.coe_mul]
  · rw [abs_mul, abs_of_pos (by positivity : (0 : ℝ) < (2 : ℝ) ^ (-7 : ℤ))]
    push_cast at hb
    calc |a| * (2 : ℝ) ^ (-7 : ℤ) ≤ (128 * B) * (2 : ℝ) ^ (-7 : ℤ) := by gcongr
      _ = B := by norm_num; ring

theorem cen_fin {x : Fin 128 → Fin 128 → EReal} {B : ℝ} (h : ∀ r d, Fin' B (x r d)) (r d : Fin 128) : Fin' (B + B) (cen x r d) :=
  (h r d).sub (mean_fin h d)

/-- A maximum of numbers between 0 and `B` is one. -/
theorem fold_fin {n : ℕ} (f : Fin (n + 1) → EReal) {B : ℝ} (h : ∀ i, 0 ≤ f i ∧ f i ≤ (B : EReal)) :
    0 ≤ Finset.fold max ninf f Finset.univ ∧ Finset.fold max ninf f Finset.univ ≤ (B : EReal) := by
  constructor
  · exact (Finset.le_fold_max _).2 (.inr ⟨0, Finset.mem_univ _, (h 0).1⟩)
  · exact (Finset.fold_max_le _).2 ⟨by rw [ninf_eq]; exact bot_le, fun i _ => (h i).2⟩

theorem absf_fin {B : ℝ} {x : EReal} (h : Fin' B x) :
    0 ≤ FloatOps.absf (F := Ideal) (φ := .f32) x ∧ FloatOps.absf (F := Ideal) (φ := .f32) x ≤ (B : EReal) := by
  obtain ⟨a, rfl, ha⟩ := h
  show 0 ≤ max (a : EReal) (-(a : EReal)) ∧ max (a : EReal) (-(a : EReal)) ≤ (B : EReal)
  rw [← EReal.coe_neg, ← Monotone.map_max (f := Real.toEReal) EReal.coe_strictMono.monotone, EReal.coe_le_coe_iff, ← EReal.coe_zero,
    EReal.coe_le_coe_iff]
  exact ⟨abs_nonneg a, ha⟩

/-- The quotient of a group of numbers of magnitude at most `2 ^ 129`. -/
theorem quo_real {n : ℕ} (D : Fin (n + 1) → Fin 128 → EReal) (h : ∀ r d, Fin' ((2 : ℝ) ^ (129 : ℤ)) (D r d)) :
    ∃ r : ℝ, quo D = (r : EReal) ∧ 0 ≤ r ∧ r < (2 : ℝ) ^ (125 : ℤ) := by
  obtain ⟨c, hc, c0, c1⟩ := ofBits_448
  obtain ⟨h0, h1⟩ := fold_fin (n := 127) (fun d => Finset.fold max ninf (fun r => FloatOps.absf (F := Ideal) (φ := .f32) (D r d)) Finset.univ)
    (B := (2 : ℝ) ^ (129 : ℤ)) fun d => fold_fin _ fun r => absf_fin (h r d)
  unfold quo
  generalize Finset.fold max ninf (fun d => Finset.fold max ninf (fun r => FloatOps.absf (F := Ideal) (φ := .f32) (D r d)) Finset.univ) Finset.univ = x at *
  induction x using EReal.rec with
  | bot => exact absurd h0 (by simp)
  | top => exact absurd h1 (not_le.2 (EReal.coe_lt_top _))
  | coe x =>
    rw [EReal.coe_le_coe_iff] at h1
    rw [← EReal.coe_zero, EReal.coe_le_coe_iff] at h0
    refine ⟨x * c, by rw [hc, EReal.coe_mul], by positivity, ?_⟩
    calc x * c ≤ (2 : ℝ) ^ (129 : ℤ) * (2 : ℝ) ^ (-8 : ℤ) := by gcongr
      _ < (2 : ℝ) ^ (125 : ℤ) := by norm_num

/-- The reference's exponent of a number. -/
theorem rexp_real (r : ℝ) : rexp (r : EReal) = (((refExp r : ℤ) : ℝ) : EReal) := by
  unfold rexp eref
  rw [ofBits_tiny, ofBits_two, ofBits_one, ofBits_zero]
  show Scalar.select (Ideal.cmp .olt (r : EReal) _) _ _ = _
  unfold Ideal.cmp Scalar.select refExp
  by_cases h : r < (2 : ℝ) ^ (-126 : ℤ)
  · rw [if_pos h]
    simp only [EReal.coe_lt_coe_iff, h]
    simp
  · rw [if_neg h]
    have hp : 0 < r := lt_of_lt_of_le (by positivity) (not_lt.1 h)
    have hl2 : Real.log 2 ≠ 0 := (Real.log_pos (by norm_num)).ne'
    have e1 : Ideal.log (r : EReal) = (Real.log r : EReal) := if_neg (not_le.2 hp)
    have e2 : Ideal.log ((2 : ℝ) : EReal) = (Real.log 2 : EReal) := if_neg (by norm_num)
    have e3 : Ideal.div (Real.log r : EReal) (Real.log 2 : EReal) = ((Real.log r / Real.log 2 : ℝ) : EReal) := by
      rw [Ideal.div, if_neg (by simpa using hl2), ← EReal.coe_inv, ← EReal.coe_mul, div_eq_mul_inv]
    rw [e1, e2, e3]
    simp only [EReal.coe_lt_coe_iff, h]
    simp only [decide_false, BitVec.ofBool_false]
    rw [if_neg (by decide)]
    show (((⌊Real.log r / Real.log 2⌋ : ℤ) : ℝ) : EReal) + ((1 : ℝ) : EReal) = _
    rw [← EReal.coe_add]
    push_cast
    rfl

theorem rup_real (r : ℝ) : rup (r : EReal) = (((2 : ℝ) ^ refExp r : ℝ) : EReal) := by
  unfold rup
  rw [rexp_real, ofBits_two]
  exact congrArg Real.toEReal (Real.rpow_intCast 2 _)

theorem rdown_real (r : ℝ) : rdown (r : EReal) = (((2 : ℝ) ^ (-refExp r) : ℝ) : EReal) := by
  unfold rdown
  rw [rexp_real, ofBits_two, ← EReal.coe_neg, ← Int.cast_neg]
  exact congrArg Real.toEReal (Real.rpow_intCast 2 _)

/-- The scales of a group of finite numbers: the kernel's are the reference's. -/
theorem scl_eq {n : ℕ} (D : Fin (n + 1) → Fin 128 → EReal) (h : ∀ r d, Fin' ((2 : ℝ) ^ (129 : ℤ)) (D r d)) : scl D = rup (quo D) := by
  obtain ⟨r, hr, h0, h1⟩ := quo_real D h
  rw [scl, hr, rup_real, (scales r h1).1]

/-- The codes of a group of finite numbers: the kernel's are the reference's. -/
theorem code_eq {n : ℕ} (D : Fin (n + 1) → Fin 128 → EReal) (h : ∀ r d, Fin' ((2 : ℝ) ^ (129 : ℤ)) (D r d)) (i : Fin (n + 1)) (d : Fin 128) :
    code D i d = clip (D i d * rdown (quo D)) := by
  obtain ⟨r, hr, h0, h1⟩ := quo_real D h
  rw [code, hr, rdown_real, (scales r h1).2]

/-- A product by the inverse of a positive scale is a quotient by it. -/
theorem div_eq (v s : EReal) (h : 0 < s) : v * Ideal.div (Ideal.ofBits .f32 1065353216#32) s = Ideal.div v s := by
  rw [Ideal.div, Ideal.div, if_neg h.ne', if_neg h.ne', ofBits_one, EReal.coe_one, one_mul]

theorem two_pow_128 : (2 : ℝ) ^ (128 : ℤ) + (2 : ℝ) ^ (128 : ℤ) = (2 : ℝ) ^ (129 : ℤ) := by norm_num

end Cert.Lowp
-- ==== Proof.Soft.lean ====
/- One row of the attention, on the extended reals: the kernel's sum over the thirteen blocks of its ring, with powers of two and a
   factor of 256, is the reference's softmax over every key. -/
module

public import proofs.«01_k».proof.Proof.Score
public import proofs.«01_k».proof.Proof.Quant

@[expose] public section

set_option maxRecDepth 16384

noncomputable section

namespace Cert.Lowp

open Idealize.ShloMosaic Cert.AttendIdeal

/-- The scores that a trip keeps: in tile 0 this block's own up to the diagonal and the oldest block's beyond it. -/
def sT (sc : Fin 13 → Fin 128 → Fin 128 → EReal) (j : Fin 12) (r c : Fin 128) : EReal :=
  if j = 0 then (if c.val ≤ r.val then sc 12 r c else sc 0 r c) else sc (Fin.castSucc j) r c

/-- The running maximum over the tiles. -/
def mxT (sc : Fin 13 → Fin 128 → Fin 128 → EReal) (r c : Fin 128) : EReal :=
  max (max (max (max (max (max (max (max (max (max (max (sT sc 0 r c) (sT sc 1 r c)) (sT sc 2 r c)) (sT sc 3 r c)) (sT sc 4 r c)) (sT sc 5 r c)) (sT sc 6 r c)) (sT sc 7 r c)) (sT sc 8 r c)) (sT sc 9 r c)) (sT sc 10 r c)) (sT sc 11 r c)

/-- A row's maximum, less 8. -/
def topT (sc : Fin 13 → Fin 128 → Fin 128 → EReal) (r : Fin 128) : EReal :=
  Finset.fold max ninf (fun c => mxT sc r c) Finset.univ - Ideal.ofBits .f32 1090519040#32

/-- The probabilities, times 256 and not yet divided by their sum. -/
def yT (sc : Fin 13 → Fin 128 → Fin 128 → EReal) (j : Fin 12) (r c : Fin 128) : EReal :=
  FloatOps.exp2 (F := Ideal) (φ := .f32) (sT sc j r c - topT sc r)

/-- One tile of probabilities' codes against one tile of values. -/
def pT (y : Fin 128 → EReal) (V : Fin 128 → Fin 128 → EReal) (d : Fin 128) : EReal := ∑ c : Fin 128, clip (y c) * V c d

/-- The tile that a trip stores. -/
def outT (sc V : Fin 13 → Fin 128 → Fin 128 → EReal) (vs : Fin 128 → EReal) (r d : Fin 128) : EReal :=
  (((((((pT (fun c => if c.val ≤ r.val then 0 else yT sc 0 r c) (V 0) d + pT (fun c => if c.val ≤ r.val then yT sc 0 r c else 0) (V 12) d)
    + (pT (yT sc 1 r) (V 1) d + pT (yT sc 2 r) (V 2) d)) + (pT (yT sc 3 r) (V 3) d + pT (yT sc 4 r) (V 4) d))
    + (pT (yT sc 5 r) (V 5) d + pT (yT sc 6 r) (V 6) d)) + (pT (yT sc 7 r) (V 7) d + pT (yT sc 8 r) (V 8) d))
    + (pT (yT sc 9 r) (V 9) d + pT (yT sc 10 r) (V 10) d)) + pT (yT sc 11 r) (V 11) d) * vs d
    * Ideal.div (Ideal.ofBits .f32 1065353216#32)
      (∑ c : Fin 128, (yT sc 0 r c + yT sc 1 r c + yT sc 2 r c + yT sc 3 r c + yT sc 4 r c + yT sc 5 r c + yT sc 6 r c + yT sc 7 r c + yT sc 8 r c + yT sc 9 r c + yT sc 10 r c + yT sc 11 r c))

/-! ## The tiles as one family -/

/-- Which of the thirteen blocks tile `j` takes its score from. -/
def wT (j : Fin 12) (r c : Fin 128) : Fin 13 := if j = 0 then (if c.val ≤ r.val then 12 else 0) else Fin.castSucc j

theorem sT_eq (sc : Fin 13 → Fin 128 → Fin 128 → EReal) (j : Fin 12) (r c : Fin 128) : sT sc j r c = sc (wT j r c) r c := by
  unfold sT wT
  by_cases h : j = 0
  · rw [if_pos h, if_pos h]; split <;> rfl
  · rw [if_neg h, if_neg h]

theorem mxT_le (sc : Fin 13 → Fin 128 → Fin 128 → EReal) (r c : Fin 128) (b : EReal) : mxT sc r c ≤ b ↔ ∀ j, sT sc j r c ≤ b := by
  unfold mxT
  simp only [max_le_iff]
  constructor
  · rintro ⟨⟨⟨⟨⟨⟨⟨⟨⟨⟨⟨h0, h1⟩, h2⟩, h3⟩, h4⟩, h5⟩, h6⟩, h7⟩, h8⟩, h9⟩, h10⟩, h11⟩ j
    fin_cases j
    exacts [h0, h1, h2, h3, h4, h5, h6, h7, h8, h9, h10, h11]
  · intro h
    exact ⟨⟨⟨⟨⟨⟨⟨⟨⟨⟨⟨h 0, h 1⟩, h 2⟩, h 3⟩, h 4⟩, h 5⟩, h 6⟩, h 7⟩, h 8⟩, h 9⟩, h 10⟩, h 11⟩

theorem sum12 (f : Fin 12 → EReal) : f 0 + f 1 + f 2 + f 3 + f 4 + f 5 + f 6 + f 7 + f 8 + f 9 + f 10 + f 11 = ∑ j, f j := by
  simp only [Fin.sum_univ_castSucc, Fin.sum_univ_zero, zero_add]
  rfl

theorem max_448 : ∃ c : ℝ, 0 ≤ c ∧ Ideal.ofBits .f32 1138753536#32 = (c : EReal) :=
  ⟨_, by positivity, ofBits_real (c := 135) (f := 6291456) rfl rfl rfl (by omega) (by omega)⟩

theorem min_448 : ∃ c : ℝ, c ≤ 0 ∧ Ideal.ofBits .f32 3286237184#32 = (c : EReal) := by
  refine ⟨-((2 ^ 23 + (6291456 : ℕ) : ℝ) * (2 : ℝ) ^ ((135 : ℤ) - 150)), neg_nonpos.2 (by positivity), ?_⟩
  show Ideal.ieee 8 23 3286237184#32 = _
  unfold Ideal.ieee
  rw [show ((3286237184#32).extractLsb' (8 + 23) 1 == 1#1) = true from rfl, show ((3286237184#32).extractLsb' 23 8).toNat = 135 from rfl,
    show ((3286237184#32).extractLsb' 0 23).toNat = 6291456 from rfl]
  dsimp only
  rw [if_neg (by omega), if_neg (by omega), if_pos rfl]
  norm_num

/-- A clipped number is finite. -/
theorem clip_real (x : EReal) : ∃ a : ℝ, clip x = (a : EReal) := by
  obtain ⟨hi, h0, eh⟩ := max_448
  obtain ⟨lo, l0, el⟩ := min_448
  unfold clip
  rw [eh, el]
  induction x using EReal.rec with
  | bot => exact ⟨min hi lo, by rw [max_eq_left bot_le, Monotone.map_min (f := Real.toEReal) EReal.coe_strictMono.monotone]⟩
  | top => exact ⟨hi, by rw [max_eq_right le_top, min_eq_left le_top]⟩
  | coe x => exact ⟨min hi (max lo x), by rw [Monotone.map_min (f := Real.toEReal) EReal.coe_strictMono.monotone, Monotone.map_max (f := Real.toEReal) EReal.coe_strictMono.monotone]⟩

theorem clip_zero : clip 0 = 0 := by
  obtain ⟨hi, h0, eh⟩ := max_448
  obtain ⟨lo, l0, el⟩ := min_448
  unfold clip
  rw [eh, el, max_eq_right (by exact_mod_cast l0), min_eq_right (by exact_mod_cast h0)]

theorem outT_eq (sc V : Fin 13 → Fin 128 → Fin 128 → EReal) (vs : Fin 128 → EReal) (r d : Fin 128) :
    outT sc V vs r d = (∑ j : Fin 12, ∑ c : Fin 128, clip (yT sc j r c) * V (wT j r c) c d) * vs d
      * Ideal.div (Ideal.ofBits .f32 1065353216#32) (∑ c : Fin 128, ∑ j : Fin 12, yT sc j r c) := by
  have e0 : pT (fun c => if c.val ≤ r.val then 0 else yT sc 0 r c) (V 0) d + pT (fun c => if c.val ≤ r.val then yT sc 0 r c else 0) (V 12) d
      = ∑ c : Fin 128, clip (yT sc 0 r c) * V (wT 0 r c) c d := by
    unfold pT
    rw [← Finset.sum_add_distrib]
    refine Finset.sum_congr rfl fun c _ => ?_
    unfold wT
    dsimp only
    by_cases h : c.val ≤ r.val
    · rw [if_pos rfl, if_pos h, if_pos h, if_pos h, clip_zero, zero_mul, zero_add]
    · rw [if_pos rfl, if_neg h, if_neg h, if_neg h, clip_zero, zero_mul, add_zero]
  have e (j : Fin 12) (h : j ≠ 0) : pT (yT sc j r) (V (Fin.castSucc j)) d = ∑ c : Fin 128, clip (yT sc j r c) * V (wT j r c) c d := by
    unfold pT wT
    simp only [if_neg h]
  unfold outT
  rw [e0, show pT (yT sc 1 r) (V 1) d = _ from e 1 (by decide), show pT (yT sc 2 r) (V 2) d = _ from e 2 (by decide),
    show pT (yT sc 3 r) (V 3) d = _ from e 3 (by decide), show pT (yT sc 4 r) (V 4) d = _ from e 4 (by decide),
    show pT (yT sc 5 r) (V 5) d = _ from e 5 (by decide), show pT (yT sc 6 r) (V 6) d = _ from e 6 (by decide),
    show pT (yT sc 7 r) (V 7) d = _ from e 7 (by decide), show pT (yT sc 8 r) (V 8) d = _ from e 8 (by decide),
    show pT (yT sc 9 r) (V 9) d = _ from e 9 (by decide), show pT (yT sc 10 r) (V 10) d = _ from e 10 (by decide),
    show pT (yT sc 11 r) (V 11) d = _ from e 11 (by decide)]
  rw [← sum12 (fun j => ∑ c : Fin 128, clip (yT sc j r c) * V (wT j r c) c d)]
  refine congrArg₂ (fun a b : EReal => a * vs d * Ideal.div (Ideal.ofBits .f32 1065353216#32) b) ?_ ?_
  · simp only [add_assoc]
  · exact Finset.sum_congr rfl fun c _ => sum12 (fun j => yT sc j r c)

/-! ## The softmax -/

/-- Whether tile `j`'s key for column `c` exists, at block `n`. -/
def live (n r : Fin 128) (p : Fin 12 × Fin 128) : Prop := 12 ≤ n.val + (wT p.1 r p.2).val

/-- The key of the `w`-th block's row `c`, at block `n`. -/
def keyAt (n : Fin 128) (w : Fin 13) (c : Fin 128) : Fin 16384 := ⟨128 * (n.val + w.val - 12) + c.val, by omega⟩

/-- Whether a query sees a key. -/
def sees (n r : Fin 128) (κ : Fin 16384) : Prop := κ.val ≤ 128 * n.val + r.val ∧ 128 * n.val + r.val < κ.val + 1536

theorem wT_val (j : Fin 12) (r c : Fin 128) : (wT j r c).val = if j.val = 0 then (if c.val ≤ r.val then 12 else 0) else j.val := by
  unfold wT
  by_cases h : j = 0
  · subst h; rw [if_pos rfl, if_pos (show (0 : Fin 12).val = 0 from rfl)]; split <;> rfl
  · rw [if_neg h, if_neg (fun q : j.val = 0 => h (Fin.ext q))]; rfl

theorem key_inj (n r : Fin 128) (p q : Fin 12 × Fin 128) (hp : live n r p) (hq : live n r q)
    (h : keyAt n (wT p.1 r p.2) p.2 = keyAt n (wT q.1 r q.2) q.2) : p = q := by
  obtain ⟨j, c⟩ := p
  obtain ⟨j', c'⟩ := q
  have h' : 128 * (n.val + (wT j r c).val - 12) + c.val = 128 * (n.val + (wT j' r c').val - 12) + c'.val := congrArg Fin.val h
  unfold live at hp hq
  dsimp only at hp hq
  have ec : c = c' := Fin.ext (by omega)
  subst ec
  have ew : (wT j r c).val = (wT j' r c).val := by omega
  rw [wT_val, wT_val] at ew
  have ej : j = j' := Fin.ext (by have := j.isLt; have := j'.isLt; split at ew <;> split at ew <;> (try split at ew) <;> (try split at ew) <;> omega)
  rw [ej]

theorem key_sees (n r : Fin 128) (p : Fin 12 × Fin 128) (hp : live n r p) : sees n r (keyAt n (wT p.1 r p.2) p.2) := by
  obtain ⟨j, c⟩ := p
  unfold live at hp
  have h := wT_val j r c
  have hj := j.isLt
  unfold sees keyAt
  dsimp only at hp ⊢
  split at h
  · split at h <;> constructor <;> omega
  · constructor <;> omega

theorem sees_key (n r : Fin 128) (κ : Fin 16384) (h : sees n r κ) : ∃ p, live n r p ∧ keyAt n (wT p.1 r p.2) p.2 = κ := by
  unfold sees at h
  have hk := κ.isLt
  let c : Fin 128 := ⟨κ.val % 128, by omega⟩
  have hc : c.val = κ.val % 128 := rfl
  let w : ℕ := κ.val / 128 + 12 - n.val
  by_cases hw : w = 12 ∨ w = 0
  · refine ⟨(0, c), ?_, ?_⟩
    · unfold live; rw [wT_val]; dsimp only
      rw [if_pos (show (0 : Fin 12).val = 0 from rfl)]
      split <;> omega
    · refine Fin.ext ?_
      show 128 * (n.val + (wT 0 r c).val - 12) + c.val = κ.val
      rw [wT_val, if_pos (show (0 : Fin 12).val = 0 from rfl)]
      split <;> omega
  · have e : (wT ⟨w, by omega⟩ r c).val = w := by rw [wT_val]; dsimp only; rw [if_neg (by omega)]
    refine ⟨(⟨w, by omega⟩, c), ?_, ?_⟩
    · unfold live; dsimp only; omega
    · refine Fin.ext ?_
      show 128 * (n.val + (wT ⟨w, by omega⟩ r c).val - 12) + c.val = κ.val
      omega

/-- Two sums agree when what does not vanish corresponds. -/
theorem sum_keys (n r : Fin 128) (f : Fin 12 × Fin 128 → EReal) (g : Fin 16384 → EReal) (h0 : ∀ p, ¬ live n r p → f p = 0)
    (h1 : ∀ κ, ¬ sees n r κ → g κ = 0) (h : ∀ p, live n r p → f p = g (keyAt n (wT p.1 r p.2) p.2)) : ∑ p, f p = ∑ κ, g κ := by
  classical
  rw [← Finset.sum_filter_of_ne (s := Finset.univ) (f := f) (p := live n r) fun p _ hne => by by_contra hn; exact hne (h0 p hn)]
  refine Finset.sum_of_injOn (fun p => keyAt n (wT p.1 r p.2) p.2) ?_ (fun _ _ => Finset.mem_coe.2 (Finset.mem_univ _)) ?_ ?_
  · intro p hp q hq e
    exact key_inj n r p q (Finset.mem_filter.1 (Finset.mem_coe.1 hp)).2 (Finset.mem_filter.1 (Finset.mem_coe.1 hq)).2 e
  · intro κ _ hκ
    refine h1 κ fun hs => hκ ?_
    obtain ⟨p, hp, e⟩ := sees_key n r κ hs
    exact ⟨p, Finset.mem_coe.2 (Finset.mem_filter.2 ⟨Finset.mem_univ _, hp⟩), e⟩
  · intro p hp
    exact h p (Finset.mem_filter.1 hp).2

theorem ofBits_8 : Ideal.ofBits .f32 1090519040#32 = ((8 : ℝ) : EReal) := by
  rw [show Ideal.ofBits .f32 1090519040#32 = pat (BitVec.ofNat 32 130) from rfl, pat_ofNat 130 (by omega) (by omega)]
  norm_num

theorem ofBits_256 : Ideal.ofBits .f32 0x43800000#32 = ((256 : ℝ) : EReal) := by
  rw [show Ideal.ofBits .f32 0x43800000#32 = pat (BitVec.ofNat 32 135) from rfl, pat_ofNat 135 (by omega) (by omega)]
  norm_num

theorem ofBits_inv256 : Ideal.ofBits .f32 0x3B800000#32 = (((256 : ℝ)⁻¹ : ℝ) : EReal) := by
  rw [show Ideal.ofBits .f32 0x3B800000#32 = pat (BitVec.ofNat 32 119) from rfl, pat_ofNat 119 (by omega) (by omega)]
  congr 1
  norm_num

theorem ofBits_128 : Ideal.ofBits .f32 0x43000000#32 = ((128 : ℝ) : EReal) := by
  rw [show Ideal.ofBits .f32 0x43000000#32 = pat (BitVec.ofNat 32 134) from rfl, pat_ofNat 134 (by omega) (by omega)]
  norm_num

/-- `2 ^ ((s - M) / log 2 + 8) = 256 e ^ (s - M)`. -/
theorem rpow_exp (s M : ℝ) : Real.rpow 2 (s / Real.log 2 - (M / Real.log 2 - 8)) = 256 * Real.exp (s - M) := by
  have hl : Real.log 2 ≠ 0 := (Real.log_pos (by norm_num)).ne'
  show (2 : ℝ) ^ (s / Real.log 2 - (M / Real.log 2 - 8)) = _
  rw [show s / Real.log 2 - (M / Real.log 2 - 8) = (s - M) / Real.log 2 + 8 by ring, Real.rpow_add (by norm_num),
    Real.rpow_def_of_pos (by norm_num), mul_div_cancel₀ _ hl, mul_comm]
  norm_num

section Row

variable (n r : Fin 128) (sc V : Fin 13 → Fin 128 → Fin 128 → EReal) (vs : Fin 128 → EReal) (σ : Fin 16384 → ℝ) (v : Fin 16384 → Fin 128 → EReal)

/-- What the kernel's scores and values at block `n` are, of the reference's. -/
structure Row : Prop where
  alive : ∀ w c, 12 ≤ n.val + w.val → sc w r c = ((σ (keyAt n w c) / Real.log 2 : ℝ) : EReal)
  dead : ∀ w c, n.val + w.val < 12 → sc w r c = ⊥
  vals : ∀ w c d, 12 ≤ n.val + w.val → V w c d = v (keyAt n w c) d

/-- The reference's masked score. -/
def mS (κ : Fin 16384) : EReal := if κ.val ≤ 128 * n.val + r.val ∧ 128 * n.val + r.val < κ.val + 1536 then (σ κ : EReal) else ninf

theorem mS_sees (κ : Fin 16384) (h : sees n r κ) : mS n r σ κ = (σ κ : EReal) := if_pos h

theorem mS_not (κ : Fin 16384) (h : ¬ sees n r κ) : mS n r σ κ = ninf := if_neg h

/-- The reference's probability. -/
def pS (κ : Fin 16384) : EReal := FloatOps.exp (F := Ideal) (φ := .f32) (mS n r σ κ - Finset.fold max ninf (fun κ' => mS n r σ κ') Finset.univ)

theorem exists_max : ∃ M : ℝ, (∀ κ, sees n r κ → σ κ ≤ M) ∧ ∃ κ, sees n r κ ∧ σ κ = M := by
  classical
  have hq : sees n r ⟨128 * n.val + r.val, by omega⟩ := ⟨le_refl _, by show _ < 128 * n.val + r.val + 1536; omega⟩
  obtain ⟨κ, hκ, h⟩ := Finset.exists_max_image (Finset.univ.filter (sees n r)) σ ⟨_, Finset.mem_filter.2 ⟨Finset.mem_univ _, hq⟩⟩
  exact ⟨σ κ, fun κ' h' => h κ' (Finset.mem_filter.2 ⟨Finset.mem_univ _, h'⟩), κ, (Finset.mem_filter.1 hκ).2, rfl⟩

variable {n r σ} {M : ℝ} (hM : ∀ κ, sees n r κ → σ κ ≤ M) (hx : ∃ κ, sees n r κ ∧ σ κ = M)
include hM hx

theorem foldS : Finset.fold max ninf (fun κ' => mS n r σ κ') Finset.univ = (M : EReal) := by
  refine le_antisymm ((Finset.fold_max_le _).2 ⟨by rw [ninf_eq]; exact bot_le, fun κ _ => ?_⟩) ?_
  · unfold mS
    split
    · next h => exact EReal.coe_le_coe_iff.2 (hM κ h)
    · rw [ninf_eq]; exact bot_le
  · obtain ⟨κ, hs, e⟩ := hx
    refine (Finset.le_fold_max _).2 (.inr ⟨κ, Finset.mem_univ _, ?_⟩)
    rw [mS_sees _ _ _ _ hs, e]

theorem pS_sees (κ : Fin 16384) (h : sees n r κ) : pS n r σ κ = ((Real.exp (σ κ - M) : ℝ) : EReal) := by
  unfold pS
  rw [foldS hM hx]
  rw [mS_sees _ _ _ _ h, ← EReal.coe_sub]
  rfl

theorem pS_not (κ : Fin 16384) (h : ¬ sees n r κ) : pS n r σ κ = 0 := by
  unfold pS
  rw [foldS hM hx]
  rw [mS_not _ _ _ _ h, ninf_eq, EReal.bot_sub]
  rfl

variable {sc V v} (R : Row n r sc V σ v)
include R

theorem topS : topT sc r = ((M / Real.log 2 - 8 : ℝ) : EReal) := by
  have hl : 0 < Real.log 2 := Real.log_pos (by norm_num)
  unfold topT
  rw [ofBits_8, EReal.coe_sub]
  refine congrArg (fun a : EReal => a - ((8 : ℝ) : EReal)) ?_
  refine le_antisymm ((Finset.fold_max_le _).2 ⟨by rw [ninf_eq]; exact bot_le, fun c _ => (mxT_le sc r c _).2 fun j => ?_⟩) ?_
  · rw [sT_eq]
    by_cases h : live n r (j, c)
    · rw [R.alive _ _ h, EReal.coe_le_coe_iff]
      exact div_le_div_of_nonneg_right (hM _ (key_sees n r (j, c) h)) hl.le
    · rw [R.dead _ _ (Nat.lt_of_not_le h)]; exact bot_le
  · obtain ⟨κ, hs, e⟩ := hx
    obtain ⟨⟨j, c⟩, hp, ek⟩ := sees_key n r κ hs
    refine (Finset.le_fold_max _).2 (.inr ⟨c, Finset.mem_univ _, le_trans (le_of_eq ?_) ((mxT_le sc r c _).1 le_rfl j)⟩)
    rw [sT_eq, R.alive _ _ hp, show keyAt n (wT j r c) c = κ from ek, e]

theorem y_live (p : Fin 12 × Fin 128) (h : live n r p) : yT sc p.1 r p.2 = ((256 * Real.exp (σ (keyAt n (wT p.1 r p.2) p.2) - M) : ℝ) : EReal) := by
  unfold yT
  rw [sT_eq, R.alive _ _ h, topS hM hx R, ← EReal.coe_sub, ← rpow_exp]
  rfl

theorem y_dead (p : Fin 12 × Fin 128) (h : ¬ live n r p) : yT sc p.1 r p.2 = 0 := by
  unfold yT
  rw [sT_eq, R.dead _ _ (Nat.lt_of_not_le h), topS hM hx R, EReal.bot_sub]
  rfl

end Row

theorem coe_sum {ι : Type} (S : Finset ι) (f : ι → ℝ) : ∑ κ ∈ S, ((f κ : ℝ) : EReal) = ((∑ κ ∈ S, f κ : ℝ) : EReal) :=
  (map_sum (⟨⟨Real.toEReal, EReal.coe_zero⟩, EReal.coe_add⟩ : ℝ →+ EReal) f S).symm

/-- A factor of 256 in the codes and in the sum. -/
theorem last (A u : EReal) (L : ℝ) (hL : 0 < L) :
    A * u * Ideal.div (Ideal.ofBits .f32 1065353216#32) ((256 * L : ℝ) : EReal) = Ideal.div (A * Ideal.ofBits .f32 0x3B800000#32 * u) (L : EReal) := by
  have h1 : (L : EReal) ≠ 0 := by rw [← EReal.coe_zero]; exact fun h => hL.ne' (EReal.coe_eq_coe_iff.1 h)
  have h2 : ((256 * L : ℝ) : EReal) ≠ 0 := by rw [← EReal.coe_zero]; exact fun h => (by positivity : (256 * L) ≠ 0) (EReal.coe_eq_coe_iff.1 h)
  rw [Ideal.div, Ideal.div, if_neg h1, if_neg h2, ofBits_one, ofBits_inv256, EReal.coe_one, one_mul, ← EReal.coe_inv, ← EReal.coe_inv, mul_inv, EReal.coe_mul,
    mul_right_comm A u, ← mul_assoc]
  exact mul_right_comm _ _ _

section Eq

variable {n r : Fin 128} {sc V : Fin 13 → Fin 128 → Fin 128 → EReal} {σ : Fin 16384 → ℝ} {v : Fin 16384 → Fin 128 → EReal} (R : Row n r sc V σ v)
include R

theorem pv_eq (d : Fin 128) : ∑ j : Fin 12, ∑ c : Fin 128, clip (yT sc j r c) * V (wT j r c) c d
    = ∑ κ : Fin 16384, v κ d * clip (pS n r σ κ * Ideal.ofBits .f32 0x43800000#32) := by
  obtain ⟨M, hM, hx⟩ := exists_max n r σ
  rw [← Fintype.sum_prod_type' (f := fun j c => clip (yT sc j r c) * V (wT j r c) c d)]
  refine sum_keys n r _ _ (fun p h => ?_) (fun κ h => ?_) (fun p h => ?_)
  · rw [y_dead hM hx R p h, clip_zero, zero_mul]
  · rw [pS_not hM hx κ h, zero_mul, clip_zero, mul_zero]
  · rw [y_live hM hx R p h, R.vals _ _ _ h, pS_sees hM hx _ (key_sees n r p h), ofBits_256, ← EReal.coe_mul, mul_comm (Real.exp _)]
    exact mul_comm _ _

theorem l_eq : ∃ L : ℝ, 0 < L ∧ ∑ κ : Fin 16384, pS n r σ κ = (L : EReal) ∧ ∑ c : Fin 128, ∑ j : Fin 12, yT sc j r c = ((256 * L : ℝ) : EReal) := by
  classical
  obtain ⟨M, hM, hx⟩ := exists_max n r σ
  let q : Fin 16384 → ℝ := fun κ => if sees n r κ then Real.exp (σ κ - M) else 0
  have q0 : ∀ κ, 0 ≤ q κ := fun κ => by dsimp only [q]; split; exacts [(Real.exp_pos _).le, le_rfl]
  have pq : ∀ κ, pS n r σ κ = (q κ : EReal) := fun κ => by
    dsimp only [q]
    split
    · next h => exact pS_sees hM hx κ h
    · next h => exact pS_not hM hx κ h
  refine ⟨∑ κ : Fin 16384, q κ, ?_, ?_, ?_⟩
  · obtain ⟨κ, hs, _⟩ := hx
    refine Finset.sum_pos' (fun κ _ => q0 κ) ⟨κ, Finset.mem_univ _, ?_⟩
    dsimp only [q]
    rw [if_pos hs]
    exact Real.exp_pos _
  · exact (Finset.sum_congr rfl fun κ _ => pq κ).trans (coe_sum _ q)
  · rw [Finset.sum_comm, ← Fintype.sum_prod_type' (f := fun j c => yT sc j r c)]
    refine (sum_keys n r _ (fun κ => ((256 * q κ : ℝ) : EReal)) (fun p h => y_dead hM hx R p h) (fun κ h => ?_) (fun p h => ?_)).trans ?_
    · dsimp only [q]; rw [if_neg h, mul_zero, EReal.coe_zero]
    · dsimp only [q]; rw [y_live hM hx R p h, if_pos (key_sees n r p h)]
    · rw [coe_sum, Finset.mul_sum]

/-- The kernel's row is the reference's. -/
theorem row_eq (vs : Fin 128 → EReal) (d : Fin 128) :
    outT sc V vs r d = Ideal.div ((∑ κ : Fin 16384, v κ d * clip (pS n r σ κ * Ideal.ofBits .f32 0x43800000#32)) * Ideal.ofBits .f32 0x3B800000#32 * vs d) (∑ κ : Fin 16384, pS n r σ κ) := by
  obtain ⟨L, hL, e2, e3⟩ := l_eq R
  rw [outT_eq, pv_eq R d, e2, e3]
  exact last _ _ L hL

end Eq

end Cert.Lowp
-- ==== Proof.TileRead.lean ====
/- One head's trip of the attention, read entry by entry: the tile of the output that it stores. -/
module

public import proofs.«01_k».proof.Proof.Tile
public import proofs.«01_k».proof.Proof.Soft

@[expose] public section

set_option maxRecDepth 16384

noncomputable section

namespace Cert.AttendIdeal.Hand

open Cert.AttendIdeal Cert.AttendIdeal.Gen Cert.Lowp
open Idealize.ShloMosaic Idealize.ShloMosaic.TcCoe

theorem sel_read {α : Type} (X Y : S128x128.Idx → α) (r c : Fin 128) : select k0_pay1 X Y (ix2 r c) = if c.val ≤ r.val then X (ix2 r c) else Y (ix2 r c) := by
  have e : select k0_pay1 X Y (ix2 r c) = if k0_pay1 (ix2 r c) = 1#1 then X (ix2 r c) else Y (ix2 r c) := rfl
  rw [e, pay1_read]
  by_cases h : c.val ≤ r.val <;> simp [h]

section Words

variable (i : grid0.Coords) (k : Fin 64)
  (arg1 arg2 arg3 : Memref sig .tc .vmem S128x8192 .bf16) (arg4 arg5 : Memref sig .tc .vmem S64x128 .f32)
  (arg13 arg14 : Memref sig .tc .vmem S64x1664x128 .fp8e4m3) (arg15 : Memref sig .tc .vmem S64x16x128 .f32)
  (arg16 : Memref sig .tc .vmem S128x1536 .f32) (arg0 : BitVec 32) (v43 : IVec S1x128 32)
  (X1 : arg1.view.ty.Contents (Elt Ideal)) (X2 : arg2.view.ty.Contents (Elt Ideal)) (X3 : arg3.view.ty.Contents (Elt Ideal))
  (X4 : arg4.view.ty.Contents (Elt Ideal)) (X5 : arg5.view.ty.Contents (Elt Ideal))
  (f13 : arg13.view.ty.Contents (Elt Ideal)) (f14 : arg14.view.ty.Contents (Elt Ideal)) (f15 : arg15.view.ty.Contents (Elt Ideal))

/-- The scores of the thirteen blocks. -/
def scW (j : Fin 13) (r c : Fin 128) : EReal :=
  score (fun r d => trip.sl.v146 (F := Ideal) arg1 X1 k (ix2 r d)) (fun d => trip.sl.r_1 (F := Ideal) arg1 X1 k (ix2 0 d)) (trip.sl.v447 (F := Ideal) arg1 X1 k (ix2 0 c))
    (deadV arg0 j.val) (fun c d => (kl i k arg2 arg4 arg13 X2 X4 f13 j) (ix3 0 c d)) (fun c => (sl i k arg2 arg4 arg15 v43 X2 X4 f15 j) (ix3 0 0 c)) r c

/-- The values of the thirteen blocks. -/
def vlW (j : Fin 13) (c d : Fin 128) : EReal := (vl i k arg3 arg5 arg14 X3 X5 f14 j) (ix3 0 c d)

theorem s_r_5 (r c : Fin 128) : (trip.sl.r_5 (F := Ideal) i arg1 arg2 arg4 arg13 arg15 arg0 v43 X1 X2 X4 k f13 f15) (ix2 r c) = (scW i k arg1 arg2 arg4 arg13 arg15 arg0 v43 X1 X2 X4 f13 f15 0 r c) := by
  rw [w_r_5]; exact loV_read _ _ _ _ _ _ _ r c
theorem s_v456 (r c : Fin 128) : (trip.sl.v456 (F := Ideal) i arg1 arg2 arg4 arg13 arg15 arg0 v43 X1 X2 X4 k f13 f15) (ix2 r c) = (scW i k arg1 arg2 arg4 arg13 arg15 arg0 v43 X1 X2 X4 f13 f15 12 r c) := by
  rw [w_v456]; exact hiV_read _ _ _ _ _ _ _ r c
theorem s_v491 (r c : Fin 128) : (trip.sl.v491 (F := Ideal) i arg1 arg2 arg4 arg13 arg15 arg0 v43 X1 X2 X4 k f13 f15) (ix2 r c) = (scW i k arg1 arg2 arg4 arg13 arg15 arg0 v43 X1 X2 X4 f13 f15 1 r c) := by
  rw [w_v491]; exact loV_read _ _ _ _ _ _ _ r c
theorem s_v508 (r c : Fin 128) : (trip.sl.v508 (F := Ideal) i arg1 arg2 arg4 arg13 arg15 arg0 v43 X1 X2 X4 k f13 f15) (ix2 r c) = (scW i k arg1 arg2 arg4 arg13 arg15 arg0 v43 X1 X2 X4 f13 f15 2 r c) := by
  rw [w_v508]; exact hiV_read _ _ _ _ _ _ _ r c
theorem s_v547 (r c : Fin 128) : (trip.sl.v547 (F := Ideal) i arg1 arg2 arg4 arg13 arg15 arg0 v43 X1 X2 X4 k f13 f15) (ix2 r c) = (scW i k arg1 arg2 arg4 arg13 arg15 arg0 v43 X1 X2 X4 f13 f15 3 r c) := by
  rw [w_v547]; exact loV_read _ _ _ _ _ _ _ r c
theorem s_v564 (r c : Fin 128) : (trip.sl.v564 (F := Ideal) i arg1 arg2 arg4 arg13 arg15 arg0 v43 X1 X2 X4 k f13 f15) (ix2 r c) = (scW i k arg1 arg2 arg4 arg13 arg15 arg0 v43 X1 X2 X4 f13 f15 4 r c) := by
  rw [w_v564]; exact hiV_read _ _ _ _ _ _ _ r c
theorem s_v603 (r c : Fin 128) : (trip.sl.v603 (F := Ideal) i arg1 arg2 arg4 arg13 arg15 arg0 v43 X1 X2 X4 k f13 f15) (ix2 r c) = (scW i k arg1 arg2 arg4 arg13 arg15 arg0 v43 X1 X2 X4 f13 f15 5 r c) := by
  rw [w_v603]; exact loV_read _ _ _ _ _ _ _ r c
theorem s_v620 (r c : Fin 128) : (trip.sl.v620 (F := Ideal) i arg1 arg2 arg4 arg13 arg15 arg0 v43 X1 X2 X4 k f13 f15) (ix2 r c) = (scW i k arg1 arg2 arg4 arg13 arg15 arg0 v43 X1 X2 X4 f13 f15 6 r c) := by
  rw [w_v620]; exact hiV_read _ _ _ _ _ _ _ r c
theorem s_v659 (r c : Fin 128) : (trip.sl.v659 (F := Ideal) i arg1 arg2 arg4 arg13 arg15 arg0 v43 X1 X2 X4 k f13 f15) (ix2 r c) = (scW i k arg1 arg2 arg4 arg13 arg15 arg0 v43 X1 X2 X4 f13 f15 7 r c) := by
  rw [w_v659]; exact loV_read _ _ _ _ _ _ _ r c
theorem s_v676 (r c : Fin 128) : (trip.sl.v676 (F := Ideal) i arg1 arg2 arg4 arg13 arg15 arg0 v43 X1 X2 X4 k f13 f15) (ix2 r c) = (scW i k arg1 arg2 arg4 arg13 arg15 arg0 v43 X1 X2 X4 f13 f15 8 r c) := by
  rw [w_v676]; exact hiV_read _ _ _ _ _ _ _ r c
theorem s_v715 (r c : Fin 128) : (trip.sl.v715 (F := Ideal) i arg1 arg2 arg4 arg13 arg15 arg0 v43 X1 X2 X4 k f13 f15) (ix2 r c) = (scW i k arg1 arg2 arg4 arg13 arg15 arg0 v43 X1 X2 X4 f13 f15 9 r c) := by
  rw [w_v715]; exact loV_read _ _ _ _ _ _ _ r c
theorem s_v732 (r c : Fin 128) : (trip.sl.v732 (F := Ideal) i arg1 arg2 arg4 arg13 arg15 arg0 v43 X1 X2 X4 k f13 f15) (ix2 r c) = (scW i k arg1 arg2 arg4 arg13 arg15 arg0 v43 X1 X2 X4 f13 f15 10 r c) := by
  rw [w_v732]; exact hiV_read _ _ _ _ _ _ _ r c
theorem s_v763 (r c : Fin 128) : (trip.sl.v763 (F := Ideal) i arg1 arg2 arg4 arg13 arg15 arg0 v43 X1 X2 X4 k f13 f15) (ix2 r c) = (scW i k arg1 arg2 arg4 arg13 arg15 arg0 v43 X1 X2 X4 f13 f15 11 r c) := by
  rw [w_v763]; exact oneV_read _ _ _ _ _ _ r c
theorem t_v457 (r c : Fin 128) : (trip.sl.v457 (F := Ideal) i arg1 arg2 arg4 arg13 arg15 arg0 v43 X1 X2 X4 k f13 f15) (ix2 r c) = sT (scW i k arg1 arg2 arg4 arg13 arg15 arg0 v43 X1 X2 X4 f13 f15) 0 r c := by
  rw [w_v457, sel_read, s_v456, s_r_5]; rfl
theorem t_v491 (r c : Fin 128) : (trip.sl.v491 (F := Ideal) i arg1 arg2 arg4 arg13 arg15 arg0 v43 X1 X2 X4 k f13 f15) (ix2 r c) = sT (scW i k arg1 arg2 arg4 arg13 arg15 arg0 v43 X1 X2 X4 f13 f15) 1 r c := by
  rw [s_v491]; rfl
theorem t_v508 (r c : Fin 128) : (trip.sl.v508 (F := Ideal) i arg1 arg2 arg4 arg13 arg15 arg0 v43 X1 X2 X4 k f13 f15) (ix2 r c) = sT (scW i k arg1 arg2 arg4 arg13 arg15 arg0 v43 X1 X2 X4 f13 f15) 2 r c := by
  rw [s_v508]; rfl
theorem t_v547 (r c : Fin 128) : (trip.sl.v547 (F := Ideal) i arg1 arg2 arg4 arg13 arg15 arg0 v43 X1 X2 X4 k f13 f15) (ix2 r c) = sT (scW i k arg1 arg2 arg4 arg13 arg15 arg0 v43 X1 X2 X4 f13 f15) 3 r c := by
  rw [s_v547]; rfl
theorem t_v564 (r c : Fin 128) : (trip.sl.v564 (F := Ideal) i arg1 arg2 arg4 arg13 arg15 arg0 v43 X1 X2 X4 k f13 f15) (ix2 r c) = sT (scW i k arg1 arg2 arg4 arg13 arg15 arg0 v43 X1 X2 X4 f13 f15) 4 r c := by
  rw [s_v564]; rfl
theorem t_v603 (r c : Fin 128) : (trip.sl.v603 (F := Ideal) i arg1 arg2 arg4 arg13 arg15 arg0 v43 X1 X2 X4 k f13 f15) (ix2 r c) = sT (scW i k arg1 arg2 arg4 arg13 arg15 arg0 v43 X1 X2 X4 f13 f15) 5 r c := by
  rw [s_v603]; rfl
theorem t_v620 (r c : Fin 128) : (trip.sl.v620 (F := Ideal) i arg1 arg2 arg4 arg13 arg15 arg0 v43 X1 X2 X4 k f13 f15) (ix2 r c) = sT (scW i k arg1 arg2 arg4 arg13 arg15 arg0 v43 X1 X2 X4 f13 f15) 6 r c := by
  rw [s_v620]; rfl
theorem t_v659 (r c : Fin 128) : (trip.sl.v659 (F := Ideal) i arg1 arg2 arg4 arg13 arg15 arg0 v43 X1 X2 X4 k f13 f15) (ix2 r c) = sT (scW i k arg1 arg2 arg4 arg13 arg15 arg0 v43 X1 X2 X4 f13 f15) 7 r c := by
  rw [s_v659]; rfl
theorem t_v676 (r c : Fin 128) : (trip.sl.v676 (F := Ideal) i arg1 arg2 arg4 arg13 arg15 arg0 v43 X1 X2 X4 k f13 f15) (ix2 r c) = sT (scW i k arg1 arg2 arg4 arg13 arg15 arg0 v43 X1 X2 X4 f13 f15) 8 r c := by
  rw [s_v676]; rfl
theorem t_v715 (r c : Fin 128) : (trip.sl.v715 (F := Ideal) i arg1 arg2 arg4 arg13 arg15 arg0 v43 X1 X2 X4 k f13 f15) (ix2 r c) = sT (scW i k arg1 arg2 arg4 arg13 arg15 arg0 v43 X1 X2 X4 f13 f15) 9 r c := by
  rw [s_v715]; rfl
theorem t_v732 (r c : Fin 128) : (trip.sl.v732 (F := Ideal) i arg1 arg2 arg4 arg13 arg15 arg0 v43 X1 X2 X4 k f13 f15) (ix2 r c) = sT (scW i k arg1 arg2 arg4 arg13 arg15 arg0 v43 X1 X2 X4 f13 f15) 10 r c := by
  rw [s_v732]; rfl
theorem t_v763 (r c : Fin 128) : (trip.sl.v763 (F := Ideal) i arg1 arg2 arg4 arg13 arg15 arg0 v43 X1 X2 X4 k f13 f15) (ix2 r c) = sT (scW i k arg1 arg2 arg4 arg13 arg15 arg0 v43 X1 X2 X4 f13 f15) 11 r c := by
  rw [s_v763]; rfl
theorem t_v767 (r c : Fin 128) : (trip.sl.v767 (F := Ideal) i arg1 arg2 arg4 arg13 arg15 arg0 v43 X1 X2 X4 k f13 f15) (ix2 r c) = mxT (scW i k arg1 arg2 arg4 arg13 arg15 arg0 v43 X1 X2 X4 f13 f15) r c := by
  rw [w_v767, w_v740, w_v736, w_v684, w_v680, w_v628, w_v624, w_v572, w_v568, w_v516, w_v512]
  unfold mxT
  rw [← t_v457, ← t_v491, ← t_v508, ← t_v547, ← t_v564, ← t_v603, ← t_v620, ← t_v659, ← t_v676, ← t_v715, ← t_v732, ← t_v763]
  rfl
theorem t_v771 (r : Fin 128) : (trip.sl.v771 (F := Ideal) i arg1 arg2 arg4 arg13 arg15 arg0 v43 X1 X2 X4 k f13 f15) (ix2 r 0) = topT (scW i k arg1 arg2 arg4 arg13 arg15 arg0 v43 X1 X2 X4 f13 f15) r := by
  rw [w_v771, topV_read]; unfold topT; simp only [t_v767]
theorem t_v775 (r c : Fin 128) : (trip.sl.v775 (F := Ideal) i arg1 arg2 arg4 arg13 arg15 arg16 arg0 v43 X1 X2 X4 k f13 f15) (ix2 r c) = yT (scW i k arg1 arg2 arg4 arg13 arg15 arg0 v43 X1 X2 X4 f13 f15) 0 r c := by
  rw [w_v775, probV_read, w_v772, t_v457, t_v771]; rfl
theorem t_v806 (r c : Fin 128) : (trip.sl.v806 (F := Ideal) i arg1 arg2 arg4 arg13 arg15 arg16 arg0 v43 X1 X2 X4 k f13 f15) (ix2 r c) = yT (scW i k arg1 arg2 arg4 arg13 arg15 arg0 v43 X1 X2 X4 f13 f15) 1 r c := by
  rw [w_v806, probV_read, w_v803, t_v491, t_v771]; rfl
theorem t_v810 (r c : Fin 128) : (trip.sl.v810 (F := Ideal) i arg1 arg2 arg4 arg13 arg15 arg16 arg0 v43 X1 X2 X4 k f13 f15) (ix2 r c) = yT (scW i k arg1 arg2 arg4 arg13 arg15 arg0 v43 X1 X2 X4 f13 f15) 2 r c := by
  rw [w_v810, probV_read, w_v807, t_v508, t_v771]; rfl
theorem t_v840 (r c : Fin 128) : (trip.sl.v840 (F := Ideal) i arg1 arg2 arg4 arg13 arg15 arg16 arg0 v43 X1 X2 X4 k f13 f15) (ix2 r c) = yT (scW i k arg1 arg2 arg4 arg13 arg15 arg0 v43 X1 X2 X4 f13 f15) 3 r c := by
  rw [w_v840, probV_read, w_v837, t_v547, t_v771]; rfl
theorem t_v844 (r c : Fin 128) : (trip.sl.v844 (F := Ideal) i arg1 arg2 arg4 arg13 arg15 arg16 arg0 v43 X1 X2 X4 k f13 f15) (ix2 r c) = yT (scW i k arg1 arg2 arg4 arg13 arg15 arg0 v43 X1 X2 X4 f13 f15) 4 r c := by
  rw [w_v844, probV_read, w_v841, t_v564, t_v771]; rfl
theorem t_v874 (r c : Fin 128) : (trip.sl.v874 (F := Ideal) i arg1 arg2 arg4 arg13 arg15 arg16 arg0 v43 X1 X2 X4 k f13 f15) (ix2 r c) = yT (scW i k arg1 arg2 arg4 arg13 arg15 arg0 v43 X1 X2 X4 f13 f15) 5 r c := by
  rw [w_v874, probV_read, w_v871, t_v603, t_v771]; rfl
theorem t_v878 (r c : Fin 128) : (trip.sl.v878 (F := Ideal) i arg1 arg2 arg4 arg13 arg15 arg16 arg0 v43 X1 X2 X4 k f13 f15) (ix2 r c) = yT (scW i k arg1 arg2 arg4 arg13 arg15 arg0 v43 X1 X2 X4 f13 f15) 6 r c := by
  rw [w_v878, probV_read, w_v875, t_v620, t_v771]; rfl
theorem t_v908 (r c : Fin 128) : (trip.sl.v908 (F := Ideal) i arg1 arg2 arg4 arg13 arg15 arg16 arg0 v43 X1 X2 X4 k f13 f15) (ix2 r c) = yT (scW i k arg1 arg2 arg4 arg13 arg15 arg0 v43 X1 X2 X4 f13 f15) 7 r c := by
  rw [w_v908, probV_read, w_v905, t_v659, t_v771]; rfl
theorem t_v912 (r c : Fin 128) : (trip.sl.v912 (F := Ideal) i arg1 arg2 arg4 arg13 arg15 arg16 arg0 v43 X1 X2 X4 k f13 f15) (ix2 r c) = yT (scW i k arg1 arg2 arg4 arg13 arg15 arg0 v43 X1 X2 X4 f13 f15) 8 r c := by
  rw [w_v912, probV_read, w_v909, t_v676, t_v771]; rfl
theorem t_v942 (r c : Fin 128) : (trip.sl.v942 (F := Ideal) i arg1 arg2 arg4 arg13 arg15 arg16 arg0 v43 X1 X2 X4 k f13 f15) (ix2 r c) = yT (scW i k arg1 arg2 arg4 arg13 arg15 arg0 v43 X1 X2 X4 f13 f15) 9 r c := by
  rw [w_v942, probV_read, w_v939, t_v715, t_v771]; rfl
theorem t_v946 (r c : Fin 128) : (trip.sl.v946 (F := Ideal) i arg1 arg2 arg4 arg13 arg15 arg16 arg0 v43 X1 X2 X4 k f13 f15) (ix2 r c) = yT (scW i k arg1 arg2 arg4 arg13 arg15 arg0 v43 X1 X2 X4 f13 f15) 10 r c := by
  rw [w_v946, probV_read, w_v943, t_v732, t_v771]; rfl
theorem t_r134 (r c : Fin 128) : k0_pay134 (trip.sl.v771 (F := Ideal) i arg1 arg2 arg4 arg13 arg15 arg0 v43 X1 X2 X4 k f13 f15) (trip.sl.v973 (F := Ideal) i arg1 arg2 arg4 arg13 arg15 arg16 arg0 v43 X1 X2 X4 k f13 f15) (ix2 r c) = yT (scW i k arg1 arg2 arg4 arg13 arg15 arg0 v43 X1 X2 X4 f13 f15) 11 r c := by
  rw [w_r134, probV_read, w_v973, t_v763, t_v771]; rfl
theorem t_r_7 (r c : Fin 128) : (trip.sl.r_7 (F := Ideal) i arg1 arg2 arg4 arg13 arg15 arg16 arg0 v43 X1 X2 X4 k f13 f15) (ix2 r c) = yT (scW i k arg1 arg2 arg4 arg13 arg15 arg0 v43 X1 X2 X4 f13 f15) 0 r c + yT (scW i k arg1 arg2 arg4 arg13 arg15 arg0 v43 X1 X2 X4 f13 f15) 1 r c + yT (scW i k arg1 arg2 arg4 arg13 arg15 arg0 v43 X1 X2 X4 f13 f15) 2 r c + yT (scW i k arg1 arg2 arg4 arg13 arg15 arg0 v43 X1 X2 X4 f13 f15) 3 r c + yT (scW i k arg1 arg2 arg4 arg13 arg15 arg0 v43 X1 X2 X4 f13 f15) 4 r c + yT (scW i k arg1 arg2 arg4 arg13 arg15 arg0 v43 X1 X2 X4 f13 f15) 5 r c + yT (scW i k arg1 arg2 arg4 arg13 arg15 arg0 v43 X1 X2 X4 f13 f15) 6 r c + yT (scW i k arg1 arg2 arg4 arg13 arg15 arg0 v43 X1 X2 X4 f13 f15) 7 r c + yT (scW i k arg1 arg2 arg4 arg13 arg15 arg0 v43 X1 X2 X4 f13 f15) 8 r c + yT (scW i k arg1 arg2 arg4 arg13 arg15 arg0 v43 X1 X2 X4 f13 f15) 9 r c + yT (scW i k arg1 arg2 arg4 arg13 arg15 arg0 v43 X1 X2 X4 f13 f15) 10 r c + yT (scW i k arg1 arg2 arg4 arg13 arg15 arg0 v43 X1 X2 X4 f13 f15) 11 r c := by
  rw [w_r_7, w_v948, w_v947, w_v914, w_v913, w_v880, w_v879, w_v846, w_v845, w_v812, w_v811, ← t_v775 i k arg1 arg2 arg4 arg13 arg15 arg16, ← t_v806 i k arg1 arg2 arg4 arg13 arg15 arg16, ← t_v810 i k arg1 arg2 arg4 arg13 arg15 arg16, ← t_v840 i k arg1 arg2 arg4 arg13 arg15 arg16, ← t_v844 i k arg1 arg2 arg4 arg13 arg15 arg16, ← t_v874 i k arg1 arg2 arg4 arg13 arg15 arg16, ← t_v878 i k arg1 arg2 arg4 arg13 arg15 arg16, ← t_v908 i k arg1 arg2 arg4 arg13 arg15 arg16, ← t_v912 i k arg1 arg2 arg4 arg13 arg15 arg16, ← t_v942 i k arg1 arg2 arg4 arg13 arg15 arg16, ← t_v946 i k arg1 arg2 arg4 arg13 arg15 arg16, ← t_r134 i k arg1 arg2 arg4 arg13 arg15 arg16]
  rfl

theorem t_pv (y : FVec Ideal S128x128 .f32) (B : FVec Ideal S1x128x128 .fp8e4m3) (Y' : Fin 128 → EReal) (r d : Fin 128) (h : ∀ c, y (ix2 r c) = Y' c) :
    ∑ c : Fin 128, clipV y (ix2 r c) * B (ix3 0 c d) = pT Y' (fun c d => B (ix3 0 c d)) d := by
  unfold pT; simp only [clipV_read, h]

theorem zero_word : (FloatOps.ofBits (F := Ideal) .f32 0#32 : EReal) = 0 := ofBits_zero

theorem t_v802 (r d : Fin 128) : (trip.sl.v802 (F := Ideal) i arg1 arg2 arg3 arg4 arg5 arg13 arg14 arg15 arg16 arg0 v43 X1 X2 X3 X4 X5 k f13 f14 f15) (ix2 r d) = pT (fun c => if c.val ≤ r.val then 0 else yT (scW i k arg1 arg2 arg4 arg13 arg15 arg0 v43 X1 X2 X4 f13 f15) 0 r c) ((vlW i k arg3 arg5 arg14 X3 X5 f14) 0) d + pT (fun c => if c.val ≤ r.val then yT (scW i k arg1 arg2 arg4 arg13 arg15 arg0 v43 X1 X2 X4 f13 f15) 0 r c else 0) ((vlW i k arg3 arg5 arg14 X3 X5 f14) 12) d := by
  rw [w_v802, pvV_read, w_v782, w_v789]
  refine congrArg₂ (· + ·) (t_pv _ _ _ r d fun c => ?_) (t_pv _ _ _ r d fun c => ?_)
  · rw [sel_read, t_v775]; exact congrArg (fun z => if c.val ≤ r.val then z else _) zero_word
  · rw [sel_read, t_v775]; exact congrArg (fun z => if c.val ≤ r.val then _ else z) zero_word
theorem t_v836 (r d : Fin 128) : (trip.sl.v836 (F := Ideal) i arg1 arg2 arg3 arg4 arg5 arg13 arg14 arg15 arg16 arg0 v43 X1 X2 X3 X4 X5 k f13 f14 f15) (ix2 r d) = (trip.sl.v802 (F := Ideal) i arg1 arg2 arg3 arg4 arg5 arg13 arg14 arg15 arg16 arg0 v43 X1 X2 X3 X4 X5 k f13 f14 f15) (ix2 r d) + (pT (yT (scW i k arg1 arg2 arg4 arg13 arg15 arg0 v43 X1 X2 X4 f13 f15) 1 r) ((vlW i k arg3 arg5 arg14 X3 X5 f14) 1) d + pT (yT (scW i k arg1 arg2 arg4 arg13 arg15 arg0 v43 X1 X2 X4 f13 f15) 2 r) ((vlW i k arg3 arg5 arg14 X3 X5 f14) 2) d) := by
  rw [w_v836]
  refine congrArg ((trip.sl.v802 (F := Ideal) i arg1 arg2 arg3 arg4 arg5 arg13 arg14 arg15 arg16 arg0 v43 X1 X2 X3 X4 X5 k f13 f14 f15) (ix2 r d) + ·) ((pvV_read _ _ _ _ r d).trans ?_)
  exact congrArg₂ (· + ·) (t_pv _ _ _ r d fun c => t_v806 .. ) (t_pv _ _ _ r d fun c => t_v810 ..)
theorem t_v870 (r d : Fin 128) : (trip.sl.v870 (F := Ideal) i arg1 arg2 arg3 arg4 arg5 arg13 arg14 arg15 arg16 arg0 v43 X1 X2 X3 X4 X5 k f13 f14 f15) (ix2 r d) = (trip.sl.v836 (F := Ideal) i arg1 arg2 arg3 arg4 arg5 arg13 arg14 arg15 arg16 arg0 v43 X1 X2 X3 X4 X5 k f13 f14 f15) (ix2 r d) + (pT (yT (scW i k arg1 arg2 arg4 arg13 arg15 arg0 v43 X1 X2 X4 f13 f15) 3 r) ((vlW i k arg3 arg5 arg14 X3 X5 f14) 3) d + pT (yT (scW i k arg1 arg2 arg4 arg13 arg15 arg0 v43 X1 X2 X4 f13 f15) 4 r) ((vlW i k arg3 arg5 arg14 X3 X5 f14) 4) d) := by
  rw [w_v870]
  refine congrArg ((trip.sl.v836 (F := Ideal) i arg1 arg2 arg3 arg4 arg5 arg13 arg14 arg15 arg16 arg0 v43 X1 X2 X3 X4 X5 k f13 f14 f15) (ix2 r d) + ·) ((pvV_read _ _ _ _ r d).trans ?_)
  exact congrArg₂ (· + ·) (t_pv _ _ _ r d fun c => t_v840 .. ) (t_pv _ _ _ r d fun c => t_v844 ..)
theorem t_v904 (r d : Fin 128) : (trip.sl.v904 (F := Ideal) i arg1 arg2 arg3 arg4 arg5 arg13 arg14 arg15 arg16 arg0 v43 X1 X2 X3 X4 X5 k f13 f14 f15) (ix2 r d) = (trip.sl.v870 (F := Ideal) i arg1 arg2 arg3 arg4 arg5 arg13 arg14 arg15 arg16 arg0 v43 X1 X2 X3 X4 X5 k f13 f14 f15) (ix2 r d) + (pT (yT (scW i k arg1 arg2 arg4 arg13 arg15 arg0 v43 X1 X2 X4 f13 f15) 5 r) ((vlW i k arg3 arg5 arg14 X3 X5 f14) 5) d + pT (yT (scW i k arg1 arg2 arg4 arg13 arg15 arg0 v43 X1 X2 X4 f13 f15) 6 r) ((vlW i k arg3 arg5 arg14 X3 X5 f14) 6) d) := by
  rw [w_v904]
  refine congrArg ((trip.sl.v870 (F := Ideal) i arg1 arg2 arg3 arg4 arg5 arg13 arg14 arg15 arg16 arg0 v43 X1 X2 X3 X4 X5 k f13 f14 f15) (ix2 r d) + ·) ((pvV_read _ _ _ _ r d).trans ?_)
  exact congrArg₂ (· + ·) (t_pv _ _ _ r d fun c => t_v874 .. ) (t_pv _ _ _ r d fun c => t_v878 ..)
theorem t_v938 (r d : Fin 128) : (trip.sl.v938 (F := Ideal) i arg1 arg2 arg3 arg4 arg5 arg13 arg14 arg15 arg16 arg0 v43 X1 X2 X3 X4 X5 k f13 f14 f15) (ix2 r d) = (trip.sl.v904 (F := Ideal) i arg1 arg2 arg3 arg4 arg5 arg13 arg14 arg15 arg16 arg0 v43 X1 X2 X3 X4 X5 k f13 f14 f15) (ix2 r d) + (pT (yT (scW i k arg1 arg2 arg4 arg13 arg15 arg0 v43 X1 X2 X4 f13 f15) 7 r) ((vlW i k arg3 arg5 arg14 X3 X5 f14) 7) d + pT (yT (scW i k arg1 arg2 arg4 arg13 arg15 arg0 v43 X1 X2 X4 f13 f15) 8 r) ((vlW i k arg3 arg5 arg14 X3 X5 f14) 8) d) := by
  rw [w_v938]
  refine congrArg ((trip.sl.v904 (F := Ideal) i arg1 arg2 arg3 arg4 arg5 arg13 arg14 arg15 arg16 arg0 v43 X1 X2 X3 X4 X5 k f13 f14 f15) (ix2 r d) + ·) ((pvV_read _ _ _ _ r d).trans ?_)
  exact congrArg₂ (· + ·) (t_pv _ _ _ r d fun c => t_v908 .. ) (t_pv _ _ _ r d fun c => t_v912 ..)
theorem t_r_6 (r d : Fin 128) : (trip.sl.r_6 (F := Ideal) i arg1 arg2 arg3 arg4 arg5 arg13 arg14 arg15 arg16 arg0 v43 X1 X2 X3 X4 X5 k f13 f14 f15) (ix2 r d) = (trip.sl.v938 (F := Ideal) i arg1 arg2 arg3 arg4 arg5 arg13 arg14 arg15 arg16 arg0 v43 X1 X2 X3 X4 X5 k f13 f14 f15) (ix2 r d) + (pT (yT (scW i k arg1 arg2 arg4 arg13 arg15 arg0 v43 X1 X2 X4 f13 f15) 9 r) ((vlW i k arg3 arg5 arg14 X3 X5 f14) 9) d + pT (yT (scW i k arg1 arg2 arg4 arg13 arg15 arg0 v43 X1 X2 X4 f13 f15) 10 r) ((vlW i k arg3 arg5 arg14 X3 X5 f14) 10) d) := by
  rw [w_r_6]
  refine congrArg ((trip.sl.v938 (F := Ideal) i arg1 arg2 arg3 arg4 arg5 arg13 arg14 arg15 arg16 arg0 v43 X1 X2 X3 X4 X5 k f13 f14 f15) (ix2 r d) + ·) ((pvV_read _ _ _ _ r d).trans ?_)
  exact congrArg₂ (· + ·) (t_pv _ _ _ r d fun c => t_v942 .. ) (t_pv _ _ _ r d fun c => t_v946 ..)
theorem t_r_8 (r d : Fin 128) : (trip.sl.r_8 (F := Ideal) i arg1 arg2 arg3 arg4 arg5 arg13 arg14 arg15 arg16 arg0 v43 X1 X2 X3 X4 X5 k f13 f14 f15) (ix2 r d) = pT (yT (scW i k arg1 arg2 arg4 arg13 arg15 arg0 v43 X1 X2 X4 f13 f15) 11 r) ((vlW i k arg3 arg5 arg14 X3 X5 f14) 11) d := by
  rw [w_r_8]
  exact (pv1V_read _ _ r d).trans (t_pv _ _ _ r d fun c => t_r134 ..)

/-- What a trip stores of the output. -/
theorem t_out (r d : Fin 128) : k0_pay5 (trip.sl.r (F := Ideal) arg5 X5 k) (trip.sl.r_6 (F := Ideal) i arg1 arg2 arg3 arg4 arg5 arg13 arg14 arg15 arg16 arg0 v43 X1 X2 X3 X4 X5 k f13 f14 f15) (trip.sl.r_7 (F := Ideal) i arg1 arg2 arg4 arg13 arg15 arg16 arg0 v43 X1 X2 X4 k f13 f15) (trip.sl.r_8 (F := Ideal) i arg1 arg2 arg3 arg4 arg5 arg13 arg14 arg15 arg16 arg0 v43 X1 X2 X3 X4 X5 k f13 f14 f15) (ix2 r d) =
    outT (scW i k arg1 arg2 arg4 arg13 arg15 arg0 v43 X1 X2 X4 f13 f15) (vlW i k arg3 arg5 arg14 X3 X5 f14) (fun d => trip.sl.r (F := Ideal) arg5 X5 k (ix2 0 d)) r d := by
  rw [pay5_read, t_r_6, t_v938, t_v904, t_v870, t_v836, t_v802, t_r_8]
  simp only [t_r_7]
  rfl

end Words

end Cert.AttendIdeal.Hand
-- ==== Proof.Ring.lean ====
/- The rings of the last thirteen blocks: what they hold before a point, and that one trip's store extends it by one head. -/
module

public import proofs.«01_k».proof.Proof.Value
public import proofs.«01_k».proof.Proof.TileRead

@[expose] public section

set_option maxRecDepth 16384

noncomputable section

namespace Cert.AttendIdeal.Hand

open Cert.AttendIdeal Cert.AttendIdeal.Gen Cert.Lowp
open Idealize.ShloMosaic Idealize.ShloMosaic.TcCoe
open Idealize.ShloMosaic.Pipeline (Dat Cfg Window)

theorem coords_val : ∀ t : Fin cfg0.N, ((grid0.coords t) 0).val = t.val := by decide +kernel

/-- Row `c` of slot `s` of a ring of tiles. -/
def slot (s : ℕ) (c : Fin 128) : Fin 1664 := ⟨128 * (s % 13) + c.val, by omega⟩

/-- Slot `s` of the ring of scales. -/
def slotS (s : ℕ) : Fin 16 := ⟨s % 13, by omega⟩

/-- What a head's part of a ring of tiles holds before point `n`: the last thirteen blocks, each in the slot of its number modulo 13. -/
def HasT (g : Fin cfg0.N → Fin 64 → Fin 128 → Fin 128 → EReal) (h : Fin 64) (n : ℕ) (X : S64x1664x128.Idx → EReal) : Prop :=
  ∀ b : Fin cfg0.N, b.val < n → n ≤ b.val + 13 → ∀ c d : Fin 128, X (ix3 h (slot b.val c) d) = g b h c d

/-- What a head's part of the ring of scales holds: those of the same blocks, and positive numbers where no block has been. -/
structure HasS (g : Fin cfg0.N → Fin 64 → Fin 128 → EReal) (h : Fin 64) (n : ℕ) (X : S64x16x128.Idx → EReal) : Prop where
  old : ∀ b : Fin cfg0.N, b.val < n → n ≤ b.val + 13 → ∀ c : Fin 128, X (ix3 h (slotS b.val) c) = g b h c
  new : ∀ s : ℕ, s < 13 → n ≤ s → ∀ c : Fin 128, 0 < X (ix3 h (slotS s) c)

/-- Before head `k` at point `t`: the heads done hold this block too. -/
def upTo (t k : ℕ) (h : Fin 64) : ℕ := if h.val < k then t + 1 else t

theorem HasT.step (g : Fin cfg0.N → Fin 64 → Fin 128 → Fin 128 → EReal) (t : Fin cfg0.N) (k : Fin 64) (M : Memref sig .tc .vmem S64x1664x128 .fp8e4m3)
    (f : M.view.ty.Contents (Elt Ideal)) (w : S1x128x128.Idx → EReal) (hw : ∀ c d : Fin 128, w (ix3 0 c d) = g t k c d)
    (hf : ∀ h, HasT g h (upTo t.val k.val h) (M.view.read (Elt Ideal) f)) (h : Fin 64) :
    HasT g h (upTo t.val (k.val + 1) h) (M.view.read (Elt Ideal) (M.view.writes (Elt Ideal) f
      [⟨Rect.unit (s := S64x1664x128) (k0_off4 (grid0.coords t) k) S1x128x128.size (k0_off4_inb (grid0.coords t) k), w⟩])) := by
  have hoff := k0_off4_eq (grid0.coords t) k
  rw [coords_val] at hoff
  intro b hb hn c d
  by_cases e : h = k
  · subst e
    have u1 : upTo t.val (h.val + 1) h = t.val + 1 := if_pos (Nat.lt_succ_self _)
    have u0 : upTo t.val h.val h = t.val := if_neg (lt_irrefl _)
    rw [u1] at hb hn
    by_cases e2 : b = t
    · subst e2
      rw [← hw]
      refine View.read_writes_cons_unit_of_mem M.view f _ w [] _ (ix3 0 c d) hoff ?_
      intro a
      fin_cases a <;> simp [slot]
    · have hlt : b.val < t.val := by have := fun q => e2 (Fin.ext q); omega
      have h0 := hf h b (by rw [u0]; exact hlt) (by rw [u0]; omega) c d
      rw [← h0]
      refine View.read_writes_cons_unit_of_not_mem M.view f _ w [] _ hoff (1 : Fin 3) ?_
      show 128 * (b.val % 13) + c.val < 128 * (t.val % 13) ∨ 128 * (t.val % 13) + 128 ≤ 128 * (b.val % 13) + c.val
      omega
  · have hne : h.val ≠ k.val := fun q => e (Fin.ext q)
    have u : upTo t.val (k.val + 1) h = upTo t.val k.val h := by
      unfold upTo
      exact if_congr (by omega) rfl rfl
    rw [u] at hb hn
    rw [← hf h b hb hn c d]
    refine View.read_writes_cons_unit_of_not_mem M.view f _ w [] _ hoff (0 : Fin 3) ?_
    show h.val < k.val ∨ k.val + 1 ≤ h.val
    omega

theorem HasS.step (g : Fin cfg0.N → Fin 64 → Fin 128 → EReal) (t : Fin cfg0.N) (k : Fin 64) (M : Memref sig .tc .vmem S64x16x128 .f32)
    (f : M.view.ty.Contents (Elt Ideal)) (w : S1x1x128.Idx → EReal) (hw : ∀ c : Fin 128, w (ix3 0 0 c) = g t k c)
    (hf : ∀ h, HasS g h (upTo t.val k.val h) (M.view.read (Elt Ideal) f)) (h : Fin 64) :
    HasS g h (upTo t.val (k.val + 1) h) (M.view.read (Elt Ideal) (M.view.writes (Elt Ideal) f
      [⟨Rect.unit (s := S64x16x128) (k0_off5 (grid0.coords t) k) S1x1x128.size (k0_off5_inb (grid0.coords t) k), w⟩])) := by
  have hoff := k0_off5_eq (grid0.coords t) k
  rw [coords_val] at hoff
  by_cases e : h = k
  · subst e
    have u1 : upTo t.val (h.val + 1) h = t.val + 1 := if_pos (Nat.lt_succ_self _)
    have u0 : upTo t.val h.val h = t.val := if_neg (lt_irrefl _)
    have h0 := hf h
    rw [u0] at h0
    rw [u1]
    have other (s : ℕ) (hs : s % 13 ≠ t.val % 13) (c : Fin 128) := View.read_writes_cons_unit_of_not_mem M.view f (k0_off5_inb (grid0.coords t) h) w []
      (ix3 h (slotS s) c) hoff (1 : Fin 3) (show s % 13 < t.val % 13 ∨ t.val % 13 + 1 ≤ s % 13 by omega)
    constructor
    · intro b hb hn c
      by_cases e2 : b = t
      · subst e2
        rw [← hw]
        refine View.read_writes_cons_unit_of_mem M.view f _ w [] _ (ix3 0 0 c) hoff ?_
        intro a
        fin_cases a <;> simp [slotS]
      · have hlt : b.val < t.val := by have := fun q => e2 (Fin.ext q); omega
        rw [← h0.old b hlt (by omega) c]
        exact other b.val (by omega) c
    · intro s hs hn c
      exact lt_of_lt_of_eq (h0.new s hs (by omega) c) (other s (by omega) c).symm
  · have hne : h.val ≠ k.val := fun q => e (Fin.ext q)
    have u : upTo t.val (k.val + 1) h = upTo t.val k.val h := by
      unfold upTo
      exact if_congr (by omega) rfl rfl
    rw [u]
    have other (s : Fin 16) (c : Fin 128) := View.read_writes_cons_unit_of_not_mem M.view f (k0_off5_inb (grid0.coords t) k) w []
      (ix3 h s c) hoff (0 : Fin 3) (show h.val < k.val ∨ k.val + 1 ≤ h.val by omega)
    constructor
    · intro b hb hn c
      rw [← (hf h).old b hb hn c]
      exact other _ c
    · intro s hs hn c
      exact lt_of_lt_of_eq ((hf h).new s hs hn c) (other _ c).symm

/-- The tile that a trip loads for the `j`-th block. -/
theorem kld_read (t : Fin cfg0.N) (k : Fin 64) (M : Memref sig .tc .vmem S64x1664x128 .fp8e4m3) (f : M.view.ty.Contents (Elt Ideal)) (j : Fin 13) (c d : Fin 128) :
    kld (grid0.coords t) k M f j (ix3 0 c d) = M.view.read (Elt Ideal) f (ix3 k (slot (t.val + j.val + 1) c) d) := by
  have hoff := k0_off6_eq (grid0.coords t) k j
  rw [coords_val] at hoff
  have h0 := congrFun hoff 0
  have h1 := congrFun hoff 1
  have h2 := congrFun hoff 2
  unfold kld
  rw [View.readAt_apply]
  congr 1
  funext a
  refine Fin.ext ?_
  fin_cases a
  · show k0_off6 (grid0.coords t) k (BitVec.ofNat 32 j.val) 0 + 1 * 0 = k.val
    rw [h0]; rfl
  · show k0_off6 (grid0.coords t) k (BitVec.ofNat 32 j.val) 1 + 1 * c.val = 128 * ((t.val + j.val + 1) % 13) + c.val
    rw [h1, one_mul]; rfl
  · show k0_off6 (grid0.coords t) k (BitVec.ofNat 32 j.val) 2 + 1 * d.val = d.val
    rw [h2, one_mul]; exact Nat.zero_add _

/-- The scales that a trip loads for the `j`-th block. -/
theorem sld_read (t : Fin cfg0.N) (k : Fin 64) (M : Memref sig .tc .vmem S64x16x128 .f32) (f : M.view.ty.Contents (Elt Ideal)) (j : Fin 13) (c : Fin 128) :
    sld (grid0.coords t) k M f j (ix3 0 0 c) = M.view.read (Elt Ideal) f (ix3 k (slotS (t.val + j.val + 1)) c) := by
  have hoff := k0_off7_eq (grid0.coords t) k j
  rw [coords_val] at hoff
  have h0 := congrFun hoff 0
  have h1 := congrFun hoff 1
  have h2 := congrFun hoff 2
  unfold sld
  rw [View.readAt_apply]
  congr 1
  funext a
  refine Fin.ext ?_
  fin_cases a
  · show k0_off7 (grid0.coords t) k (BitVec.ofNat 32 j.val) 0 + 1 * 0 = k.val
    rw [h0]; rfl
  · show k0_off7 (grid0.coords t) k (BitVec.ofNat 32 j.val) 1 + 1 * 0 = (t.val + j.val + 1) % 13
    rw [h1]; rfl
  · show k0_off7 (grid0.coords t) k (BitVec.ofNat 32 j.val) 2 + 1 * c.val = c.val
    rw [h2, one_mul]; exact Nat.zero_add _

end Cert.AttendIdeal.Hand
-- ==== Proof.Equal.lean ====
/- The quantiser's results: what the kernel's arrays hold is what the reference's do. -/
module

public import proofs.«01_k».proof.Proof.Quant
public import proofs.«01_k».proof.Pre_finite
public import proofs.«01_k».proof.Proof.Gen.Pre_finite
public import Idealize.ShloMosaic.Lib.ReduceAll

@[expose] public section

set_option maxRecDepth 16384

noncomputable section

namespace Cert.Lowp

open Idealize.ShloMosaic Cert.AttendRefIdeal.Hand

/-- The greatest magnitude that the precondition allows. -/
def big : ℝ := (2 : ℝ) ^ (128 : ℤ)

theorem fin_of_cmp {x : EReal} (h : FloatOps.cmpf (F := Ideal) (φ := .f32) .ole (FloatOps.absf (F := Ideal) (φ := .f32) x) (Ideal.ofBits .f32 0x7F7F0000#32) = 1#1) :
    Fin' big x := by
  change BitVec.ofBool (decide (max x (-x) ≤ Ideal.ofBits .f32 0x7F7F0000#32)) = 1#1 at h
  have h' : max x (-x) ≤ Ideal.ofBits .f32 0x7F7F0000#32 := by
    by_contra hn
    rw [decide_eq_false hn] at h
    exact absurd h (by decide)
  have hb := h'.trans ofBits_max
  obtain ⟨h1, h2⟩ := max_le_iff.1 hb
  induction x using EReal.rec with
  | bot => exact absurd h2 (not_le.2 (by rw [EReal.neg_bot]; exact EReal.coe_lt_top _))
  | top => exact absurd h1 (not_le.2 (EReal.coe_lt_top _))
  | coe a =>
    rw [← EReal.coe_neg, EReal.coe_le_coe_iff] at h2
    rw [EReal.coe_le_coe_iff] at h1
    exact ⟨a, rfl, abs_le.2 ⟨by unfold big; linarith, h1⟩⟩

theorem pos_of_cmp {x : EReal} (h : FloatOps.cmpf (F := Ideal) (φ := .f32) .ogt x (Ideal.ofBits .f32 0x00000000#32) = 1#1) : 0 < x := by
  change BitVec.ofBool (decide (Ideal.ofBits .f32 0#32 < x)) = 1#1 at h
  rw [ofBits_zero] at h
  by_contra hn
  rw [decide_eq_false hn] at h
  exact absurd h (by decide)

end Cert.Lowp

namespace Cert.Pre_finite

open Idealize.ShloMosaic Cert.Lowp Cert.Pre_finite.Gen

attribute [local instance] Cert.Pre_finite.Gen.facts

theorem and_one {a b : BitVec 1} (h : IntOp.andi a b = 1#1) : a = 1#1 ∧ b = 1#1 := by
  revert h; revert a b; decide

/-- What the precondition says, element by element. -/
theorem fn_finite (X K W : FVec Ideal S16384x8192 .bf16) (M S : FVec Ideal S64x128 .f32)
    (h : fn (F := Ideal) X K W M S = fun _ => 1#1) :
    (∀ i, Fin' big (X i)) ∧ (∀ i, Fin' big (K i)) ∧ (∀ i, Fin' big (M i)) ∧ (∀ i, (0 : EReal) < S i) := by
  have h0 := congrFun h ix0
  haveI : Subsingleton S_.Idx := ⟨fun a b => funext fun i => i.elim0⟩
  obtain ⟨h1, hS⟩ := and_one h0
  obtain ⟨h2, hM⟩ := and_one h1
  obtain ⟨hX, hK⟩ := and_one h2
  exact ⟨fun i => fin_of_cmp (Host.reduce_andi_all _ _ _ _ _ hX i), fun i => fin_of_cmp (Host.reduce_andi_all _ _ _ _ _ hK i),
    fun i => fin_of_cmp (Host.reduce_andi_all _ _ _ _ _ hM i), fun i => pos_of_cmp (Host.reduce_andi_all _ _ _ _ _ hS i)⟩

end Cert.Pre_finite
-- ==== Proof.Match.lean ====
/- The reference's results, as arrays, are the tiles and rows that the kernel's blocks hold. -/
module

public import proofs.«01_k».proof.Proof.Equal

@[expose] public section

set_option maxRecDepth 16384

noncomputable section

namespace Cert.AttendRefIdeal.Hand

open Cert.AttendRefIdeal Cert.AttendRefIdeal.Gen Cert.AttendRefIdeal.Value Cert.Lowp
open Cert.AttendIdeal.Hand (row col pt tiles rows xT kT vT mkT vsT gQ gK gV gM gS gL xT_eq kT_eq vT_eq mkT_eq vsT_eq)
open Idealize.ShloMosaic Idealize.ShloMosaic.TcCoe

/-- Every index of a row-blocked array is a row of a block and a lane of a head. -/
theorem idx_tile (i : S16384x8192.Idx) : ∃ (n r : Fin 128) (h : Fin 64) (d : Fin 128), i = ix2 (row n r) (col h d) := by
  have h0 : (i 0).val < 16384 := (i 0).isLt
  have h1 : (i 1).val < 8192 := (i 1).isLt
  refine ⟨⟨(i 0).val / 128, by omega⟩, ⟨(i 0).val % 128, by omega⟩, ⟨(i 1).val / 128, by omega⟩, ⟨(i 1).val % 128, by omega⟩, ?_⟩
  funext a
  refine Fin.ext ?_
  fin_cases a
  · show (i 0).val = 128 * ((i 0).val / 128) + (i 0).val % 128
    omega
  · show (i 1).val = 128 * ((i 1).val / 128) + (i 1).val % 128
    omega

theorem tiles_at (g : Fin Cert.AttendIdeal.cfg0.N → Fin 64 → Fin 128 → Fin 128 → EReal) (n r : Fin 128) (h : Fin 64) (d : Fin 128) :
    tiles g (ix2 (row n r) (col h d)) = g (pt n) h r d := by
  have e0 : (128 * n.val + r.val) / 128 = n.val := by omega
  have e1 : (128 * n.val + r.val) % 128 = r.val := by omega
  have e2 : (128 * h.val + d.val) / 128 = h.val := by omega
  have e3 : (128 * h.val + d.val) % 128 = d.val := by omega
  show g (pt ⟨(128 * n.val + r.val) / 128, _⟩) ⟨(128 * h.val + d.val) / 128, _⟩ ⟨(128 * n.val + r.val) % 128, _⟩ ⟨(128 * h.val + d.val) % 128, _⟩ = _
  refine congr (congr (congrArg₂ g ?_ ?_) ?_) ?_
  · exact congrArg pt (Fin.ext e0)
  · exact Fin.ext e2
  · exact Fin.ext e1
  · exact Fin.ext e3

/-- Codes a head, read as an array of rows. -/
theorem codes_at (W : FVec Ideal S16384x64x128 .f32) (s : Fin 16384) (h : Fin 64) (d : Fin 128) :
    Host.convertf (F := Ideal) .fp8e4m3 (shapeCast S16384x8192 W shapeCasts_S16384x64x128_S16384x8192) (ix2 s (col h d)) = W (ix3 s h d) := by
  refine by_pred fun P hP => ?_
  pointwise []
  refine cast (congrArg P (congrArg W ?_)) hP
  have e2 : (128 * h.val + d.val) / 128 = h.val := by omega
  have e3 : (128 * h.val + d.val) % 128 = d.val := by omega
  exact congrArg₂ (ix3 s) (Fin.ext e2.symm) (Fin.ext e3.symm)

/-- A query block's scale, at every lane. -/
theorem qs_at (W : FVec Ideal S128x1x64x1 .f32) (n : Fin 128) (h : Fin 64) (d : Fin 128) :
    broadcastInDim S128x64x128 ![0, 1, 2] bcast_S128x64x1_S128x64x128_0_1_2 (shapeCast _ W shapeCasts_S128x1x64x1_S128x64x1) (ix3 n h d) = W (ix4 n 0 h 0) := by
  refine by_pred fun P hP => ?_
  pointwise []
  exact hP

/-- Half `d / 64` of a block. -/
def half (n : Fin 128) (d : Fin 128) : Fin 256 := ⟨2 * n.val + d.val / 64, by omega⟩

/-- A key group's scale, at every lane of its half. -/
theorem ks_at (W : FVec Ideal S256x1x64x1 .f32) (n : Fin 128) (h : Fin 64) (d : Fin 128) :
    shapeCast S128x64x128 (broadcastInDim S128x64x2x64 ![0, 1, 2, 3] bcast_S128x64x2x1_S128x64x2x64_0_1_2_3 (broadcastInDim S128x64x2x1 ![0, 1, 2] bcast_S128x64x2_S128x64x2x1_0_1_2 (transpose S128x64x2 [0, 2, 1] (shapeCast _ W shapeCasts_S256x1x64x1_S128x2x64) transposes_S128x2x64_S128x64x2_0_2_1))) shapeCasts_S128x64x2x64_S128x64x128 (ix3 n h d) = W (ix4 (half n d) 0 h 0) := by
  refine by_pred fun P hP => ?_
  pointwise []
  exact cast (congrArg P (congrArg W (congrArg (fun g => ix4 g 0 h 0) (Fin.ext (show 2 * n.val + d.val / 64 = n.val * 2 + d.val / 64 by omega))))) hP

variable (m : (ℓ : Loc AttendIdeal.nD AttendIdeal.τ AttendIdeal.sig) → Buf (Elt Ideal) ℓ) (c : Dev AttendIdeal.nD)
variable (V : Valuation τ sig (Elt Ideal))

/-- The reference's arguments are the kernel's. -/
structure Same : Prop where
  x : V (Proc.devRef .tc main_arg0) = m ((c.tc : Thread AttendIdeal.nD AttendIdeal.τ).loc AttendIdeal.main_arg0)
  k : V (Proc.devRef .tc main_arg1) = m ((c.tc : Thread AttendIdeal.nD AttendIdeal.τ).loc AttendIdeal.main_arg1)
  v : V (Proc.devRef .tc main_arg2) = m ((c.tc : Thread AttendIdeal.nD AttendIdeal.τ).loc AttendIdeal.main_arg2)
  mn : V (Proc.devRef .tc main_arg3) = m ((c.tc : Thread AttendIdeal.nD AttendIdeal.τ).loc AttendIdeal.main_arg3)
  vs : V (Proc.devRef .tc main_arg4) = m ((c.tc : Thread AttendIdeal.nD AttendIdeal.τ).loc AttendIdeal.main_arg4)
  fx : ∀ s q, Fin' big (aX V s q)
  fk : ∀ s q, Fin' big (aK V s q)
  fm : ∀ h d, Fin' big (aM V h d)
  ps : ∀ h d, 0 < aS V h d

variable {m c V} (S : Same m c V)
include S

theorem xT_ref (n : Fin 128) (h : Fin 64) : xT m c (pt n) h = bX V n h :=
  funext fun r => funext fun d => (xT_eq m c n h r d).trans (congrFun S.x.symm _)

theorem grp_ref (n : Fin 128) (h : Fin 64) (s : Fin 2) : grp (kT m c (pt n) h) (mkT m c (pt n) h) s = bK V ⟨2 * n.val + s.val, by omega⟩ h := by
  funext r d
  have e : row n ⟨64 * s.val + r.val, by omega⟩ = krow ⟨2 * n.val + s.val, by omega⟩ r := Fin.ext (by show 128 * n.val + (64 * s.val + r.val) = 64 * (2 * n.val + s.val) + r.val; omega)
  exact congrArg₂ (fun a b : EReal => a - b) ((kT_eq m c n h _ d).trans ((congrFun S.k.symm _).trans (congrArg (fun s => aK V s (col h d)) e)))
    ((mkT_eq m c n h d).trans (congrFun S.mn.symm _))

theorem cen_fin' (n : Fin 128) (h : Fin 64) (r d : Fin 128) : Fin' ((2 : ℝ) ^ (129 : ℤ)) (cen (bX V n h) r d) := by
  rw [← two_pow_128]
  exact cen_fin (fun r d => S.fx _ _) r d

theorem bK_fin (g : Fin 256) (h : Fin 64) (r : Fin 64) (d : Fin 128) : Fin' ((2 : ℝ) ^ (129 : ℤ)) (bK V g h r d) := by
  rw [← two_pow_128]
  exact (S.fk _ _).sub (S.fm _ _)

theorem gQ_ref (n : Fin 128) (h : Fin 64) (r d : Fin 128) : gQ m c (pt n) h r d = res_main_v67 (F := Ideal) V (ix3 (row n r) h d) := by
  unfold gQ
  rw [xT_ref S, q67]
  exact code_eq _ (cen_fin' S n h) r d

theorem gM_ref (n : Fin 128) (h : Fin 64) (d : Fin 128) : gM m c (pt n) h d = res_main_v5 (F := Ideal) V (ix3 n h d) := by
  unfold gM
  rw [xT_ref S, q5]

theorem gS_ref (n : Fin 128) (h : Fin 64) (d : Fin 128) : gS m c (pt n) h d = res_main_v26 (F := Ideal) V (ix4 n 0 h 0) := by
  unfold gS
  rw [xT_ref S, q26]
  exact scl_eq _ (cen_fin' S n h)

theorem gK_ref (n : Fin 128) (h : Fin 64) (r d : Fin 128) : gK m c (pt n) h r d = res_main_v68 (F := Ideal) V (ix3 (row n r) h d) := by
  have e : row n r = krow (half n r) ⟨r.val % 64, by omega⟩ := Fin.ext (by show 128 * n.val + r.val = 64 * (2 * n.val + r.val / 64) + r.val % 64; omega)
  unfold gK kcode
  rw [grp_ref S, e, q68]
  exact code_eq _ (bK_fin S _ h) _ d

theorem gL_ref (n : Fin 128) (h : Fin 64) (d : Fin 128) : gL m c (pt n) h d = res_main_v54 (F := Ideal) V (ix4 (half n d) 0 h 0) := by
  unfold gL kscl
  rw [grp_ref S, q54]
  exact scl_eq _ (bK_fin S _ h)

theorem div_vs (n : Fin 128) (h : Fin 64) (r d : Fin 128) : vT m c (pt n) h r d * Ideal.div (Ideal.ofBits .f32 1065353216#32) (vsT m c (pt n) h d)
    = Ideal.div (aV V (row n r) (col h d)) (aS V h d) := by
  rw [show vT m c (pt n) h r d = aV V (row n r) (col h d) from (vT_eq m c n h r d).trans (congrFun S.v.symm _),
    show vsT m c (pt n) h d = aS V h d from (vsT_eq m c n h d).trans (congrFun S.vs.symm _)]
  exact div_eq _ _ (S.ps h d)

theorem gV_ref (n : Fin 128) (h : Fin 64) (r d : Fin 128) : gV m c (pt n) h r d = res_main_v66 (F := Ideal) V (ix3 (row n r) h d) := by
  unfold gV vcode
  rw [q66]
  exact congrArg clip (div_vs S n h r d)

/-! ## The arrays -/

theorem tilesQ : tiles (gQ m c) = Host.convertf (F := Ideal) (φ := .f32) .fp8e4m3 (shapeCast S16384x8192 (res_main_v67 (F := Ideal) V) shapeCasts_S16384x64x128_S16384x8192) := by
  funext i
  obtain ⟨n, r, h, d, rfl⟩ := idx_tile i
  exact (tiles_at _ n r h d).trans ((gQ_ref S n h r d).trans (codes_at _ (row n r) h d).symm)

theorem tilesK : tiles (gK m c) = Host.convertf (F := Ideal) (φ := .f32) .fp8e4m3 (shapeCast S16384x8192 (res_main_v68 (F := Ideal) V) shapeCasts_S16384x64x128_S16384x8192) := by
  funext i
  obtain ⟨n, r, h, d, rfl⟩ := idx_tile i
  exact (tiles_at _ n r h d).trans ((gK_ref S n h r d).trans (codes_at _ (row n r) h d).symm)

theorem tilesV : tiles (gV m c) = Host.convertf (F := Ideal) (φ := .f32) .fp8e4m3 (shapeCast S16384x8192 (res_main_v66 (F := Ideal) V) shapeCasts_S16384x64x128_S16384x8192) := by
  funext i
  obtain ⟨n, r, h, d, rfl⟩ := idx_tile i
  exact (tiles_at _ n r h d).trans ((gV_ref S n h r d).trans (codes_at _ (row n r) h d).symm)

omit S in
/-- Every index of a table a block is a block, a head and a lane. -/
theorem idx_rows (i : S128x64x128.Idx) : ∃ (n : Fin 128) (h : Fin 64) (d : Fin 128), i = ix3 n h d :=
  ⟨i 0, i 1, i 2, by funext a; fin_cases a <;> rfl⟩

theorem rowsM : rows (gM m c) = extf (F := Ideal) (φ := .bf16) .f32 (res_main_v5 (F := Ideal) V) bitsLt_bf16_f32 := by
  funext i
  obtain ⟨n, h, d, rfl⟩ := idx_rows i
  exact gM_ref S n h d

theorem rowsS : rows (gS m c) = broadcastInDim S128x64x128 ![0, 1, 2] bcast_S128x64x1_S128x64x128_0_1_2 (shapeCast _ (res_main_v26 (F := Ideal) V) shapeCasts_S128x1x64x1_S128x64x1) := by
  funext i
  obtain ⟨n, h, d, rfl⟩ := idx_rows i
  exact (gS_ref S n h d).trans (qs_at _ n h d).symm

theorem rowsL : rows (gL m c) = shapeCast S128x64x128 (broadcastInDim S128x64x2x64 ![0, 1, 2, 3] bcast_S128x64x2x1_S128x64x2x64_0_1_2_3 (broadcastInDim S128x64x2x1 ![0, 1, 2] bcast_S128x64x2_S128x64x2x1_0_1_2 (transpose S128x64x2 [0, 2, 1] (shapeCast _ (res_main_v54 (F := Ideal) V) shapeCasts_S256x1x64x1_S128x2x64) transposes_S128x2x64_S128x64x2_0_2_1))) shapeCasts_S128x64x2x64_S128x64x128 := by
  funext i
  obtain ⟨n, h, d, rfl⟩ := idx_rows i
  exact (gL_ref S n h d).trans (ks_at _ n h d).symm

end Cert.AttendRefIdeal.Hand
-- ==== Proof.RefOut.lean ====
/- The reference's scores, probabilities and output, entry by entry, at the extended reals. -/
module

public import proofs.«01_k».proof.Proof.Match

@[expose] public section

set_option maxRecDepth 16384

noncomputable section

namespace Cert.AttendRefIdeal.Hand

open Cert.AttendRefIdeal Cert.AttendRefIdeal.Gen Cert.AttendRefIdeal.Value Cert.Lowp
open Cert.AttendIdeal.Hand (row col pt tiles rows)
open Idealize.ShloMosaic Idealize.ShloMosaic.TcCoe

theorem sel_at {α : Type} {s : Shape} (M : IVec s 1) (X Y : s.Idx → α) (i : s.Idx) : select M X Y i = if M i = 1#1 then X i else Y i := rfl

/-- A score, of the codes, the means and the scales. -/
def sW (W5 : FVec Ideal S128x64x128 .bf16) (W26 : FVec Ideal S128x1x64x1 .f32) (W54 : FVec Ideal S256x1x64x1 .f32) (W67 W68 : FVec Ideal S16384x64x128 .f32) (h : Fin 64) (q κ : Fin 16384) : EReal :=
  Ideal.div (W54 (ix4 ⟨κ.val / 64, by omega⟩ 0 h 0) * (W26 (ix4 ⟨q.val / 128, by omega⟩ 0 h 0) * (∑ d : Fin 128, W67 (ix3 q h d) * W68 (ix3 κ h d))
      + ∑ d : Fin 128, W5 (ix3 ⟨q.val / 128, by omega⟩ h d) * W68 (ix3 κ h d))) (FloatOps.sqrt (F := Ideal) (φ := .f32) (Ideal.ofBits .f32 0x43000000#32))

/-- A score of the reference. -/
theorem score_at (W5 : FVec Ideal S128x64x128 .bf16) (W26 : FVec Ideal S128x1x64x1 .f32) (W54 : FVec Ideal S256x1x64x1 .f32) (W67 W68 : FVec Ideal S16384x64x128 .f32) (h : Fin 64) (q κ : Fin 16384) :
    Host.divf (mulf (broadcastInDim S64x16384x16384 ![0, 1, 2] bcast_S64x1x16384_S64x16384x16384_0_1_2 (broadcastInDim S64x1x16384 ![0, 2] bcast_S64x16384_S64x1x16384_0_2 (transpose S64x16384 [1, 0] (shapeCast _ (broadcastInDim S256x64x64x1 ![0, 1, 2, 3] bcast_S256x1x64x1_S256x64x64x1_0_1_2_3 W54) shapeCasts_S256x64x64x1_S16384x64) transposes_S16384x64_S64x16384_1_0))) (addf (mulf (broadcastInDim S64x16384x16384 ![0, 1, 2] bcast_S64x16384x1_S64x16384x16384_0_1_2 (broadcastInDim S64x16384x1 ![0, 1] bcast_S64x16384_S64x16384x1_0_1 (transpose S64x16384 [1, 0] (shapeCast _ (broadcastInDim S128x128x64x1 ![0, 1, 2, 3] bcast_S128x1x64x1_S128x128x64x1_0_1_2_3 W26) shapeCasts_S128x128x64x1_S16384x64) transposes_S16384x64_S64x16384_1_0))) (Host.dotGeneral dot_S16384x64x128_S16384x64x128_S64x16384x16384_2_2_0_0_1_1 none W67 W68)) (shapeCast _ (broadcastInDim S64x128x128x16384 ![0, 1, 2, 3] bcast_S64x128x1x16384_S64x128x128x16384_0_1_2_3 (broadcastInDim S64x128x1x16384 ![0, 1, 3] bcast_S64x128x16384_S64x128x1x16384_0_1_3 (Host.dotGeneral dot_S128x64x128_S16384x64x128_S64x128x16384_2_2_0_0_1_1 none W5 (truncf .bf16 W68 bitsLt_bf16_f32)))) shapeCasts_S64x128x128x16384_S64x16384x16384))) (broadcastInDim S64x16384x16384 ![] bcast_S_S64x16384x16384 (Host.sqrt (constant S_ .f32 0x43000000#32))) (ix3 h q κ) = sW W5 W26 W54 W67 W68 h q κ := by
  refine by_pred fun P hP => ?_
  unfold sW at hP
  pointwise []
  exact hP

/-- Which keys a query sees. -/
theorem mask_at (h : Fin 64) (q κ : Fin 16384) :
    broadcastInDim S64x16384x16384 ![1, 2] bcast_S16384x16384_S64x16384x16384_1_2 (andi (cmpi .sle (iotaInDim S16384x16384 32 1) (iotaInDim S16384x16384 32 0)) (cmpi .sgt (iotaInDim S16384x16384 32 1) (subi (iotaInDim S16384x16384 32 0) (broadcastInDim S16384x16384 ![] bcast_S_S16384x16384 (constantI S_ 32 1536#32))))) (ix3 h q κ) = IntOp.andi (IntOp.cmpi .sle (BitVec.ofNat 32 κ.val) (BitVec.ofNat 32 q.val)) (IntOp.cmpi .sgt (BitVec.ofNat 32 κ.val) (IntOp.subi (BitVec.ofNat 32 q.val) 1536#32)) := by
  pointwise []

theorem prob_at (W : FVec Ideal S64x16384x16384 .f32) (h : Fin 64) (q κ : Fin 16384) :
    Host.exp (subf W (broadcastInDim S64x16384x16384 ![0, 1, 2] bcast_S64x16384x1_S64x16384x16384_0_1_2 (broadcastInDim S64x16384x1 ![0, 1] bcast_S64x16384_S64x16384x1_0_1 (Host.reduce FloatOps.maximumf W (constant S_ .f32 0xFF800000#32) reducesTo_S64x16384x16384_S64x16384_d2 h_S_)))) (ix3 h q κ)
      = FloatOps.exp (F := Ideal) (φ := .f32) (W (ix3 h q κ) - Finset.fold max ninf (fun κ' => W (ix3 h q κ')) Finset.univ) := by
  refine by_pred fun P hP => ?_
  pointwise []
  exact hP

theorem out_at (W66 : FVec Ideal S16384x64x128 .f32) (W103 : FVec Ideal S64x16384x16384 .f32) (Wvs : FVec Ideal S64x128 .f32) (q : Fin 16384) (h : Fin 64) (d : Fin 128) :
    (shapeCast S16384x8192 (truncf .bf16 (Host.divf (mulf (mulf (transpose S16384x64x128 [2, 0, 1] (Host.dotGeneral dot_S16384x64x128_S64x16384x16384_S64x128x16384_0_2_2_1_1_0 none W66 (minimumf (broadcastInDim S64x16384x16384 ![] bcast_S_S64x16384x16384 (id (constant S_ .f32 0x43E00000#32))) (maximumf (broadcastInDim S64x16384x16384 ![] bcast_S_S64x16384x16384 (id (constant S_ .f32 0xC3E00000#32))) (mulf W103 (broadcastInDim S64x16384x16384 ![] bcast_S_S64x16384x16384 (constant S_ .f32 0x43800000#32)))))) transposes_S64x128x16384_S16384x64x128_2_0_1) (broadcastInDim S16384x64x128 ![] bcast_S_S16384x64x128 (constant S_ .f32 0x3B800000#32))) (broadcastInDim S16384x64x128 ![0, 1, 2] bcast_S1x64x128_S16384x64x128_0_1_2 (broadcastInDim S1x64x128 ![1, 2] bcast_S64x128_S1x64x128_1_2 Wvs))) (broadcastInDim S16384x64x128 ![0, 1, 2] bcast_S16384x64x1_S16384x64x128_0_1_2 (broadcastInDim S16384x64x1 ![0, 1] bcast_S16384x64_S16384x64x1_0_1 (transpose S16384x64 [1, 0] (Host.reduceAdd W103 (constant S_ .f32 0x00000000#32) reducesTo_S64x16384x16384_S64x16384_d2 h_S_) transposes_S64x16384_S16384x64_1_0)))) bitsLt_bf16_f32) shapeCasts_S16384x64x128_S16384x8192 : FVec Ideal S16384x8192 .bf16) (ix2 q (col h d))
      = Ideal.div ((∑ κ : Fin 16384, W66 (ix3 κ h d) * clip (W103 (ix3 h q κ) * Ideal.ofBits .f32 0x43800000#32)) * Ideal.ofBits .f32 0x3B800000#32 * Wvs (ix2 h d)) (∑ κ : Fin 16384, W103 (ix3 h q κ)) := by
  refine by_pred fun P hP => ?_
  pointwise [clip]
  have e2 : (⟨(col h d).val / 128, by have := (col h d).isLt; omega⟩ : Fin 64) = h := Fin.ext (by show (128 * h.val + d.val) / 128 = h.val; omega)
  have e3 : (⟨(col h d).val % 128, by omega⟩ : Fin 128) = d := Fin.ext (by show (128 * h.val + d.val) % 128 = d.val; omega)
  rw [e2, e3]
  exact hP

/-- The keys that a query sees are those of the 1536 positions up to its own. -/
theorem vis_words (q κ : Fin 16384) :
    IntOp.andi (IntOp.cmpi .sle (BitVec.ofNat 32 κ.val) (BitVec.ofNat 32 q.val)) (IntOp.cmpi .sgt (BitVec.ofNat 32 κ.val) (IntOp.subi (BitVec.ofNat 32 q.val) 1536#32)) = 1#1
      ↔ κ.val ≤ q.val ∧ q.val < κ.val + 1536 := by
  have hq := q.isLt
  have hk := κ.isLt
  have tk : (BitVec.ofNat 32 κ.val).toInt = κ.val := by rw [BitVec.toInt_ofNat']; simp only [Int.bmod]; omega
  have tq : (BitVec.ofNat 32 q.val).toInt = q.val := by rw [BitVec.toInt_ofNat']; simp only [Int.bmod]; omega
  have ts : (IntOp.subi (BitVec.ofNat 32 q.val) 1536#32).toInt = q.val - 1536 := by
    show (BitVec.ofNat 32 q.val - 1536#32).toInt = _
    rw [BitVec.toInt_sub, tq, show (1536#32 : BitVec 32).toInt = 1536 from rfl]
    simp only [Int.bmod]; omega
  have e1 : IntOp.cmpi .sle (BitVec.ofNat 32 κ.val) (BitVec.ofNat 32 q.val) = BitVec.ofBool (decide (κ.val ≤ q.val)) := by
    show BitVec.ofBool (BitVec.sle _ _) = _
    rw [BitVec.sle_eq_decide, tk, tq]; simp
  have e2 : IntOp.cmpi .sgt (BitVec.ofNat 32 κ.val) (IntOp.subi (BitVec.ofNat 32 q.val) 1536#32) = BitVec.ofBool (decide (q.val < κ.val + 1536)) := by
    show BitVec.ofBool (BitVec.slt _ _) = _
    rw [BitVec.slt_eq_decide, tk, ts]
    exact congrArg BitVec.ofBool (decide_eq_decide.2 (by omega))
  rw [e1, e2]
  by_cases h1 : κ.val ≤ q.val <;> by_cases h2 : q.val < κ.val + 1536 <;> simp [h1, h2, IntOp.andi]

variable (V : Valuation τ sig (Elt Ideal))

/-- The reference's score of a key, seen or not. -/
def sR (h : Fin 64) (q κ : Fin 16384) : EReal :=
  sW (res_main_v5 (F := Ideal) V) (res_main_v26 (F := Ideal) V) (res_main_v54 (F := Ideal) V) (res_main_v67 (F := Ideal) V) (res_main_v68 (F := Ideal) V) h q κ

/-- The reference's masked score. -/
def mR (h : Fin 64) (q κ : Fin 16384) : EReal := if κ.val ≤ q.val ∧ q.val < κ.val + 1536 then sR V h q κ else ninf

/-- The reference's probability, not yet divided by the sum. -/
def pR (h : Fin 64) (q κ : Fin 16384) : EReal := FloatOps.exp (F := Ideal) (φ := .f32) (mR V h q κ - Finset.fold max ninf (fun κ' => mR V h q κ') Finset.univ)

theorem q98 (h : Fin 64) (q κ : Fin 16384) : res_main_v98 (F := Ideal) V (ix3 h q κ) = mR V h q κ := by
  unfold res_main_v98
  refine (sel_at _ _ _ _).trans ?_
  unfold mR
  refine if_congr ?_ (score_at _ _ _ _ _ h q κ) rfl
  exact (Iff.of_eq (congrArg (· = 1#1) (mask_at h q κ))).trans (vis_words q κ)

theorem q103 (h : Fin 64) (q κ : Fin 16384) : res_main_v103 (F := Ideal) V (ix3 h q κ) = pR V h q κ := by
  unfold res_main_v103
  refine (prob_at _ h q κ).trans ?_
  unfold pR
  simp only [q98]

end Cert.AttendRefIdeal.Hand
-- ==== Proof.Scores.lean ====
/- A score of the kernel and the reference's score are one real number, up to the base of the exponential. -/
module

public import proofs.«01_k».proof.Proof.Soft

@[expose] public section

set_option maxRecDepth 16384

noncomputable section

namespace Cert.Lowp

open Idealize.ShloMosaic

theorem sqrt_128 : FloatOps.sqrt (F := Ideal) (φ := .f32) (Ideal.ofBits .f32 0x43000000#32) = ((Real.sqrt 128 : ℝ) : EReal) := by
  rw [ofBits_128]
  show Ideal.sqrt ((128 : ℝ) : EReal) = _
  show (if (128 : ℝ) < 0 then _ else ((Real.sqrt 128 : ℝ) : EReal)) = _
  rw [if_neg (by norm_num)]

theorem div_coe (a b : ℝ) (hb : b ≠ 0) : Ideal.div (a : EReal) (b : EReal) = ((a / b : ℝ) : EReal) := by
  have h : (b : EReal) ≠ 0 := by rw [← EReal.coe_zero]; exact fun h => hb (EReal.coe_eq_coe_iff.1 h)
  rw [Ideal.div, if_neg h, ← EReal.coe_inv, ← EReal.coe_mul, div_eq_mul_inv]

/-- A score of real codes, means and scales: the reference's number and the kernel's. -/
theorem scores (Q u K : Fin 128 → EReal) (s L : EReal) (hQ : ∀ d, ∃ a : ℝ, Q d = a) (hu : ∀ d, ∃ a : ℝ, u d = a) (hK : ∀ d, ∃ a : ℝ, K d = a)
    (hs : ∃ a : ℝ, 0 < a ∧ s = a) (hL : ∃ a : ℝ, 0 < a ∧ L = a) :
    ∃ σ : ℝ, Ideal.div (L * (s * (∑ d, Q d * K d) + ∑ d, u d * K d)) (FloatOps.sqrt (F := Ideal) (φ := .f32) (Ideal.ofBits .f32 0x43000000#32)) = (σ : EReal)
      ∧ ((∑ d, Q d * K d) + ((∑ d, (u d * Ideal.div (Ideal.ofBits .f32 1065353216#32) s) * K d) + 0)) * (L * (s * (((Real.sqrt 128)⁻¹ * (Real.log 2)⁻¹ : ℝ) : EReal)))
        = ((σ / Real.log 2 : ℝ) : EReal) := by
  choose q hq using hQ
  choose w hw using hu
  choose k hk using hK
  obtain ⟨s', hs0, rfl⟩ := hs
  obtain ⟨l', hl0, rfl⟩ := hL
  have h128 : Real.sqrt 128 ≠ 0 := (Real.sqrt_pos.2 (by norm_num)).ne'
  have eA : (∑ d, Q d * K d) = ((∑ d, q d * k d : ℝ) : EReal) := by
    rw [← coe_sum]; exact Finset.sum_congr rfl fun d _ => by rw [hq, hk, EReal.coe_mul]
  have eB : (∑ d, u d * K d) = ((∑ d, w d * k d : ℝ) : EReal) := by
    rw [← coe_sum]; exact Finset.sum_congr rfl fun d _ => by rw [hw, hk, EReal.coe_mul]
  have eC : (∑ d, (u d * Ideal.div (Ideal.ofBits .f32 1065353216#32) s') * K d) = (((∑ d, w d * k d) / s' : ℝ) : EReal) := by
    rw [Finset.sum_div, ← coe_sum]
    refine Finset.sum_congr rfl fun d _ => ?_
    rw [hw, hk, ofBits_one, div_coe _ _ hs0.ne', ← EReal.coe_mul, ← EReal.coe_mul]
    congr 1; ring
  refine ⟨l' * (s' * (∑ d, q d * k d) + ∑ d, w d * k d) / Real.sqrt 128, ?_, ?_⟩
  · rw [eA, eB, sqrt_128, ← EReal.coe_mul, ← EReal.coe_add, ← EReal.coe_mul, div_coe _ _ h128]
  · rw [eA, eC, add_zero, ← EReal.coe_add, ← EReal.coe_mul, ← EReal.coe_mul, ← EReal.coe_mul]
    congr 1
    have hl : Real.log 2 ≠ 0 := (Real.log_pos (by norm_num)).ne'
    have := hs0.ne'
    field_simp

/-- A block that is not there scores `⊥`. -/
theorem score_dead (x y L a : EReal) (hL : 0 < L) (ha : 0 < a) : (x + (y + ⊥)) * (L * a) = ⊥ := by
  rw [EReal.add_bot, EReal.add_bot]
  exact EReal.bot_mul_of_pos (EReal.mul_pos hL ha)

theorem score_congr {Q Q' K K' : Fin 128 → Fin 128 → EReal} {u u' S S' : Fin 128 → EReal} {a a' x x' : EReal} (r c : Fin 128) (hQ : ∀ d, Q r d = Q' r d)
    (hu : ∀ d, u d = u' d) (ha : a = a') (hx : x = x') (hK : ∀ d, K c d = K' c d) (hS : S c = S' c) : score Q u a x K S r c = score Q' u' a' x' K' S' r c := by
  unfold score
  simp only [hQ, hu, ha, hx, hK, hS]

theorem score_bot {Q K : Fin 128 → Fin 128 → EReal} {u S : Fin 128 → EReal} {a x : EReal} (r c : Fin 128) (hx : x = ⊥) (hS : 0 < S c) (ha : 0 < a) :
    score Q u a x K S r c = ⊥ := by
  unfold score
  rw [hx]
  exact score_dead _ _ _ _ hS ha

theorem scale_pos (s : EReal) (hs : ∃ a : ℝ, 0 < a ∧ s = a) : 0 < s * (((Real.sqrt 128)⁻¹ * (Real.log 2)⁻¹ : ℝ) : EReal) := by
  obtain ⟨a, h, rfl⟩ := hs
  have h128 : 0 < Real.sqrt 128 := Real.sqrt_pos.2 (by norm_num)
  have hl : 0 < Real.log 2 := Real.log_pos (by norm_num)
  rw [← EReal.coe_mul]
  exact EReal.coe_pos.2 (by positivity)

/-- A scale of finite numbers is real and positive. -/
theorem scl_real {n : ℕ} (D : Fin (n + 1) → Fin 128 → EReal) (h : ∀ r d, Fin' ((2 : ℝ) ^ (129 : ℤ)) (D r d)) : ∃ a : ℝ, 0 < a ∧ scl D = a := by
  obtain ⟨r, hr, h0, h1⟩ := quo_real D h
  exact ⟨(2 : ℝ) ^ refExp r, zpow_pos (by norm_num) _, by rw [scl, hr, (scales r h1).1]⟩

end Cert.Lowp
-- ==== Proof.Out.lean ====
/- One trip's tile of the output is the reference's, when the rings hold the last thirteen blocks. -/
module

public import proofs.«01_k».proof.Proof.Ring
public import proofs.«01_k».proof.Proof.RefOut
public import proofs.«01_k».proof.Proof.Scores

@[expose] public section

set_option maxRecDepth 16384

noncomputable section

namespace Cert.AttendIdeal.Hand

open Cert.AttendIdeal Cert.AttendIdeal.Gen Cert.Lowp
open Cert.AttendRefIdeal.Hand (Same aS sR mR pR half xT_ref grp_ref cen_fin' bK_fin gQ_ref gK_ref gV_ref gM_ref gS_ref gL_ref)
open Cert.AttendRefIdeal.Value (res_main_v5 res_main_v26 res_main_v54 res_main_v66 res_main_v67 res_main_v68)
open Idealize.ShloMosaic Idealize.ShloMosaic.TcCoe

theorem dead_words : ∀ (t : Fin 128) (j : Fin 13), Scalar.cmpi .slt (Scalar.addi (BitVec.ofNat 32 t.val) (BitVec.ofNat 32 j.val)) 12#32 = BitVec.ofBool (decide (t.val + j.val < 12)) := by
  decide +kernel

/-- The `j`-th block is before the first one. -/
theorem dead_bot (t : Fin 128) (j : Fin 13) (h : t.val + j.val < 12) : deadV (BitVec.ofNat 32 t.val) j.val = ⊥ := by
  unfold deadV
  rw [dead_words, decide_eq_true h]
  exact ninf_eq

/-- The `j`-th block is one of the launch's. -/
theorem dead_zero (t : Fin 128) (j : Fin 13) (h : 12 ≤ t.val + j.val) : deadV (BitVec.ofNat 32 t.val) j.val = 0 := by
  unfold deadV
  rw [dead_words, decide_eq_false (by omega)]
  exact ofBits_zero

variable (m : (ℓ : Loc nD τ sig) → Buf (Elt Ideal) ℓ) (c : Dev nD)

theorem wu1 (t : Fin cfg0.N) (k : Fin 64) (d : Fin 128) :
    trip.sl.r_1 (F := Ideal) (ms0_0 t) ((hs0_0 t).unread (iblk (F := Ideal) m c 0 t)) k (ix2 0 d)
      = gM m c t k d * Ideal.div (Ideal.ofBits .f32 1065353216#32) (gS m c t k 0) := by
  rw [w_r_1, pay49_read, r60 (ms0_0 t) ((hs0_0 t).unread (iblk (F := Ideal) m c 0 t)) k d, r151 (ms0_0 t) ((hs0_0 t).unread (iblk (F := Ideal) m c 0 t)) k, ldT0]
  rfl

theorem wa (t : Fin cfg0.N) (k : Fin 64) (d : Fin 128) :
    trip.sl.v447 (F := Ideal) (ms0_0 t) ((hs0_0 t).unread (iblk (F := Ideal) m c 0 t)) k (ix2 0 d)
      = gS m c t k 0 * (((Real.sqrt 128)⁻¹ * (Real.log 2)⁻¹ : ℝ) : EReal) := by
  rw [w_v447, pay50_read, r151 (ms0_0 t) ((hs0_0 t).unread (iblk (F := Ideal) m c 0 t)) k, ldT0]
  rfl

theorem wvs (t : Fin cfg0.N) (k : Fin 64) (d : Fin 128) :
    trip.sl.r (F := Ideal) (ms0_4 t) ((hs0_4 t).unread (iblk (F := Ideal) m c 4 t)) k (ix2 0 d) = vsT m c t k d :=
  congrFun (ldR4 m c t k) d

theorem wk3 (t : Fin cfg0.N) (k : Fin 64) (r d : Fin 128) :
    trip.sl.v387 (F := Ideal) (ms0_1 t) (ms0_3 t) ((hs0_1 t).unread (iblk (F := Ideal) m c 1 t)) ((hs0_3 t).unread (iblk (F := Ideal) m c 3 t)) k (ix3 0 r d) = gK m c t k r d := by
  rw [r387 (ms0_1 t) (ms0_3 t) ((hs0_1 t).unread (iblk (F := Ideal) m c 1 t)) ((hs0_3 t).unread (iblk (F := Ideal) m c 3 t)) k r d, ldT1, ldR3]
  rfl

theorem wv3 (t : Fin cfg0.N) (k : Fin 64) (r d : Fin 128) :
    trip.sl.v393 (F := Ideal) (ms0_2 t) (ms0_4 t) ((hs0_2 t).unread (iblk (F := Ideal) m c 2 t)) ((hs0_4 t).unread (iblk (F := Ideal) m c 4 t)) k (ix3 0 r d) = gV m c t k r d := by
  rw [r393 (ms0_2 t) (ms0_4 t) ((hs0_2 t).unread (iblk (F := Ideal) m c 2 t)) ((hs0_4 t).unread (iblk (F := Ideal) m c 4 t)) k r d, ldT2, ldR4]
  rfl

/-- What the three rings hold before head `k` at point `t`. -/
structure Rings (t k : ℕ) (X13 X14 : S64x1664x128.Idx → EReal) (X15 : S64x16x128.Idx → EReal) : Prop where
  rk : ∀ h, HasT (gK m c) h (upTo t k h) X13
  rv : ∀ h, HasT (gV m c) h (upTo t k h) X14
  rl : ∀ h, HasS (gL m c) h (upTo t k h) X15

section Trip

variable (t : Fin cfg0.N) (k : Fin 64)
  (f13 : scM0_0.view.ty.Contents (Elt Ideal)) (f14 : scM0_1.view.ty.Contents (Elt Ideal)) (f15 : scM0_2.view.ty.Contents (Elt Ideal))

/-- The ring of the keys' codes, this head's in it. -/
def G13 : scM0_0.view.ty.Contents (Elt Ideal) := g13 (grid0.coords t) k (ms0_1 t) (ms0_3 t) scM0_0 ((hs0_1 t).unread (iblk (F := Ideal) m c 1 t)) ((hs0_3 t).unread (iblk (F := Ideal) m c 3 t)) f13
/-- The ring of the values' codes, this head's in it. -/
def G14 : scM0_1.view.ty.Contents (Elt Ideal) := g14 (grid0.coords t) k (ms0_2 t) (ms0_4 t) scM0_1 ((hs0_2 t).unread (iblk (F := Ideal) m c 2 t)) ((hs0_4 t).unread (iblk (F := Ideal) m c 4 t)) f14
/-- The ring of the keys' scales, this head's in it. -/
def G15 : scM0_2.view.ty.Contents (Elt Ideal) := g15 (grid0.coords t) k (ms0_1 t) (ms0_3 t) scM0_2 (iota .tc S1x128 32 [1] iota_S1x128_d1_w32) ((hs0_1 t).unread (iblk (F := Ideal) m c 1 t)) ((hs0_3 t).unread (iblk (F := Ideal) m c 3 t)) f15

theorem Rings.step (h : Rings m c t.val k.val (scM0_0.view.read (Elt Ideal) f13) (scM0_1.view.read (Elt Ideal) f14) (scM0_2.view.read (Elt Ideal) f15)) :
    Rings m c t.val (k.val + 1) (scM0_0.view.read (Elt Ideal) (G13 m c t k f13)) (scM0_1.view.read (Elt Ideal) (G14 m c t k f14)) (scM0_2.view.read (Elt Ideal) (G15 m c t k f15)) :=
  ⟨HasT.step (gK m c) t k scM0_0 f13 _ (wk3 m c t k) h.rk, HasT.step (gV m c) t k scM0_1 f14 _ (wv3 m c t k) h.rv, HasS.step (gL m c) t k scM0_2 f15 _ (wl m c t k) h.rl⟩

theorem upTo_self (t k : ℕ) (h : Fin 64) (e : h.val = k) : upTo t (k + 1) h = t + 1 := if_pos (by omega)

theorem slot_add (b : ℕ) (c : Fin 128) : slot (b + 13) c = slot b c := Fin.ext (by show 128 * ((b + 13) % 13) + c.val = 128 * (b % 13) + c.val; omega)

theorem slotS_add (b : ℕ) : slotS (b + 13) = slotS b := Fin.ext (by show (b + 13) % 13 = b % 13; omega)

/-- The block that is the `j`-th at point `t`. -/
def blk (j : Fin 13) : Fin cfg0.N := ⟨t.val + j.val - 12, by have := t.isLt; omega⟩

variable (h : Rings m c t.val k.val (scM0_0.view.read (Elt Ideal) f13) (scM0_1.view.read (Elt Ideal) f14) (scM0_2.view.read (Elt Ideal) f15))
include h

theorem ldK (j : Fin 13) (hj : 12 ≤ t.val + j.val) (r d : Fin 128) : kld (grid0.coords t) k scM0_0 (G13 m c t k f13) j (ix3 0 r d) = gK m c (blk t j) k r d := by
  rw [kld_read]
  have e := (h.step m c t k f13 f14 f15).rk k (blk t j) (by rw [upTo_self _ _ _ rfl]; show t.val + j.val - 12 < t.val + 1; omega)
    (by rw [upTo_self _ _ _ rfl]; show t.val + 1 ≤ t.val + j.val - 12 + 13; omega) r d
  rw [← e, ← slot_add (blk t j).val]
  exact congrArg (fun s => View.read (Elt Ideal) scM0_0.view (G13 m c t k f13) (ix3 k (slot s r) d)) (show t.val + j.val + 1 = t.val + j.val - 12 + 13 by omega)

theorem ldV (j : Fin 13) (hj : 12 ≤ t.val + j.val) (r d : Fin 128) : kld (grid0.coords t) k scM0_1 (G14 m c t k f14) j (ix3 0 r d) = gV m c (blk t j) k r d := by
  rw [kld_read]
  have e := (h.step m c t k f13 f14 f15).rv k (blk t j) (by rw [upTo_self _ _ _ rfl]; show t.val + j.val - 12 < t.val + 1; omega)
    (by rw [upTo_self _ _ _ rfl]; show t.val + 1 ≤ t.val + j.val - 12 + 13; omega) r d
  rw [← e, ← slot_add (blk t j).val]
  exact congrArg (fun s => View.read (Elt Ideal) scM0_1.view (G14 m c t k f14) (ix3 k (slot s r) d)) (show t.val + j.val + 1 = t.val + j.val - 12 + 13 by omega)

theorem ldS (j : Fin 13) (hj : 12 ≤ t.val + j.val) (r : Fin 128) : sld (grid0.coords t) k scM0_2 (G15 m c t k f15) j (ix3 0 0 r) = gL m c (blk t j) k r := by
  rw [sld_read]
  have e := (h.step m c t k f13 f14 f15).rl k |>.old (blk t j) (by rw [upTo_self _ _ _ rfl]; show t.val + j.val - 12 < t.val + 1; omega)
    (by rw [upTo_self _ _ _ rfl]; show t.val + 1 ≤ t.val + j.val - 12 + 13; omega) r
  rw [← e, ← slotS_add (blk t j).val]
  exact congrArg (fun s => View.read (Elt Ideal) scM0_2.view (G15 m c t k f15) (ix3 k (slotS s) r)) (show t.val + j.val + 1 = t.val + j.val - 12 + 13 by omega)

theorem ldS_pos (j : Fin 13) (hj : t.val + j.val < 12) (r : Fin 128) : 0 < sld (grid0.coords t) k scM0_2 (G15 m c t k f15) j (ix3 0 0 r) := by
  rw [sld_read]
  exact (h.step m c t k f13 f14 f15).rl k |>.new _ (by omega) (by rw [upTo_self _ _ _ rfl]; omega) r

end Trip

/-! ## Against the reference -/

section Ref

variable (V : Valuation Cert.AttendRefIdeal.τ Cert.AttendRefIdeal.sig (Elt Ideal))

/-- The reference's codes of the values. -/
def vR (κ : Fin 16384) (h : Fin 64) (d : Fin 128) : EReal := res_main_v66 (F := Ideal) V (ix3 κ h d)

/-- The reference's output. -/
def refO (q : Fin 16384) (h : Fin 64) (d : Fin 128) : EReal :=
  Ideal.div ((∑ κ : Fin 16384, vR V κ h d * clip (pR V h q κ * Ideal.ofBits .f32 0x43800000#32)) * Ideal.ofBits .f32 0x3B800000#32 * aS V h d)
    (∑ κ : Fin 16384, pR V h q κ)

/-- The reference's output, of a block. -/
def gO (t : Fin cfg0.N) (h : Fin 64) (r d : Fin 128) : EReal := refO V (row ⟨t.val, t.isLt⟩ r) h d

variable {m c V} (S : Same m c V)
include S

theorem gS_real (n : Fin 128) (h : Fin 64) : ∃ a : ℝ, 0 < a ∧ gS m c (pt n) h 0 = a := by
  unfold gS
  rw [xT_ref S]
  exact scl_real _ (cen_fin' S n h)

theorem gL_real (n : Fin 128) (h : Fin 64) (r : Fin 128) : ∃ a : ℝ, 0 < a ∧ gL m c (pt n) h r = a := by
  unfold gL kscl
  rw [grp_ref S]
  exact scl_real _ (bK_fin S _ h)

theorem gM_real (n : Fin 128) (h : Fin 64) (d : Fin 128) : ∃ a : ℝ, gM m c (pt n) h d = a := by
  unfold gM
  rw [xT_ref S]
  obtain ⟨a, e, _⟩ := mean_fin (x := Cert.AttendRefIdeal.Hand.bX V n h) (fun r d => S.fx _ _) d
  exact ⟨a, e⟩

/-- The score of a query and a key, as both compute it. -/
theorem both (n b r c' : Fin 128) (h : Fin 64) : ∃ σ : ℝ, sR V h (row n r) (row b c') = (σ : EReal) ∧
    score (gQ m c (pt n) h) (fun d => gM m c (pt n) h d * Ideal.div (Ideal.ofBits .f32 1065353216#32) (gS m c (pt n) h 0))
      (gS m c (pt n) h 0 * (((Real.sqrt 128)⁻¹ * (Real.log 2)⁻¹ : ℝ) : EReal)) 0 (gK m c (pt b) h) (gL m c (pt b) h) r c' = ((σ / Real.log 2 : ℝ) : EReal) := by
  obtain ⟨σ, h1, h2⟩ := scores (gQ m c (pt n) h r) (gM m c (pt n) h) (gK m c (pt b) h c') (gS m c (pt n) h 0) (gL m c (pt b) h c')
    (fun d => clip_real _) (gM_real S n h) (fun d => clip_real _) (gS_real S n h) (gL_real S b h c')
  refine ⟨σ, ?_, h2⟩
  rw [← h1]
  have e1 : (⟨(row n r).val / 128, by have := (row n r).isLt; omega⟩ : Fin 128) = n := Fin.ext (by show (128 * n.val + r.val) / 128 = n.val; omega)
  have e2 : (⟨(row b c').val / 64, by have := (row b c').isLt; omega⟩ : Fin 256) = half b c' := Fin.ext (by show (128 * b.val + c'.val) / 64 = 2 * b.val + c'.val / 64; omega)
  unfold sR Cert.AttendRefIdeal.Hand.sW
  rw [e1, e2, gS_ref S, gL_ref S]
  simp only [gQ_ref S, gM_ref S, gK_ref S]

/-- The reference's score as a real number. -/
theorem sR_real (h : Fin 64) (n r : Fin 128) (κ : Fin 16384) : sR V h (row n r) κ = ((sR V h (row n r) κ).toReal : EReal) := by
  have e : κ = row ⟨κ.val / 128, by omega⟩ ⟨κ.val % 128, by omega⟩ := Fin.ext (by show κ.val = 128 * (κ.val / 128) + κ.val % 128; omega)
  obtain ⟨σ, h1, _⟩ := both S n ⟨κ.val / 128, by omega⟩ r ⟨κ.val % 128, by omega⟩ h
  rw [← e] at h1
  rw [h1]; rfl

theorem pS_ref (h : Fin 64) (n r : Fin 128) (κ : Fin 16384) : pS n r (fun κ => (sR V h (row n r) κ).toReal) κ = pR V h (row n r) κ := by
  have e : ∀ κ, mS n r (fun κ => (sR V h (row n r) κ).toReal) κ = mR V h (row n r) κ := fun κ => if_congr Iff.rfl (sR_real S h n r κ).symm rfl
  unfold pS pR
  rw [e]
  exact congrArg (fun z => FloatOps.exp (F := Ideal) (φ := .f32) (mR V h (row n r) κ - z)) (congrArg (fun f => Finset.fold max ninf f Finset.univ) (funext e))

section Trip

variable (n : Fin 128) (k : Fin 64)
  (f13 : scM0_0.view.ty.Contents (Elt Ideal)) (f14 : scM0_1.view.ty.Contents (Elt Ideal)) (f15 : scM0_2.view.ty.Contents (Elt Ideal))
  (h : Rings m c (pt n).val k.val (scM0_0.view.read (Elt Ideal) f13) (scM0_1.view.read (Elt Ideal) f14) (scM0_2.view.read (Elt Ideal) f15))

include h

/-- The trip's scores and values are those of a row of the reference. -/
theorem row_of (r : Fin 128) : Row n r
    (scW (grid0.coords (pt n)) k (ms0_0 (pt n)) (ms0_1 (pt n)) (ms0_3 (pt n)) scM0_0 scM0_2 (BitVec.ofNat 32 ((grid0.coords (pt n)) 0).val) (iota .tc S1x128 32 [1] iota_S1x128_d1_w32)
      ((hs0_0 (pt n)).unread (iblk (F := Ideal) m c 0 (pt n))) ((hs0_1 (pt n)).unread (iblk (F := Ideal) m c 1 (pt n))) ((hs0_3 (pt n)).unread (iblk (F := Ideal) m c 3 (pt n))) f13 f15)
    (vlW (grid0.coords (pt n)) k (ms0_2 (pt n)) (ms0_4 (pt n)) scM0_1 ((hs0_2 (pt n)).unread (iblk (F := Ideal) m c 2 (pt n))) ((hs0_4 (pt n)).unread (iblk (F := Ideal) m c 4 (pt n))) f14)
    (fun κ => (sR V k (row n r) κ).toReal) (fun κ d => vR V κ k d) := by
  have ez : BitVec.ofNat 32 ((grid0.coords (pt n)) 0).val = BitVec.ofNat 32 n.val := congrArg (BitVec.ofNat 32) (coords_val (pt n))
  refine ⟨fun w c' hw => ?_, fun w c' hw => ?_, fun w c' d hw => ?_⟩
  · obtain ⟨σ, h1, h2⟩ := both S n ⟨n.val + w.val - 12, by omega⟩ r c' k
    have e : keyAt n w c' = row ⟨n.val + w.val - 12, by omega⟩ c' := rfl
    rw [e, h1]
    refine Eq.trans ?_ h2
    unfold scW
    refine score_congr r c' ?_ ?_ ?_ ?_ ?_ ?_
    · exact wq m c (pt n) k r
    · exact wu1 m c (pt n) k
    · exact wa m c (pt n) k c'
    · rw [ez]; exact dead_zero n w hw
    · exact ldK m c (pt n) k f13 f14 f15 h w hw c'
    · exact ldS m c (pt n) k f13 f14 f15 h w hw c'
  · unfold scW
    refine score_bot r c' ?_ ?_ ?_
    · rw [ez]; exact dead_bot n w hw
    · exact ldS_pos m c (pt n) k f13 f14 f15 h w hw c'
    · exact lt_of_lt_of_eq (scale_pos _ (gS_real S n k)) (wa m c (pt n) k c').symm
  · refine Eq.trans ?_ (gV_ref S ⟨n.val + w.val - 12, by omega⟩ k c' d)
    unfold vlW
    exact ldV m c (pt n) k f13 f14 f15 h w hw c' d

/-- The tile that the trip stores is the reference's. -/
theorem out_of (r d : Fin 128) :
    k0_pay5 (trip.sl.r (F := Ideal) (ms0_4 (pt n)) ((hs0_4 (pt n)).unread (iblk (F := Ideal) m c 4 (pt n))) k)
      (trip.sl.r_6 (F := Ideal) (grid0.coords (pt n)) (ms0_0 (pt n)) (ms0_1 (pt n)) (ms0_2 (pt n)) (ms0_3 (pt n)) (ms0_4 (pt n)) scM0_0 scM0_1 scM0_2 scM0_3 (BitVec.ofNat 32 ((grid0.coords (pt n)) 0).val) (iota .tc S1x128 32 [1] iota_S1x128_d1_w32)
        ((hs0_0 (pt n)).unread (iblk (F := Ideal) m c 0 (pt n))) ((hs0_1 (pt n)).unread (iblk (F := Ideal) m c 1 (pt n))) ((hs0_2 (pt n)).unread (iblk (F := Ideal) m c 2 (pt n))) ((hs0_3 (pt n)).unread (iblk (F := Ideal) m c 3 (pt n))) ((hs0_4 (pt n)).unread (iblk (F := Ideal) m c 4 (pt n))) k f13 f14 f15)
      (trip.sl.r_7 (F := Ideal) (grid0.coords (pt n)) (ms0_0 (pt n)) (ms0_1 (pt n)) (ms0_3 (pt n)) scM0_0 scM0_2 scM0_3 (BitVec.ofNat 32 ((grid0.coords (pt n)) 0).val) (iota .tc S1x128 32 [1] iota_S1x128_d1_w32)
        ((hs0_0 (pt n)).unread (iblk (F := Ideal) m c 0 (pt n))) ((hs0_1 (pt n)).unread (iblk (F := Ideal) m c 1 (pt n))) ((hs0_3 (pt n)).unread (iblk (F := Ideal) m c 3 (pt n))) k f13 f15)
      (trip.sl.r_8 (F := Ideal) (grid0.coords (pt n)) (ms0_0 (pt n)) (ms0_1 (pt n)) (ms0_2 (pt n)) (ms0_3 (pt n)) (ms0_4 (pt n)) scM0_0 scM0_1 scM0_2 scM0_3 (BitVec.ofNat 32 ((grid0.coords (pt n)) 0).val) (iota .tc S1x128 32 [1] iota_S1x128_d1_w32)
        ((hs0_0 (pt n)).unread (iblk (F := Ideal) m c 0 (pt n))) ((hs0_1 (pt n)).unread (iblk (F := Ideal) m c 1 (pt n))) ((hs0_2 (pt n)).unread (iblk (F := Ideal) m c 2 (pt n))) ((hs0_3 (pt n)).unread (iblk (F := Ideal) m c 3 (pt n))) ((hs0_4 (pt n)).unread (iblk (F := Ideal) m c 4 (pt n))) k f13 f14 f15)
      (ix2 r d) = gO V (pt n) k r d := by
  refine (t_out (grid0.coords (pt n)) k (ms0_0 (pt n)) (ms0_1 (pt n)) (ms0_2 (pt n)) (ms0_3 (pt n)) (ms0_4 (pt n)) scM0_0 scM0_1 scM0_2 scM0_3 (BitVec.ofNat 32 ((grid0.coords (pt n)) 0).val) (iota .tc S1x128 32 [1] iota_S1x128_d1_w32)
        ((hs0_0 (pt n)).unread (iblk (F := Ideal) m c 0 (pt n))) ((hs0_1 (pt n)).unread (iblk (F := Ideal) m c 1 (pt n))) ((hs0_2 (pt n)).unread (iblk (F := Ideal) m c 2 (pt n))) ((hs0_3 (pt n)).unread (iblk (F := Ideal) m c 3 (pt n))) ((hs0_4 (pt n)).unread (iblk (F := Ideal) m c 4 (pt n))) f13 f14 f15 r d).trans ?_
  refine (row_eq (row_of S n k f13 f14 f15 h r) _ d).trans ?_
  rw [wvs]
  simp only [pS_ref S]
  rw [show vsT m c (pt n) k d = aS V k d from (vsT_eq m c n k d).trans (congrFun S.vs.symm _)]
  rfl

end Trip

end Ref

end Cert.AttendIdeal.Hand
-- ==== Proof.OutSpec.lean ====
/- What the launch leaves in all of its output blocks, at the extended reals, when its arguments are those of the reference. -/
module

public import proofs.«01_k».proof.Proof.Out

@[expose] public section

set_option maxRecDepth 16384

noncomputable section

namespace Cert.AttendIdeal.Hand

open Cert.AttendIdeal Cert.AttendIdeal.Gen Cert.Lowp
open Cert.AttendRefIdeal.Hand (Same)
open Idealize.ShloMosaic Idealize.ShloMosaic.TcCoe
open Idealize.ShloMosaic.Pipeline (Dat Cfg Window)

variable (m : (ℓ : Loc nD τ sig) → Buf (Elt Ideal) ℓ) (c : Dev nD)

theorem Rings.cast {t k t' k' : ℕ} {X13 X14 : S64x1664x128.Idx → EReal} {X15 : S64x16x128.Idx → EReal} (h : Rings m c t k X13 X14 X15)
    (e : ∀ i : Fin 64, upTo t k i = upTo t' k' i) : Rings m c t' k' X13 X14 X15 :=
  ⟨fun i => e i ▸ h.rk i, fun i => e i ▸ h.rv i, fun i => e i ▸ h.rl i⟩

/-- After the last head the rings are those before the next point. -/
theorem upTo_next (t : ℕ) (h : Fin 64) : upTo t 64 h = upTo (t + 1) 0 h := by
  unfold upTo
  rw [if_pos h.isLt, if_neg (Nat.not_lt_zero _)]

/-- The first point's rings: no block, and scales of one. -/
theorem Rings.first (t : ℕ) (ht : t = 0) (X13 X14 : S64x1664x128.Idx → EReal) (f : scM0_2.view.ty.Contents (Elt Ideal)) :
    Rings m c t 0 X13 X14 (scM0_2.view.read (Elt Ideal) (scM0_2.view.writes (Elt Ideal) f
      [⟨Rect.unit (s := S64x16x128) ![0, 0, 0] S64x16x128.size inb_S64x16x128_S64x16x128_0_0_0, k0_pay4 (F := Ideal)⟩])) := by
  have u (h : Fin 64) : upTo t 0 h = 0 := (if_neg (Nat.not_lt_zero _)).trans ht
  refine ⟨fun h b hb => ?_, fun h b hb => ?_, fun h => ⟨fun b hb => ?_, fun s _ _ c' => ?_⟩⟩
  · rw [u] at hb; exact absurd hb (Nat.not_lt_zero _)
  · rw [u] at hb; exact absurd hb (Nat.not_lt_zero _)
  · rw [u] at hb; exact absurd hb (Nat.not_lt_zero _)
  · have e : scM0_2.view.read (Elt Ideal) (scM0_2.view.writes (Elt Ideal) f
        [⟨Rect.unit (s := S64x16x128) ![0, 0, 0] S64x16x128.size inb_S64x16x128_S64x16x128_0_0_0, k0_pay4 (F := Ideal)⟩]) (ix3 h (slotS s) c')
        = k0_pay4 (F := Ideal) (ix3 h (slotS s) c') := by
      refine View.read_writes_cons_unit_of_mem scM0_2.view f _ _ [] _ (ix3 h (slotS s) c') rfl ?_
      intro a
      fin_cases a <;> simp
    rw [e]
    show (0 : EReal) < Ideal.ofBits .f32 1065353216#32
    rw [ofBits_one]
    exact EReal.coe_pos.2 (by norm_num)

variable {m c} (V : Valuation Cert.AttendRefIdeal.τ Cert.AttendRefIdeal.sig (Elt Ideal)) (S : Same m c V)

set_option maxHeartbeats 2000000 in
/-- The launch's blocks, of all outputs. -/
def specO : Spec (F := Ideal) m c where
  P t n X6 X7 X8 X9 X10 X11 X12 X13 X14 X15 := HoldsT (e := .bf16) (gO V t) n X6 ∧ Outs m c t n X7 X8 X9 X10 X11 X12 ∧ Rings m c t.val n X13 X14 X15
  RP n X13 X14 X15 := Rings m c n 0 X13 X14 X15
  Q5 t X := HoldsT (e := .bf16) (gO V t) 64 X
  Q6 t X := HoldsT (e := .fp8e4m3) (gQ m c t) 64 X
  Q7 t X := HoldsT (e := .fp8e4m3) (gK m c t) 64 X
  Q8 t X := HoldsT (e := .fp8e4m3) (gV m c t) 64 X
  Q9 t X := HoldsR (e := .f32) (gM m c t) 64 X
  Q10 t X := HoldsR (e := .f32) (gS m c t) 64 X
  Q11 t X := HoldsR (e := .f32) (gL m c t) 64 X
  step t k f6 f7 f8 f9 f10 f11 f12 f13 f14 f15 f16 h := by
    obtain ⟨ho, h, hr⟩ := h
    refine ⟨?_, ⟨?_, ?_, ?_, ?_, ?_, ?_⟩, ?_⟩
    · rw [pieces6]; exact HoldsT.step (ms0_5 t) f6 k _ (gO V t) ho (out_of S ⟨t.val, t.isLt⟩ k f13 f14 f15 hr)
    · rw [pieces7]; exact step_q m c t k f7 h.q
    · rw [pieces8]; exact step_k m c t k f8 h.k
    · rw [pieces9]; exact step_v m c t k f9 h.v
    · rw [pieces10]; exact step_u m c t k f10 h.u
    · rw [pieces11]; exact step_s m c t k f11 h.s
    · rw [pieces12]; exact step_l m c t k f12 h.l
    · refine ⟨?_, ?_, ?_⟩
      · rw [pieces13]; exact HasT.step (gK m c) t k scM0_0 f13 _ (wk3 m c t k) hr.rk
      · rw [pieces14]; exact HasT.step (gV m c) t k scM0_1 f14 _ (wv3 m c t k) hr.rv
      · rw [pieces15]; exact HasS.step (gL m c) t k scM0_2 f15 _ (wl m c t k) hr.rl
  init t ht f6 f7 f8 f9 f10 f11 f12 f13 f14 f15 := ⟨.zero _ _, .zero m c t _ _ _ _ _ _, Rings.first m c t.val ht _ _ f15⟩
  enter t _ X6 X7 X8 X9 X10 X11 X12 X13 X14 X15 h := ⟨.zero _ _, .zero m c t _ _ _ _ _ _, h⟩
  leave t X6 X7 X8 X9 X10 X11 X12 X13 X14 X15 h := ⟨h.1, h.2.1.q, h.2.1.k, h.2.1.v, h.2.1.u, h.2.1.s, h.2.1.l, h.2.2.cast m c (upTo_next t.val)⟩

end Cert.AttendIdeal.Hand

namespace Cert.AttendRefIdeal.Hand

open Cert.AttendRefIdeal Cert.AttendRefIdeal.Gen Cert.AttendRefIdeal.Value Cert.Lowp
open Cert.AttendIdeal.Hand (row col pt tiles gO refO vR)
open Idealize.ShloMosaic Idealize.ShloMosaic.TcCoe

/-- The output's tiles are the reference's array. -/
theorem tilesO (V : Valuation τ sig (Elt Ideal)) (W66 : FVec Ideal S16384x64x128 .f32) (W103 : FVec Ideal S64x16384x16384 .f32) (Wvs : FVec Ideal S64x128 .f32)
    (h66 : ∀ κ h d, W66 (ix3 κ h d) = vR V κ h d) (h103 : ∀ h q κ, W103 (ix3 h q κ) = pR V h q κ) (hvs : ∀ h d, Wvs (ix2 h d) = aS V h d) :
    tiles (gO V) = (shapeCast S16384x8192 (truncf .bf16 (Host.divf (mulf (mulf (transpose S16384x64x128 [2, 0, 1] (Host.dotGeneral dot_S16384x64x128_S64x16384x16384_S64x128x16384_0_2_2_1_1_0 none W66 (minimumf (broadcastInDim S64x16384x16384 ![] bcast_S_S64x16384x16384 (id (constant S_ .f32 0x43E00000#32))) (maximumf (broadcastInDim S64x16384x16384 ![] bcast_S_S64x16384x16384 (id (constant S_ .f32 0xC3E00000#32))) (mulf W103 (broadcastInDim S64x16384x16384 ![] bcast_S_S64x16384x16384 (constant S_ .f32 0x43800000#32)))))) transposes_S64x128x16384_S16384x64x128_2_0_1) (broadcastInDim S16384x64x128 ![] bcast_S_S16384x64x128 (constant S_ .f32 0x3B800000#32))) (broadcastInDim S16384x64x128 ![0, 1, 2] bcast_S1x64x128_S16384x64x128_0_1_2 (broadcastInDim S1x64x128 ![1, 2] bcast_S64x128_S1x64x128_1_2 Wvs))) (broadcastInDim S16384x64x128 ![0, 1, 2] bcast_S16384x64x1_S16384x64x128_0_1_2 (broadcastInDim S16384x64x1 ![0, 1] bcast_S16384x64_S16384x64x1_0_1 (transpose S16384x64 [1, 0] (Host.reduceAdd W103 (constant S_ .f32 0x00000000#32) reducesTo_S64x16384x16384_S64x16384_d2 h_S_) transposes_S64x16384_S16384x64_1_0)))) bitsLt_bf16_f32) shapeCasts_S16384x64x128_S16384x8192 : FVec Ideal S16384x8192 .bf16) := by
  funext i
  obtain ⟨n, r, h, d, rfl⟩ := idx_tile i
  refine (tiles_at _ n r h d).trans (Eq.symm ?_)
  refine (out_at _ _ _ (row n r) h d).trans ?_
  simp only [h66, h103, hvs]
  rfl

end Cert.AttendRefIdeal.Hand
-- ==== Proof.Agree.lean ====
/- The claims: the runs end with their arguments unchanged, and the two programs' results are equal. -/
module

public import proofs.«01_k».proof.Defs
public import proofs.«01_k».proof.Proof.PRun
public import proofs.«01_k».proof.Proof.OutSpec

@[expose] public section

set_option maxRecDepth 16384

noncomputable section

namespace Cert.Attend.Hand

open Cert.Attend Cert.Attend.Gen
open Idealize.ShloMosaic Idealize.ShloMosaic.TcCoe

/-- Nothing is asked of the contents. -/
def specTrue {F : FTy → Type} [FloatOps F] (m : (ℓ : Loc nD τ sig) → Buf (Elt F) ℓ) (c : Dev nD) : Spec (F := F) m c where
  P _ _ _ _ _ _ _ _ _ _ _ _ := True
  RP _ _ _ _ := True
  Q5 _ _ := True
  Q6 _ _ := True
  Q7 _ _ := True
  Q8 _ _ := True
  Q9 _ _ := True
  Q10 _ _ := True
  Q11 _ _ := True
  step := by intros; trivial
  init := by intros; trivial
  enter := by intros; trivial
  leave := by intros; exact ⟨trivial, trivial, trivial, trivial, trivial, trivial, trivial, trivial⟩

end Cert.Attend.Hand

namespace Cert.AttendIdeal.Hand

open Cert.AttendIdeal Cert.AttendIdeal.Gen Cert.Lowp
open Cert.AttendRefIdeal.Hand (Same)
open Idealize.ShloMosaic Idealize.ShloMosaic.TcCoe

theorem flush5 : ∀ t, (cfg0.win 5).flush t = true := by decide +kernel
theorem flush6 : ∀ t, (cfg0.win 6).flush t = true := by decide +kernel
theorem flush7 : ∀ t, (cfg0.win 7).flush t = true := by decide +kernel
theorem flush8 : ∀ t, (cfg0.win 8).flush t = true := by decide +kernel
theorem flush9 : ∀ t, (cfg0.win 9).flush t = true := by decide +kernel
theorem flush10 : ∀ t, (cfg0.win 10).flush t = true := by decide +kernel
theorem flush11 : ∀ t, (cfg0.win 11).flush t = true := by decide +kernel

variable (m : (ℓ : Loc nD τ sig) → Buf (Elt Ideal) ℓ) (ρ : Dev nD → PrngReg)

/-- The launch's run: the output, the quantised blocks and their tables, and the arguments unchanged. -/
theorem run_results (V : Dev nD → Valuation Cert.AttendRefIdeal.τ Cert.AttendRefIdeal.sig (Elt Ideal)) (S : ∀ c, Same m c (V c)) : θ_run (defs (F := Ideal)) (onTc (τ := τ) (main (F := Ideal))) ⟨m, fun _ => 0, ρ⟩ (fun r => ∀ c : Dev nD,
      r.2.mem ((c.tc : Thread nD τ).loc main_v0_0) = tiles (gO (V c))
      ∧ r.2.mem ((c.tc : Thread nD τ).loc main_v0_1) = tiles (gQ m c)
      ∧ r.2.mem ((c.tc : Thread nD τ).loc main_v0_2) = tiles (gK m c)
      ∧ r.2.mem ((c.tc : Thread nD τ).loc main_v0_3) = tiles (gV m c)
      ∧ r.2.mem ((c.tc : Thread nD τ).loc main_v0_4) = rows (gM m c)
      ∧ r.2.mem ((c.tc : Thread nD τ).loc main_v0_5) = rows (gS m c)
      ∧ r.2.mem ((c.tc : Thread nD τ).loc main_v0_6) = rows (gL m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  haveI : ∀ e, Nonempty (Elt Ideal e) := fun e => by cases e <;> exact ⟨default⟩
  refine (θ_run defs _ _).mono (fun r h c => ?_) (run_main ρ (fun c => specO (V c) (S c)))
  obtain ⟨after, hl, ha⟩ := Pipeline.RDat.FramePost.exists_exact h.1 c
  have L : ∀ (w : Fin cfg0.W) (t : Fin cfg0.N), outs0 w = true → (cfg0.win w).flush t = true → (specO (V c) (S c)).Rl w t (after w t) :=
    fun w t hw hf => Pipeline.Dat.toRRel_leaves (dats (fun c => specO (V c) (S c)) 0 c) (fgt := outs0) (Rl := (specO (V c) (S c)).Rl) hw (hl w t hf)
  refine ⟨(ha 5).trans (arr5 c (gO (V c)) _ fun t => ?_), (ha 6).trans (arr6 c (gQ m c) _ fun t => ?_), (ha 7).trans (arr7 c (gK m c) _ fun t => ?_), (ha 8).trans (arr8 c (gV m c) _ fun t => ?_),
    (ha 9).trans (arr9 c (gM m c) _ fun t => ?_), (ha 10).trans (arr10 c (gS m c) _ fun t => ?_), (ha 11).trans (arr11 c (gL m c) _ fun t => ?_),
    (Pipeline.RDat.FramePost.arr_in h.1 c 0 rfl).trans ((A_eq (fun c => specO (V c) (S c)) c 0).trans (V_main_arg0 m c)),
    (Pipeline.RDat.FramePost.arr_in h.1 c 1 rfl).trans ((A_eq (fun c => specO (V c) (S c)) c 1).trans (V_main_arg1 m c)),
    (Pipeline.RDat.FramePost.arr_in h.1 c 2 rfl).trans ((A_eq (fun c => specO (V c) (S c)) c 2).trans (V_main_arg2 m c)),
    (Pipeline.RDat.FramePost.arr_in h.1 c 3 rfl).trans ((A_eq (fun c => specO (V c) (S c)) c 3).trans (V_main_arg3 m c)),
    (Pipeline.RDat.FramePost.arr_in h.1 c 4 rfl).trans ((A_eq (fun c => specO (V c) (S c)) c 4).trans (V_main_arg4 m c))⟩
  · exact L 5 t rfl (flush5 t)
  · exact L 6 t rfl (flush6 t)
  · exact L 7 t rfl (flush7 t)
  · exact L 8 t rfl (flush8 t)
  · exact L 9 t rfl (flush9 t)
  · exact L 10 t rfl (flush10 t)
  · exact L 11 t rfl (flush11 t)

end Cert.AttendIdeal.Hand

namespace Cert.Proof

open Idealize.ShloMosaic Idealize.ShloMosaic.TcCoe
open Cert.AttendRefIdeal.Hand (Same)

theorem frame_p : Cert.quiescent_Attend := fun m g _ => Cert.Attend.Hand.frame_hand g (fun c => Cert.Attend.Hand.specTrue m c)

theorem frame_pi : Cert.quiescent_AttendIdeal := fun m g _ => Cert.AttendIdeal.Hand.frame_hand g (Cert.AttendIdeal.Hand.specQ m)

theorem frame_pi_pre : Cert.quiescent_AttendIdeal_pre_finite := fun m g _ => Cert.AttendIdeal.Hand.frame_hand g (Cert.AttendIdeal.Hand.specQ m)

theorem frame_ri : Cert.quiescent_AttendRefIdeal := fun m g _ =>
  (θ_run Cert.AttendRefIdeal.defs _ _).mono (fun r h => ⟨fun c => (h c).2.2.2.2.2.2.2, sem_eq_zero_of_no_sems (by decide) r.2⟩)
    (Cert.AttendRefIdeal.Value.run (F := Ideal) m g)

theorem frame_ri_pre : Cert.quiescent_AttendRefIdeal_pre_finite := fun m g _ => frame_ri m g trivial

theorem preserves : Cert.preserves_Attend_AttendIdeal :=
  IdealRules.named_const.statement Cert.AttendIdeal.κ "score_scale" .f32 0x3E0293EE#32 (((Real.sqrt 128)⁻¹ * (Real.log 2)⁻¹ : ℝ) : EReal) rfl

/-- Arguments that agree and that the precondition holds of. -/
theorem same (m : (ℓ : Loc Cert.AttendIdeal.nD Cert.AttendIdeal.τ Cert.AttendIdeal.sig) → Buf (Elt Ideal) ℓ)
    (m' : (ℓ : Loc Cert.AttendRefIdeal.nD Cert.AttendRefIdeal.τ Cert.AttendRefIdeal.sig) → Buf (Elt Ideal) ℓ)
    (hpre : Cert.Pre_AttendIdeal_finite m) (c : Dev Cert.AttendIdeal.nD)
    (e0 : m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0))
    (e1 : m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1))
    (e2 : m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2))
    (e3 : m' ((c.tc : Thread Cert.AttendRefIdeal.nD Cert.AttendRefIdeal.τ).loc Cert.AttendRefIdeal.main_arg3) = m ((c.tc : Thread Cert.AttendIdeal.nD Cert.AttendIdeal.τ).loc Cert.AttendIdeal.main_arg3))
    (e4 : m' ((c.tc : Thread Cert.AttendRefIdeal.nD Cert.AttendRefIdeal.τ).loc Cert.AttendRefIdeal.main_arg4) = m ((c.tc : Thread Cert.AttendIdeal.nD Cert.AttendIdeal.τ).loc Cert.AttendIdeal.main_arg4)) :
    Same m c (StableHlo.launchContents m' c) := by
  obtain ⟨hx, hk, hm, hs⟩ := Cert.Pre_finite.fn_finite _ _ _ _ _ (hpre c)
  refine ⟨e0, e1, e2, e3, e4, fun s q => ?_, fun s q => ?_, fun h d => ?_, fun h d => ?_⟩
  · exact cast (congrArg (Cert.Lowp.Fin' Cert.Lowp.big) (congrFun e0.symm _)) (hx (ix2 s q))
  · exact cast (congrArg (Cert.Lowp.Fin' Cert.Lowp.big) (congrFun e1.symm _)) (hk (ix2 s q))
  · exact cast (congrArg (Cert.Lowp.Fin' Cert.Lowp.big) (congrFun e3.symm _)) (hm (ix2 h d))
  · exact cast (congrArg (fun z : EReal => 0 < z) (congrFun e4.symm _)) (hs (ix2 h d))

theorem algebraic : Cert.algebraic_AttendIdeal_AttendRefIdeal_pre_finite := by
  intro m g m' g' hpre hag
  have hS := fun c => same m m' hpre c (hag c).1 (hag c).2.1 (hag c).2.2.1 (hag c).2.2.2.1 (hag c).2.2.2.2
  refine ⟨fun c => Cert.AttendIdeal.Hand.tiles (Cert.AttendIdeal.Hand.gO (StableHlo.launchContents m' c)),
    fun c => Cert.AttendIdeal.Hand.tiles (Cert.AttendIdeal.Hand.gQ m c), fun c => Cert.AttendIdeal.Hand.tiles (Cert.AttendIdeal.Hand.gK m c),
    fun c => Cert.AttendIdeal.Hand.tiles (Cert.AttendIdeal.Hand.gV m c), fun c => Cert.AttendIdeal.Hand.rows (Cert.AttendIdeal.Hand.gM m c),
    fun c => Cert.AttendIdeal.Hand.rows (Cert.AttendIdeal.Hand.gS m c), fun c => Cert.AttendIdeal.Hand.rows (Cert.AttendIdeal.Hand.gL m c), ?_, ?_⟩
  · refine (θ_run Cert.AttendIdeal.defs _ _).mono (fun r h c => ?_) (Cert.AttendIdeal.Hand.run_results m g (StableHlo.launchContents m') hS)
    obtain ⟨h0, h1, h2, h3, h4, h5, h6, ha⟩ := h c
    exact ⟨h0, h1, h2, h3, h4, h5, h6, ha⟩
  · refine (θ_run Cert.AttendRefIdeal.defs _ _).mono (fun r h c => ?_) (Cert.AttendRefIdeal.Value.run (F := Ideal) m' g')
    obtain ⟨h0, h1, h2, h3, h4, h5, h6, ha⟩ := h c
    exact ⟨h0.trans (Cert.AttendRefIdeal.Hand.tilesO _ _ _ _ (fun _ _ _ => rfl) (Cert.AttendRefIdeal.Hand.q103 _) (fun _ _ => rfl)).symm,
      h1.trans (Cert.AttendRefIdeal.Hand.tilesQ (hS c)).symm,
      h2.trans (Cert.AttendRefIdeal.Hand.tilesK (hS c)).symm,
      h3.trans (Cert.AttendRefIdeal.Hand.tilesV (hS c)).symm,
      h4.trans (Cert.AttendRefIdeal.Hand.rowsM (hS c)).symm,
      h5.trans (Cert.AttendRefIdeal.Hand.rowsS (hS c)).symm,
      h6.trans (Cert.AttendRefIdeal.Hand.rowsL (hS c)).symm, ha⟩

end Cert.Proof
-- ==== Proof.Gather.lean ====
/- The launch that gathers the mean of the keys and the scale of the values: what one point of its grid leaves. -/
module

public import proofs.«01_k».proof.Proof.Gen.StatsIdeal.Value
public import Idealize.ShloMosaic.Lib.Tactic

@[expose] public section

set_option maxRecDepth 16384

noncomputable section

namespace Cert.StatsIdeal.Hand

open Cert.StatsIdeal Cert.StatsIdeal.Gen Idealize.ShloMosaic Idealize.ShloMosaic.TcCoe

variable {F : FTy → Type} [FloatOps F]
variable (m : (ℓ : Loc nD τ sig) → Buf (Elt F) ℓ)

theorem hz : (![0, 0] : Fin 2 → Nat) = fun _ => 0 := funext fun a => by fin_cases a <;> rfl

variable (c : Dev nD) (i : grid0.Coords) (arg1 : Memref sig .tc .vmem S256x8192 .bf16) (harg1 : arg1.IsWhole)
  (arg2 : Memref sig .tc .vmem S256x8192 .bf16) (harg2 : arg2.IsWhole) (arg3 : Memref sig .tc .vmem S1x8192 .f32) (harg3 : arg3.IsWhole)
  (arg4 : Memref sig .tc .vmem S1x8192 .f32) (harg4 : arg4.IsWhole) (arg5 : Memref sig .tc .vmem S1x8192 .f32) (harg5 : arg5.IsWhole)
  (arg6 : Memref sig .tc .vmem S1x8192 .f32) (harg6 : arg6.IsWhole) (x0 x1 : Vec F S256x8192 .bf16) (xs0 xs1 : Vec F S1x8192 .f32)

theorem sum_A (hc0 : cond0_0 i) (hc1 : ¬cond0_1 i) :
    sout0_A_0 c i arg1 harg1 arg2 harg2 arg3 harg3 arg4 harg4 arg5 harg5 arg6 harg6 hc0 hc1 x0 x1 = k0_pay3 k0_pay1 x0 := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x8192) hz, View.readCov_unit_zero (S := S1x8192) _ hz]
  simp only [View.readAt_eq_ld, harg1.read_unread, View.ld_unit_zero (S := S256x8192) hz]

theorem peak_A (hc0 : cond0_0 i) (hc1 : ¬cond0_1 i) :
    sout0_A_1 c i arg1 harg1 arg2 harg2 arg3 harg3 arg4 harg4 arg5 harg5 arg6 harg6 hc0 hc1 x0 x1 = k0_pay4 k0_pay2 x1 := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x8192) hz, View.readCov_unit_zero (S := S1x8192) _ hz]
  simp only [View.readAt_eq_ld, harg2.read_unread, View.ld_unit_zero (S := S256x8192) hz]

theorem sum_B (hc0 : ¬cond0_0 i) (hc1 : ¬cond0_1 i) :
    sout0_B_0 c i arg1 harg1 arg2 harg2 arg3 harg3 arg4 harg4 arg5 harg5 arg6 harg6 hc0 hc1 x0 x1 xs0 xs1 = k0_pay3 xs0 x0 := by
  unfold sout0_B_0
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg1.read_unread, harg5.read_unread, View.ld_unit_zero (S := S256x8192) hz, View.ld_unit_zero (S := S1x8192) hz]

theorem peak_B (hc0 : ¬cond0_0 i) (hc1 : ¬cond0_1 i) :
    sout0_B_1 c i arg1 harg1 arg2 harg2 arg3 harg3 arg4 harg4 arg5 harg5 arg6 harg6 hc0 hc1 x0 x1 xs0 xs1 = k0_pay4 xs1 x1 := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg6.read_unread, View.ld_unit_zero (S := S256x8192) hz, View.ld_unit_zero (S := S1x8192) hz]

theorem sum_C (hc0 : ¬cond0_0 i) (hc1 : cond0_1 i) :
    out0_C_2 c i arg1 harg1 arg2 harg2 arg3 harg3 arg4 harg4 arg5 harg5 arg6 harg6 hc0 hc1 x0 x1 xs0 xs1 = k0_pay6 (k0_pay3 xs0 x0) := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero hz, View.readCov_unit_zero (S := S1x8192) _ hz]
  simp only [View.readAt_eq_ld, harg1.read_unread, harg5.read_unread, View.ld_unit_zero (S := S256x8192) hz, View.ld_unit_zero (S := S1x8192) hz]

theorem peak_C (hc0 : ¬cond0_0 i) (hc1 : cond0_1 i) :
    out0_C_3 c i arg1 harg1 arg2 harg2 arg3 harg3 arg4 harg4 arg5 harg5 arg6 harg6 hc0 hc1 x0 x1 xs0 xs1
      = k0_pay5 (k0_pay7 (k0_pay4 xs1 x1)) (k0_pay8 (k0_pay4 xs1 x1)) (k0_pay9 (k0_pay4 xs1 x1)) 23#32 := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero hz]
  simp only [View.readCov_unit_zero (S := S1x8192) _ hz]
  simp only [View.readAt_eq_ld, harg2.read_unread, harg6.read_unread, View.ld_unit_zero (S := S256x8192) hz, View.ld_unit_zero (S := S1x8192) hz]

end Cert.StatsIdeal.Hand
-- ==== Proof.Gathered.lean ====
/- The launch that gathers the mean of the keys and the scale of the values: what its two accumulators and its two results hold. -/
module

public import proofs.«01_k».proof.Proof.Gather

@[expose] public section

set_option maxRecDepth 16384

noncomputable section

namespace Cert.StatsIdeal.Hand

open Cert.StatsIdeal Cert.StatsIdeal.Gen Idealize.ShloMosaic Idealize.ShloMosaic.TcCoe

variable {F : FTy → Type} [FloatOps F]
variable (m : (ℓ : Loc nD τ sig) → Buf (Elt F) ℓ)

/-- The sums after point `n`. -/
def sums (c : Dev nD) : (n : ℕ) → n < cfg0.N → FVec F S1x8192 .f32
  | 0, h => k0_pay3 k0_pay1 (iblk m c 0 ⟨0, h⟩)
  | n + 1, h => k0_pay3 (sums c n (Nat.lt_of_succ_lt h)) (iblk m c 0 ⟨n + 1, h⟩)

/-- The greatest magnitudes after point `n`. -/
def peaks (c : Dev nD) : (n : ℕ) → n < cfg0.N → FVec F S1x8192 .f32
  | 0, h => k0_pay4 k0_pay2 (iblk m c 1 ⟨0, h⟩)
  | n + 1, h => k0_pay4 (peaks c n (Nat.lt_of_succ_lt h)) (iblk m c 1 ⟨n + 1, h⟩)

omit [FloatOps F] in
theorem lt63 {n : ℕ} (h : n < 63) : n < cfg0.N := lt_of_lt_of_eq (by omega) N_0.symm

/-- The accumulators after each point before the last. -/
theorem held (c : Dev nD) : ∀ (n : ℕ) (h : n < 63),
    (outsAt0 m c n (lt63 h)).2.2.1 = sums m c n (lt63 h) ∧ (outsAt0 m c n (lt63 h)).2.2.2 = peaks m c n (lt63 h)
  | 0, h => by
    rw [outsAt0_A m c ⟨0, lt63 h⟩ rfl (by dsimp only; omega)]
    dsimp only
    rw [sum_A, peak_A]
    exact ⟨rfl, rfl⟩
  | n + 1, h => by
    rw [outsAt0_B m c ⟨n + 1, lt63 h⟩ (by dsimp only; omega) (by dsimp only; omega)]
    obtain ⟨h0, h1⟩ := held c n (by omega)
    dsimp only
    rw [sum_B, peak_B]
    refine ⟨?_, ?_⟩
    · exact congrArg (fun z => k0_pay3 z _) h0
    · exact congrArg (fun z => k0_pay4 z _) h1

theorem lt_last : 63 < cfg0.N := lt_of_lt_of_eq (by omega) N_0.symm

/-- The first result: the sums of all points, as a mean. -/
theorem mean_all (c : Dev nD) : Cert.StatsIdeal.Value.G2 m c = k0_pay6 (sums m c 63 lt_last) := by
  rw [Cert.StatsIdeal.Value.G2_last, ← Cert.StatsIdeal.Value.outsAt0_sweep m c 63 lt_last,
    outsAt0_C m c ⟨63, lt_last⟩ (by dsimp only; omega) rfl]
  dsimp only
  rw [sum_C]
  exact congrArg (fun z => k0_pay6 (k0_pay3 z _)) (held m c 62 (by omega)).1

/-- The second result: the scales of the greatest magnitudes of all points. -/
theorem scale_all (c : Dev nD) : Cert.StatsIdeal.Value.G3 m c
    = k0_pay5 (k0_pay7 (peaks m c 63 lt_last)) (k0_pay8 (peaks m c 63 lt_last)) (k0_pay9 (peaks m c 63 lt_last)) 23#32 := by
  rw [Cert.StatsIdeal.Value.G3_last, ← Cert.StatsIdeal.Value.outsAt0_sweep m c 63 lt_last,
    outsAt0_C m c ⟨63, lt_last⟩ (by dsimp only; omega) rfl]
  dsimp only
  rw [peak_C]
  exact congrArg (fun z => k0_pay5 (k0_pay7 (k0_pay4 z _)) (k0_pay8 (k0_pay4 z _)) (k0_pay9 (k0_pay4 z _)) 23#32) (held m c 62 (by omega)).2

end Cert.StatsIdeal.Hand
-- ==== Proof.Stat.lean ====
/- The launch that gathers the mean of the keys and the scale of the values, at the extended reals: its vector operations read at
   an index, and its accumulators over all rows before a point's end. -/
module

public import proofs.«01_k».proof.Proof.Gathered
public import proofs.«01_k».proof.Proof.Equal
public import Idealize.ShloMosaic.Lib.Pipeline.ValueKit

@[expose] public section

set_option maxRecDepth 16384

noncomputable section

namespace Cert.StatsIdeal.Hand

open Cert.StatsIdeal Cert.StatsIdeal.Gen Cert.Lowp Idealize.ShloMosaic Idealize.ShloMosaic.TcCoe

variable (m : (ℓ : Loc nD τ sig) → Buf (Elt Ideal) ℓ) (c : Dev nD)

theorem pay1_read (q : Fin 8192) : k0_pay1 (F := Ideal) (ix2 0 q) = 0 := by
  refine Eq.trans ?_ ofBits_zero
  pointwise [k0_pay1]

theorem pay2_read (q : Fin 8192) : k0_pay2 (F := Ideal) (ix2 0 q) = 0 := by
  refine Eq.trans ?_ ofBits_zero
  pointwise [k0_pay2]

theorem pay3_read (a : FVec Ideal S1x8192 .f32) (x : FVec Ideal S256x8192 .bf16) (q : Fin 8192) :
    k0_pay3 a x (ix2 0 q) = a (ix2 0 q) + ∑ r : Fin 256, (x (ix2 r q) : EReal) := by
  pointwise [k0_pay3]

theorem pay4_read (a : FVec Ideal S1x8192 .f32) (x : FVec Ideal S256x8192 .bf16) (q : Fin 8192) :
    k0_pay4 a x (ix2 0 q) = max (a (ix2 0 q) : EReal)
      (Finset.fold max ninf (fun r : Fin 256 => FloatOps.absf (F := Ideal) (φ := .f32) (x (ix2 r q))) Finset.univ) := by
  pointwise [k0_pay4, ninf]

theorem pay6_read (a : FVec Ideal S1x8192 .f32) (q : Fin 8192) :
    k0_pay6 a (ix2 0 q) = (a (ix2 0 q) : EReal) * Ideal.ofBits .f32 0x38800000#32 := by
  pointwise [k0_pay6]

theorem pay7_read (a : FVec Ideal S1x8192 .f32) (q : Fin 8192) :
    k0_pay7 a (ix2 0 q) = (a (ix2 0 q) : EReal) * Ideal.ofBits .f32 991054117#32 := by
  pointwise [k0_pay7]

/-- One step of the search. -/
def step (r : FVec Ideal S1x8192 .f32) (f : IVec S1x8192 32) (b : BitVec 32) : IVec S1x8192 32 :=
  select (cmpf .oge r (bitcastToFloat .f32 (shli (addi f (broadcast S1x8192 b)) (broadcast S1x8192 23#32))))
    (addi f (broadcast S1x8192 b)) f

theorem step_read (r : FVec Ideal S1x8192 .f32) (f : IVec S1x8192 32) (b : BitVec 32) (j : S1x8192.Idx) :
    step r f b j = bitStep (r j) (f j) b := by
  pointwise [step, bitStep, pat]

/-- The whole search. -/
def found (r : FVec Ideal S1x8192 .f32) : IVec S1x8192 32 :=
  step r (step r (step r (step r (step r (step r (step r (step r (broadcast S1x8192 0#32) 128#32) 64#32) 32#32) 16#32)
    8#32) 4#32) 2#32) 1#32

theorem found_read (r : FVec Ideal S1x8192 .f32) (j : S1x8192.Idx) : found r j = field (r j) := by
  simp only [found, step_read, field, field6, field2]
  rfl

def power (r : FVec Ideal S1x8192 .f32) : IVec S1x8192 32 :=
  select (cmpi .eq (found r) (broadcast S1x8192 0#32)) (broadcast S1x8192 0#32) (subi (found r) (broadcast S1x8192 126#32))

theorem power_read (r : FVec Ideal S1x8192 .f32) (j : S1x8192.Idx) : power r j = expo (r j) := by
  pointwise [power, found_read, expo, expoOf]
  by_cases h : field (r j) = 0#32
  · simp [Scalar.select, IntOp.cmpi, h]
  · have hb : (field (r j) == 0#32) = false := by simpa using h
    simp [Scalar.select, IntOp.cmpi, h, hb]

def scaleOf (r : FVec Ideal S1x8192 .f32) : FVec Ideal S1x8192 .f32 :=
  bitcastToFloat .f32 (shli (addi (power r) (broadcast S1x8192 127#32)) (broadcast S1x8192 23#32))

theorem scaleOf_read (r : FVec Ideal S1x8192 .f32) (j : S1x8192.Idx) : scaleOf r j = up (r j) := by
  pointwise [scaleOf, power_read, up, pat]

theorem pay5_eq (a : FVec Ideal S1x8192 .f32) : k0_pay5 (F := Ideal) (k0_pay7 (F := Ideal) a) (k0_pay8 (F := Ideal) a) (k0_pay9 (F := Ideal) a) 23#32 = scaleOf (k0_pay7 a) := rfl

/-! ## The blocks -/

theorem index_rows (t : Fin cfg0.N) : win0_0.index t = ![t.val, 0] ∧ win0_1.index t = ![t.val, 0] := by
  revert t; decide +kernel

theorem emb0 (t : Fin cfg0.N) (r : Fin 256) (q : Fin 8192) (a : Fin 2) :
    ((((win0_0.blk t).view.emb (ix2 r q)) a : Fin _) : ℕ) = ![256 * t.val + r.val, q.val] a := by
  fin_cases a <;> blk_simp [(index_rows t).1] <;> simp <;> omega

theorem emb1 (t : Fin cfg0.N) (r : Fin 256) (q : Fin 8192) (a : Fin 2) :
    ((((win0_1.blk t).view.emb (ix2 r q)) a : Fin _) : ℕ) = ![256 * t.val + r.val, q.val] a := by
  fin_cases a <;> blk_simp [(index_rows t).2] <;> simp <;> omega

/-- An element of an array of 16384 rows, its row any number. -/
def elt (x : S16384x8192.Idx → EReal) (q : Fin 8192) (s : ℕ) : EReal := if h : s < 16384 then x (ix2 ⟨s, h⟩ q) else 0

theorem elt_fin (x : S16384x8192.Idx → EReal) (q : Fin 8192) (s : Fin 16384) : elt x q s.val = x (ix2 s q) := by
  unfold elt
  rw [dif_pos s.isLt]

theorem blk0_eq (n : ℕ) (h : n < cfg0.N) (r : Fin 256) (q : Fin 8192) :
    (iblk m c 0 ⟨n, h⟩ : S256x8192.Idx → EReal) (ix2 r q) = elt (m ((c.tc : Thread nD τ).loc main_arg0)) q (256 * n + r.val) := by
  have h64 : n < 64 := lt_of_lt_of_eq h N_0
  unfold elt iblk
  rw [dif_pos (by omega)]
  blk_simp []
  refine congrArg (m ((c.tc : Thread nD τ).loc main_arg0) : S16384x8192.Idx → EReal) (funext fun a => Fin.ext ?_)
  rw [emb0]
  fin_cases a <;> rfl

theorem blk1_eq (n : ℕ) (h : n < cfg0.N) (r : Fin 256) (q : Fin 8192) :
    (iblk m c 1 ⟨n, h⟩ : S256x8192.Idx → EReal) (ix2 r q) = elt (m ((c.tc : Thread nD τ).loc main_arg1)) q (256 * n + r.val) := by
  have h64 : n < 64 := lt_of_lt_of_eq h N_0
  unfold elt iblk
  rw [dif_pos (by omega)]
  blk_simp []
  refine congrArg (m ((c.tc : Thread nD τ).loc main_arg1) : S16384x8192.Idx → EReal) (funext fun a => Fin.ext ?_)
  rw [emb1]
  fin_cases a <;> rfl

/-! ## The accumulators -/

/-- The sums after a point are over the rows so far. -/
theorem sums_read (q : Fin 8192) : ∀ (n : ℕ) (h : n < cfg0.N),
    sums m c n h (ix2 0 q) = ∑ s ∈ Finset.range (256 * n + 256), elt (m ((c.tc : Thread nD τ).loc main_arg0)) q s
  | 0, h => by
    rw [sums, pay3_read, pay1_read, zero_add, Finset.sum_range]
    exact Finset.sum_congr rfl fun r _ => (blk0_eq m c 0 h r q).trans (congrArg _ (Nat.zero_add _))
  | n + 1, h => by
    rw [sums, pay3_read, sums_read q n, Finset.sum_range_add _ (256 * (n + 1)) 256, Finset.sum_range (fun x => elt _ q (256 * (n + 1) + x))]
    refine congrArg₂ (· + ·) rfl (Finset.sum_congr rfl fun r _ => blk0_eq m c (n + 1) h r q)

/-- The greatest magnitudes after a point are those of 0 and of the rows so far. -/
theorem peaks_read (q : Fin 8192) (x : EReal) : ∀ (n : ℕ) (h : n < cfg0.N),
    peaks m c n h (ix2 0 q) ≤ x ↔ 0 ≤ x ∧ ∀ s < 256 * n + 256,
      FloatOps.absf (F := Ideal) (φ := .f32) (elt (m ((c.tc : Thread nD τ).loc main_arg1)) q s) ≤ x
  | 0, h => by
    rw [peaks, pay4_read, pay2_read, max_le_iff, Finset.fold_max_le, ninf_eq]
    refine and_congr Iff.rfl ⟨fun hh s hs => ?_, fun hh => ⟨bot_le, fun r _ => ?_⟩⟩
    · have e := hh.2 ⟨s, by omega⟩ (Finset.mem_univ _)
      rw [blk1_eq] at e
      simpa using e
    · rw [blk1_eq]
      exact hh _ (by omega)
  | n + 1, h => by
    rw [peaks, pay4_read, max_le_iff, peaks_read q x n, Finset.fold_max_le, ninf_eq]
    constructor
    · rintro ⟨⟨h0, h1⟩, -, h2⟩
      refine ⟨h0, fun s hs => ?_⟩
      by_cases hlt : s < 256 * n + 256
      · exact h1 s hlt
      · have e := h2 ⟨s - 256 * (n + 1), by omega⟩ (Finset.mem_univ _)
        rw [blk1_eq] at e
        rwa [show 256 * (n + 1) + (s - 256 * (n + 1)) = s by omega] at e
    · rintro ⟨h0, h1⟩
      refine ⟨⟨h0, fun s hs => h1 s (by omega)⟩, bot_le, fun r _ => ?_⟩
      rw [blk1_eq]
      exact h1 _ (by omega)

/-- The sum of a column. -/
def total (x : S16384x8192.Idx → EReal) (q : Fin 8192) : EReal := ∑ s : Fin 16384, x (ix2 s q)

/-- The greatest magnitude of a column. -/
def peak (x : S16384x8192.Idx → EReal) (q : Fin 8192) : EReal :=
  Finset.fold max ninf (fun s : Fin 16384 => FloatOps.absf (F := Ideal) (φ := .f32) (x (ix2 s q))) Finset.univ

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.2 h)

/-- All rows: the sums. -/
theorem sums_all (q : Fin 8192) : sums m c 63 lt_last (ix2 0 q)
    = total (m ((c.tc : Thread nD τ).loc main_arg0)) q := by
  rw [sums_read]
  refine (Finset.sum_range _).trans ?_
  exact Finset.sum_congr rfl fun s _ => elt_fin _ q s

/-- All rows: the greatest magnitudes. -/
theorem peaks_all (q : Fin 8192) : peaks m c 63 lt_last (ix2 0 q) = peak (m ((c.tc : Thread nD τ).loc main_arg1)) q := by
  refine eq_of_forall_ge_iff fun x => ?_
  rw [peaks_read, peak, Finset.fold_max_le, ninf_eq]
  constructor
  · rintro ⟨h0, h1⟩
    refine ⟨bot_le, fun s _ => ?_⟩
    have e := h1 s.val (by omega)
    rwa [elt_fin] at e
  · rintro ⟨-, h1⟩
    refine ⟨(absf_nonneg _).trans (h1 0 (Finset.mem_univ _)), fun s hs => ?_⟩
    have e := h1 ⟨s, by omega⟩ (Finset.mem_univ _)
    exact le_of_eq_of_le (congrArg _ (elt_fin _ q ⟨s, by omega⟩)) e

/-- The scale of a column of finite numbers: the kernel's is the reference's. -/
theorem scale_eq (x : S16384x8192.Idx → EReal) (q : Fin 8192) (h : ∀ s, Fin' big (x (ix2 s q))) :
    up (peak x q * Ideal.ofBits .f32 991054117#32) = Cert.AttendRefIdeal.Hand.rup (peak x q * Ideal.ofBits .f32 991054117#32) := by
  obtain ⟨k, hk, k0, k1⟩ := ofBits_448
  obtain ⟨h0, h1⟩ := fold_fin (n := 16383) (fun s => FloatOps.absf (F := Ideal) (φ := .f32) (x (ix2 s q))) fun s => absf_fin (h s)
  change 0 ≤ peak x q at h0
  change peak x q ≤ _ at h1
  generalize peak x q = p at *
  induction p using EReal.rec with
  | bot => exact absurd h0 (by simp)
  | top => exact absurd h1 (not_le.2 (EReal.coe_lt_top _))
  | coe p =>
    rw [EReal.coe_le_coe_iff] at h1
    rw [← EReal.coe_zero, EReal.coe_le_coe_iff] at h0
    rw [hk, ← EReal.coe_mul, rup_real, (scales (p * k) ?_).1]
    unfold big at h1
    calc p * k ≤ (2 : ℝ) ^ (128 : ℤ) * (2 : ℝ) ^ (-8 : ℤ) := by gcongr
      _ < (2 : ℝ) ^ (125 : ℤ) := by norm_num

theorem div_rows (x : EReal) : Ideal.div x (Ideal.ofBits .f32 0x46800000#32) = x * Ideal.ofBits .f32 0x38800000#32 := by
  have e1 : Ideal.ofBits .f32 0x46800000#32 = (((2 : ℝ) ^ (14 : ℤ) : ℝ) : EReal) := pat_ofNat 141 (by omega) (by omega)
  have e2 : Ideal.ofBits .f32 0x38800000#32 = (((2 : ℝ) ^ (-14 : ℤ) : ℝ) : EReal) := pat_ofNat 113 (by omega) (by omega)
  rw [e1, e2, Ideal.div, if_neg (by norm_num), ← EReal.coe_inv]
  norm_num

/-- The mean of a column. -/
def avg (x : S16384x8192.Idx → EReal) (q : Fin 8192) : EReal := total x q * Ideal.ofBits .f32 0x38800000#32

theorem row_only (i : S1x8192.Idx) : i = ix2 0 (i 1) := by
  funext a
  fin_cases a
  · exact Subsingleton.elim (α := Fin 1) _ _
  · rfl

/-- The first result, index by index. -/
theorem mean_read : Cert.StatsIdeal.Value.G2 m c = fun i : S1x8192.Idx => avg (m ((c.tc : Thread nD τ).loc main_arg0)) (i 1) := by
  rw [mean_all]
  funext i
  rw [row_only i]
  exact (pay6_read _ _).trans (congrArg (fun z : EReal => z * _) (sums_all m c _))

/-- The second result, index by index. -/
theorem scale_read : Cert.StatsIdeal.Value.G3 m c
    = fun i : S1x8192.Idx => up (peak (m ((c.tc : Thread nD τ).loc main_arg1)) (i 1) * Ideal.ofBits .f32 991054117#32) := by
  rw [scale_all, pay5_eq]
  funext i
  have e : ∀ q : Fin 8192, scaleOf (k0_pay7 (peaks m c 63 lt_last)) (ix2 0 q)
      = up (peak (m ((c.tc : Thread nD τ).loc main_arg1)) q * Ideal.ofBits .f32 991054117#32) := fun q => by
    rw [scaleOf_read, pay7_read, peaks_all]
  rw [row_only i]
  exact e (i 1)

end Cert.StatsIdeal.Hand
-- ==== Proof.Stated.lean ====
/- The mean of the keys and the scale of the values: the reference's results read, and the claims of the launch that gathers them. -/
module

public import proofs.«01_k».proof.Defs
public import proofs.«01_k».proof.Proof.Stat
public import proofs.«01_k».proof.Proof.Gen.Stats.Frame
public import proofs.«01_k».proof.Proof.Gen.StatsRefIdeal.Run
public import proofs.«01_k».proof.Proof.Gen.Pre_finite_v
public import Idealize.ShloMosaic.Lib.Quiescent

@[expose] public section

set_option maxRecDepth 16384

noncomputable section

namespace Cert.StatsRefIdeal.Hand

open Cert.StatsRefIdeal Cert.StatsRefIdeal.Gen Cert.Lowp Idealize.ShloMosaic Idealize.ShloMosaic.TcCoe
open Cert.AttendRefIdeal.Hand (by_pred eref rexp rup expo_at pow_at)
open Cert.StatsIdeal.Hand (total avg peak div_rows scale_eq row_only)

/-- The sum over the rows, divided. -/
theorem mean_at (x : FVec Ideal S16384x8192 .bf16) (q : Fin 8192) :
    extf .f32 (truncf .bf16 (Host.divf (broadcastInDim S1x8192 ![1] bcast_S8192_S1x8192_1
        (Host.reduceAdd (extf .f32 x bitsLt_bf16_f32) (constant S_ .f32 0x00000000#32) reducesTo_S16384x8192_S8192_d0 h_S_))
      (broadcastInDim S1x8192 ![] bcast_S_S1x8192 (constant S_ .f32 0x46800000#32))) bitsLt_bf16_f32) bitsLt_bf16_f32 (ix2 0 q)
      = avg x q := by
  refine Eq.trans ?_ (div_rows (total x q))
  refine by_pred fun P hP => ?_
  pointwise []
  exact hP

/-- The greatest magnitude over the rows. -/
theorem peak_red (x : FVec Ideal S16384x8192 .bf16) (q : Fin 8192) :
    Host.reduce (α := Ideal .f32) FloatOps.maximumf (Host.absf (extf .f32 x bitsLt_bf16_f32)) (constant (F := Ideal) S_ .f32 0xFF800000#32)
      reducesTo_S16384x8192_S8192_d0 h_S_ (ix1 q) = peak x q := by
  unfold peak ninf
  refine by_pred fun P hP => ?_
  pointwise []
  exact hP

/-- A row, by a constant. -/
theorem quo_at (y : FVec Ideal S8192 .f32) (b : BitVec 32) (q : Fin 8192) :
    mulf (broadcastInDim S1x8192 ![1] bcast_S8192_S1x8192_1 y) (broadcastInDim S1x8192 ![] bcast_S_S1x8192 (constant S_ .f32 b)) (ix2 0 q)
      = y (ix1 q) * Ideal.ofBits .f32 b := by
  refine by_pred fun P hP => ?_
  pointwise []
  exact hP

/-- The scale of a row, from the quotient that the reference takes of it. -/
theorem scale_at (r : FVec Ideal S1x8192 .f32) (q : Fin 8192) :
    Host.powf (broadcastInDim S1x8192 ![] bcast_S_S1x8192 (constant S_ .f32 0x40000000#32))
      (select (cmpf .olt r (broadcastInDim S1x8192 ![] bcast_S_S1x8192 (constant S_ .f32 0x00800000#32)))
        (broadcastInDim S1x8192 ![] bcast_S_S1x8192 (id (constant S_ .f32 0x00000000#32)))
        (addf (Host.floor (Host.divf (Host.log r) (broadcastInDim S1x8192 ![] bcast_S_S1x8192 (Host.log (constant S_ .f32 0x40000000#32)))))
          (broadcastInDim S1x8192 ![] bcast_S_S1x8192 (constant S_ .f32 0x3F800000#32)))) (ix2 0 q) = rup (r (ix2 0 q)) :=
  (pow_at _ _ _ _).trans (congrArg (Ideal.pow _) (expo_at _ _ _ _ _ _ _))

/-- The first result of a matrix of keys. -/
theorem mean_fun (x : FVec Ideal S16384x8192 .bf16) :
    extf .f32 (truncf .bf16 (Host.divf (broadcastInDim S1x8192 ![1] bcast_S8192_S1x8192_1
        (Host.reduceAdd (extf .f32 x bitsLt_bf16_f32) (constant S_ .f32 0x00000000#32) reducesTo_S16384x8192_S8192_d0 h_S_))
      (broadcastInDim S1x8192 ![] bcast_S_S1x8192 (constant S_ .f32 0x46800000#32))) bitsLt_bf16_f32) bitsLt_bf16_f32
      = fun i : S1x8192.Idx => avg x (i 1) := by
  funext i
  rw [row_only i]
  exact mean_at x (i 1)

/-- The quotient that the reference takes of each column. -/
def quoV (x : FVec Ideal S16384x8192 .bf16) : FVec Ideal S1x8192 .f32 :=
  mulf (broadcastInDim S1x8192 ![1] bcast_S8192_S1x8192_1
      (Host.reduce (α := Ideal .f32) FloatOps.maximumf (Host.absf (extf .f32 x bitsLt_bf16_f32)) (constant S_ .f32 0xFF800000#32) reducesTo_S16384x8192_S8192_d0 h_S_))
    (broadcastInDim S1x8192 ![] bcast_S_S1x8192 (constant S_ .f32 0x3B124925#32))

theorem quoV_read (x : FVec Ideal S16384x8192 .bf16) (q : Fin 8192) : quoV x (ix2 0 q) = peak x q * Ideal.ofBits .f32 991054117#32 :=
  (quo_at _ _ q).trans (congrArg (fun z : EReal => z * Ideal.ofBits .f32 991054117#32) (peak_red x q))

/-- The second result of a matrix of finite values. -/
theorem scale_fun (x : FVec Ideal S16384x8192 .bf16) (h : ∀ i, Fin' big (x i)) :
    Host.powf (broadcastInDim S1x8192 ![] bcast_S_S1x8192 (constant S_ .f32 0x40000000#32))
      (select (cmpf .olt (quoV x) (broadcastInDim S1x8192 ![] bcast_S_S1x8192 (constant S_ .f32 0x00800000#32)))
        (broadcastInDim S1x8192 ![] bcast_S_S1x8192 (id (constant S_ .f32 0x00000000#32)))
        (addf (Host.floor (Host.divf (Host.log (quoV x)) (broadcastInDim S1x8192 ![] bcast_S_S1x8192 (Host.log (constant S_ .f32 0x40000000#32)))))
          (broadcastInDim S1x8192 ![] bcast_S_S1x8192 (constant S_ .f32 0x3F800000#32))))
      = fun i : S1x8192.Idx => up (peak x (i 1) * Ideal.ofBits .f32 991054117#32) := by
  have e : ∀ q : Fin 8192, rup (quoV x (ix2 0 q)) = up (peak x q * Ideal.ofBits .f32 991054117#32) := fun q => by
    rw [quoV_read, scale_eq x q fun s => h _]
  funext i
  rw [row_only i]
  exact (scale_at (quoV x) (i 1)).trans (e (i 1))

end Cert.StatsRefIdeal.Hand

namespace Cert.Pre_finite_v

open Idealize.ShloMosaic Cert.Lowp Cert.Pre_finite_v.Gen

attribute [local instance] Cert.Pre_finite_v.Gen.facts

/-- What the precondition says, element by element. -/
theorem fn_finite (K W : FVec Ideal S16384x8192 .bf16) (h : fn (F := Ideal) K W = fun _ => 1#1) : ∀ i, Fin' big (W i) := by
  have h0 := congrFun h ix0
  haveI : Subsingleton S_.Idx := ⟨fun a b => funext fun i => i.elim0⟩
  exact fun i => fin_of_cmp (Host.reduce_andi_all _ _ _ _ _ h0 i)

end Cert.Pre_finite_v

namespace Cert.Proof

open Idealize.ShloMosaic Idealize.ShloMosaic.TcCoe
open Cert.StatsIdeal.Hand (avg peak scale_eq row_only)

theorem frame_s : Cert.quiescent_Stats := fun m g _ => Cert.Stats.Gen.frame m g

theorem frame_si : Cert.quiescent_StatsIdeal := fun m g _ => Cert.StatsIdeal.Gen.frame m g

theorem frame_si_pre : Cert.quiescent_StatsIdeal_pre_finite_v := fun m g _ => Cert.StatsIdeal.Gen.frame m g

theorem frame_ti : Cert.quiescent_StatsRefIdeal := fun m g _ =>
  (θ_run Cert.StatsRefIdeal.defs _ _).mono (fun r h => ⟨fun c => (h c).2.2, sem_eq_zero_of_no_sems (by decide) r.2⟩)
    (Cert.StatsRefIdeal.Value.run (F := Ideal) m g)

theorem frame_ti_pre : Cert.quiescent_StatsRefIdeal_pre_finite_v := fun m g _ => frame_ti m g trivial

theorem preserves_stats : Cert.preserves_Stats_StatsIdeal := trivial

theorem algebraic_stats : Cert.algebraic_StatsIdeal_StatsRefIdeal_pre_finite_v := by
  intro m g m' g' hpre hag
  refine ⟨fun c => Cert.StatsIdeal.Value.G2 m c, fun c => Cert.StatsIdeal.Value.G3 m c, Cert.StatsIdeal.Value.run m g, ?_⟩
  refine (θ_run Cert.StatsRefIdeal.defs _ _).mono (fun r h c => ?_) (Cert.StatsRefIdeal.Value.run (F := Ideal) m' g')
  obtain ⟨h0, h1, ha⟩ := h c
  refine ⟨h0.trans ?_, h1.trans ?_, ha⟩
  · rw [(hag c).1]
    exact (Cert.StatsRefIdeal.Hand.mean_fun _).trans (Cert.StatsIdeal.Hand.mean_read m c).symm
  · rw [(hag c).2]
    exact (Cert.StatsRefIdeal.Hand.scale_fun _ (Cert.Pre_finite_v.fn_finite _ _ (hpre c))).trans (Cert.StatsIdeal.Hand.scale_read m c).symm

end Cert.Proof
-- ==== Proof.lean ====
/- The claim: assembled from the modules under Proof/. -/
module

public import proofs.«01_k».proof.Defs
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendRefIdeal
public import proofs.«01_k».proof.Proof.Gen.AttendRefIdeal.Run
public import proofs.«01_k».proof.Proof.Gen.Pre_finite
public import proofs.«01_k».proof.Proof.Gen.Stats
public import proofs.«01_k».proof.Proof.Gen.Stats.Skeleton
public import proofs.«01_k».proof.Proof.Gen.Stats.Launch
public import proofs.«01_k».proof.Proof.Gen.Stats.Points
public import proofs.«01_k».proof.Proof.Gen.Stats.Frame
public import proofs.«01_k».proof.Proof.Gen.StatsIdeal
public import proofs.«01_k».proof.Proof.Gen.StatsIdeal.Skeleton
public import proofs.«01_k».proof.Proof.Gen.StatsIdeal.Launch
public import proofs.«01_k».proof.Proof.Gen.StatsIdeal.Points
public import proofs.«01_k».proof.Proof.Gen.StatsIdeal.Frame
public import proofs.«01_k».proof.Proof.Gen.StatsIdeal.Value
public import proofs.«01_k».proof.Proof.Gen.StatsRefIdeal
public import proofs.«01_k».proof.Proof.Gen.StatsRefIdeal.Run
public import proofs.«01_k».proof.Proof.Gen.Pre_finite_v
public import proofs.«01_k».proof.Proof.Agree
public import proofs.«01_k».proof.Proof.Stated
public import Idealize.ShloMosaic.Adequacy
public import Idealize.ShloMosaic.Init

@[expose] public section

noncomputable section

namespace Cert.Proof

theorem claim : Cert.Claim :=
  ⟨Cert.Attend.Gen.facts, Cert.AttendIdeal.Gen.facts, Cert.AttendRefIdeal.Gen.facts,
    Cert.Stats.Gen.facts, Cert.StatsIdeal.Gen.facts, Cert.StatsRefIdeal.Gen.facts, Cert.Pre_finite.Gen.facts, Cert.Pre_finite_v.Gen.facts,
    frame_p, frame_pi, frame_pi_pre, frame_ri, frame_ri_pre, frame_s, frame_si, frame_si_pre, frame_ti, frame_ti_pre,
    preserves, algebraic, preserves_stats, algebraic_stats⟩

end Cert.Proof
